-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S512x1024 .f32) (main_arg1 : FVec F S1024x8192 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  main_v8
-- ==== Pre_finite_inputs_ReferenceIdeal.lean ====
abbrev S512x1024 : Shape := ⟨2, ![512, 1024]⟩
abbrev S1024x16384 : Shape := ⟨2, ![1024, 16384]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S512x1024 .f32) (main_arg1 : FVec F S1024x16384 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  main_v8
-- ==== Kernel.lean ====
abbrev S512x1024 : Shape := ⟨2, ![512, 1024]⟩
abbrev S1024x8192 : Shape := ⟨2, ![1024, 8192]⟩
abbrev S512x16384 : Shape := ⟨2, ![512, 16384]⟩
abbrev S16x512x512 : Shape := ⟨3, ![16, 512, 512]⟩
abbrev S2x1024x512 : Shape := ⟨3, ![2, 1024, 512]⟩
abbrev S4x512x512 : Shape := ⟨3, ![4, 512, 512]⟩
abbrev S512x8 : Shape := ⟨2, ![512, 8]⟩
abbrev S2 : Shape := ⟨1, ![2]⟩
abbrev S4 : Shape := ⟨1, ![4]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 3
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .bf16⟩
  | .local _ .vmem, ⟨0, _⟩ => ⟨S512x1024, .f32⟩
  | .local _ .vmem, ⟨1, _⟩ => ⟨S16x512x512, .bf16⟩
  | .local _ .vmem, ⟨2, _⟩ => ⟨S16x512x512, .bf16⟩
  | .local _ .vmem, ⟨3, _⟩ => ⟨S2x1024x512, .f32⟩
  | .local _ .vmem, ⟨4, _⟩ => ⟨S4x512x512, .bf16⟩
  | .local _ .vmem, ⟨5, _⟩ => ⟨S512x8, .f32⟩
  | .local _ .vmem, ⟨6, _⟩ => ⟨S512x8, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v28 : BitVec 32 := Scalar.muli v2 c4_i32_17
  let v29 : BitVec 32 := Scalar.addi c0_i32 v28
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_18 : BitVec 32 := 2#32
  let v30 : BitVec 32 := Scalar.muli v9 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_21 : BitVec 32 := 4#32
  let v34 : BitVec 32 := Scalar.muli v10 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_cond1 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_123 : BitVec 32 := 0#32
  let v142 : BitVec 1 := Scalar.cmpi .eq v16 c0_i32_123
  let v143 : BitVec 32 := Scalar.extui v142
  let c0_i32_126 : BitVec 32 := 0#32
  let v144 : BitVec 1 := Scalar.cmpi .ne v143 c0_i32_126
  v144

def k0_off1 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_33 : BitVec 32 := 4#32
  let v51 : BitVec 32 := Scalar.muli v16 c4_i32_33
  let c0_i32_34 : BitVec 32 := 0#32
  let v52 : BitVec 32 := Scalar.addi v51 c0_i32_34
  let c0_i32_1522 : BitVec 32 := 0#32
  let c0_i32_1523 : BitVec 32 := 0#32
  ![v52.toNat, 0, 0]
def k0_dev4 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond2 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1_i32_144 : BitVec 32 := 1#32
  let v165 : BitVec 1 := Scalar.cmpi .eq v16 c1_i32_144
  let v166 : BitVec 32 := Scalar.extui v165
  let c0_i32_147 : BitVec 32 := 0#32
  let v167 : BitVec 1 := Scalar.cmpi .ne v166 c0_i32_147
  v167

def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_33 : BitVec 32 := 4#32
  let v51 : BitVec 32 := Scalar.muli v16 c4_i32_33
  let c0_i32_34 : BitVec 32 := 0#32
  let v52 : BitVec 32 := Scalar.addi v51 c0_i32_34
  let c0_i32_1522 : BitVec 32 := 0#32
  let c0_i32_1523 : BitVec 32 := 0#32
  ![v52.toNat, 0, 0]
def k0_dev5 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond3 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2_i32_166 : BitVec 32 := 2#32
  let v188 : BitVec 1 := Scalar.cmpi .eq v16 c2_i32_166
  let v189 : BitVec 32 := Scalar.extui v188
  let c0_i32_169 : BitVec 32 := 0#32
  let v190 : BitVec 1 := Scalar.cmpi .ne v189 c0_i32_169
  v190

def k0_off3 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_33 : BitVec 32 := 4#32
  let v51 : BitVec 32 := Scalar.muli v16 c4_i32_33
  let c0_i32_34 : BitVec 32 := 0#32
  let v52 : BitVec 32 := Scalar.addi v51 c0_i32_34
  let c0_i32_1522 : BitVec 32 := 0#32
  let c0_i32_1523 : BitVec 32 := 0#32
  ![v52.toNat, 0, 0]
def k0_dev6 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond4 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c3_i32_188 : BitVec 32 := 3#32
  let v211 : BitVec 1 := Scalar.cmpi .eq v16 c3_i32_188
  let v212 : BitVec 32 := Scalar.extui v211
  let c0_i32_191 : BitVec 32 := 0#32
  let v213 : BitVec 1 := Scalar.cmpi .ne v212 c0_i32_191
  v213

def k0_off4 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_33 : BitVec 32 := 4#32
  let v51 : BitVec 32 := Scalar.muli v16 c4_i32_33
  let c0_i32_34 : BitVec 32 := 0#32
  let v52 : BitVec 32 := Scalar.addi v51 c0_i32_34
  let c0_i32_1522 : BitVec 32 := 0#32
  let c0_i32_1523 : BitVec 32 := 0#32
  ![v52.toNat, 0, 0]
def k0_dev7 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond5 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_211 : BitVec 32 := 0#32
  let v234 : BitVec 1 := Scalar.cmpi .eq v16 c0_i32_211
  let v235 : BitVec 32 := Scalar.extui v234
  let c0_i32_214 : BitVec 32 := 0#32
  let v236 : BitVec 1 := Scalar.cmpi .ne v235 c0_i32_214
  v236

def k0_off5 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_37 : BitVec 32 := 4#32
  let v55 : BitVec 32 := Scalar.muli v16 c4_i32_37
  let c1_i32_38 : BitVec 32 := 1#32
  let v56 : BitVec 32 := Scalar.addi v55 c1_i32_38
  let c0_i32_1522 : BitVec 32 := 0#32
  let c0_i32_1523 : BitVec 32 := 0#32
  ![v56.toNat, 0, 0]
def k0_dev8 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond6 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1_i32_233 : BitVec 32 := 1#32
  let v257 : BitVec 1 := Scalar.cmpi .eq v16 c1_i32_233
  let v258 : BitVec 32 := Scalar.extui v257
  let c0_i32_236 : BitVec 32 := 0#32
  let v259 : BitVec 1 := Scalar.cmpi .ne v258 c0_i32_236
  v259

def k0_off6 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_37 : BitVec 32 := 4#32
  let v55 : BitVec 32 := Scalar.muli v16 c4_i32_37
  let c1_i32_38 : BitVec 32 := 1#32
  let v56 : BitVec 32 := Scalar.addi v55 c1_i32_38
  let c0_i32_1522 : BitVec 32 := 0#32
  let c0_i32_1523 : BitVec 32 := 0#32
  ![v56.toNat, 0, 0]
def k0_dev9 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond7 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2_i32_255 : BitVec 32 := 2#32
  let v280 : BitVec 1 := Scalar.cmpi .eq v16 c2_i32_255
  let v281 : BitVec 32 := Scalar.extui v280
  let c0_i32_258 : BitVec 32 := 0#32
  let v282 : BitVec 1 := Scalar.cmpi .ne v281 c0_i32_258
  v282

def k0_off7 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_37 : BitVec 32 := 4#32
  let v55 : BitVec 32 := Scalar.muli v16 c4_i32_37
  let c1_i32_38 : BitVec 32 := 1#32
  let v56 : BitVec 32 := Scalar.addi v55 c1_i32_38
  let c0_i32_1522 : BitVec 32 := 0#32
  let c0_i32_1523 : BitVec 32 := 0#32
  ![v56.toNat, 0, 0]
def k0_dev10 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond8 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c3_i32_277 : BitVec 32 := 3#32
  let v303 : BitVec 1 := Scalar.cmpi .eq v16 c3_i32_277
  let v304 : BitVec 32 := Scalar.extui v303
  let c0_i32_280 : BitVec 32 := 0#32
  let v305 : BitVec 1 := Scalar.cmpi .ne v304 c0_i32_280
  v305

def k0_off8 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_37 : BitVec 32 := 4#32
  let v55 : BitVec 32 := Scalar.muli v16 c4_i32_37
  let c1_i32_38 : BitVec 32 := 1#32
  let v56 : BitVec 32 := Scalar.addi v55 c1_i32_38
  let c0_i32_1522 : BitVec 32 := 0#32
  let c0_i32_1523 : BitVec 32 := 0#32
  ![v56.toNat, 0, 0]
def k0_dev11 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond9 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_299 : BitVec 32 := 0#32
  let v326 : BitVec 1 := Scalar.cmpi .eq v16 c0_i32_299
  let v327 : BitVec 32 := Scalar.extui v326
  let c0_i32_302 : BitVec 32 := 0#32
  let v328 : BitVec 1 := Scalar.cmpi .ne v327 c0_i32_302
  v328

def k0_off9 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_41 : BitVec 32 := 4#32
  let v59 : BitVec 32 := Scalar.muli v16 c4_i32_41
  let c2_i32_42 : BitVec 32 := 2#32
  let v60 : BitVec 32 := Scalar.addi v59 c2_i32_42
  let c0_i32_1522 : BitVec 32 := 0#32
  let c0_i32_1523 : BitVec 32 := 0#32
  ![v60.toNat, 0, 0]
def k0_dev12 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_off10 (d0 : Dev nD) (c0_i32_34 : BitVec 32) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_33 : BitVec 32 := 4#32
  let v51 : BitVec 32 := Scalar.muli v16 c4_i32_33
  let v52 : BitVec 32 := Scalar.addi v51 c0_i32_34
  let c0_i32_309 : BitVec 32 := 0#32
  let c0_i32_310 : BitVec 32 := 0#32
  ![v52.toNat, 0, 0]
def k0_dev13 (d0 : Dev nD) : Nat :=
  let c0_i32_316 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_315 : BitVec 32 := 4#32
  let v341 : BitVec 32 := Scalar.muli v10 c4_i32_315
  let v342 : BitVec 32 := Scalar.addi c0_i32_316 v341
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v343 : BitVec 32 := Scalar.muli v5 c2_i32_317
  let v344 : BitVec 32 := Scalar.addi v342 v343
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_318 : BitVec 32 := 1#32
  let v345 : BitVec 32 := Scalar.muli v8 c1_i32_318
  let v346 : BitVec 32 := Scalar.addi v344 v345
  v346.toNat
def k0_dev14 (d0 : Dev nD) : Nat :=
  let c0_i32_326 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_325 : BitVec 32 := 4#32
  let v355 : BitVec 32 := Scalar.muli v2 c4_i32_325
  let v356 : BitVec 32 := Scalar.addi c0_i32_326 v355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_327 : BitVec 32 := 2#32
  let v357 : BitVec 32 := Scalar.muli v5 c2_i32_327
  let v358 : BitVec 32 := Scalar.addi v356 v357
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_328 : BitVec 32 := 1#32
  let v359 : BitVec 32 := Scalar.muli v11 c1_i32_328
  let v360 : BitVec 32 := Scalar.addi v358 v359
  v360.toNat
def k0_cond10 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1_i32_351 : BitVec 32 := 1#32
  let v389 : BitVec 1 := Scalar.cmpi .eq v16 c1_i32_351
  let v390 : BitVec 32 := Scalar.extui v389
  let c0_i32_354 : BitVec 32 := 0#32
  let v391 : BitVec 1 := Scalar.cmpi .ne v390 c0_i32_354
  v391

def k0_off11 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_41 : BitVec 32 := 4#32
  let v59 : BitVec 32 := Scalar.muli v16 c4_i32_41
  let c2_i32_42 : BitVec 32 := 2#32
  let v60 : BitVec 32 := Scalar.addi v59 c2_i32_42
  let c0_i32_1522 : BitVec 32 := 0#32
  let c0_i32_1523 : BitVec 32 := 0#32
  ![v60.toNat, 0, 0]
def k0_dev15 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond11 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2_i32_373 : BitVec 32 := 2#32
  let v412 : BitVec 1 := Scalar.cmpi .eq v16 c2_i32_373
  let v413 : BitVec 32 := Scalar.extui v412
  let c0_i32_376 : BitVec 32 := 0#32
  let v414 : BitVec 1 := Scalar.cmpi .ne v413 c0_i32_376
  v414

def k0_off12 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_41 : BitVec 32 := 4#32
  let v59 : BitVec 32 := Scalar.muli v16 c4_i32_41
  let c2_i32_42 : BitVec 32 := 2#32
  let v60 : BitVec 32 := Scalar.addi v59 c2_i32_42
  let c0_i32_1522 : BitVec 32 := 0#32
  let c0_i32_1523 : BitVec 32 := 0#32
  ![v60.toNat, 0, 0]
def k0_dev16 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond12 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c3_i32_395 : BitVec 32 := 3#32
  let v435 : BitVec 1 := Scalar.cmpi .eq v16 c3_i32_395
  let v436 : BitVec 32 := Scalar.extui v435
  let c0_i32_398 : BitVec 32 := 0#32
  let v437 : BitVec 1 := Scalar.cmpi .ne v436 c0_i32_398
  v437

def k0_off13 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_41 : BitVec 32 := 4#32
  let v59 : BitVec 32 := Scalar.muli v16 c4_i32_41
  let c2_i32_42 : BitVec 32 := 2#32
  let v60 : BitVec 32 := Scalar.addi v59 c2_i32_42
  let c0_i32_1522 : BitVec 32 := 0#32
  let c0_i32_1523 : BitVec 32 := 0#32
  ![v60.toNat, 0, 0]
def k0_dev17 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond13 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_417 : BitVec 32 := 0#32
  let v458 : BitVec 1 := Scalar.cmpi .eq v16 c0_i32_417
  let v459 : BitVec 32 := Scalar.extui v458
  let c0_i32_420 : BitVec 32 := 0#32
  let v460 : BitVec 1 := Scalar.cmpi .ne v459 c0_i32_420
  v460

def k0_off14 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_45 : BitVec 32 := 4#32
  let v63 : BitVec 32 := Scalar.muli v16 c4_i32_45
  let c3_i32_46 : BitVec 32 := 3#32
  let v64 : BitVec 32 := Scalar.addi v63 c3_i32_46
  let c0_i32_1522 : BitVec 32 := 0#32
  let c0_i32_1523 : BitVec 32 := 0#32
  ![v64.toNat, 0, 0]
def k0_dev18 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_dev19 (d0 : Dev nD) : Nat :=
  let c0_i32_434 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_433 : BitVec 32 := 4#32
  let v473 : BitVec 32 := Scalar.muli v10 c4_i32_433
  let v474 : BitVec 32 := Scalar.addi c0_i32_434 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_435 : BitVec 32 := 2#32
  let v475 : BitVec 32 := Scalar.muli v5 c2_i32_435
  let v476 : BitVec 32 := Scalar.addi v474 v475
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_436 : BitVec 32 := 1#32
  let v477 : BitVec 32 := Scalar.muli v8 c1_i32_436
  let v478 : BitVec 32 := Scalar.addi v476 v477
  v478.toNat
def k0_dev20 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_443 : BitVec 32 := 4#32
  let v487 : BitVec 32 := Scalar.muli v2 c4_i32_443
  let v488 : BitVec 32 := Scalar.addi c0_i32_444 v487
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v489 : BitVec 32 := Scalar.muli v5 c2_i32_445
  let v490 : BitVec 32 := Scalar.addi v488 v489
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_446 : BitVec 32 := 1#32
  let v491 : BitVec 32 := Scalar.muli v11 c1_i32_446
  let v492 : BitVec 32 := Scalar.addi v490 v491
  v492.toNat
def k0_cond14 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1_i32_469 : BitVec 32 := 1#32
  let v521 : BitVec 1 := Scalar.cmpi .eq v16 c1_i32_469
  let v522 : BitVec 32 := Scalar.extui v521
  let c0_i32_472 : BitVec 32 := 0#32
  let v523 : BitVec 1 := Scalar.cmpi .ne v522 c0_i32_472
  v523

def k0_off15 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_45 : BitVec 32 := 4#32
  let v63 : BitVec 32 := Scalar.muli v16 c4_i32_45
  let c3_i32_46 : BitVec 32 := 3#32
  let v64 : BitVec 32 := Scalar.addi v63 c3_i32_46
  let c0_i32_1522 : BitVec 32 := 0#32
  let c0_i32_1523 : BitVec 32 := 0#32
  ![v64.toNat, 0, 0]
def k0_dev21 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond15 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2_i32_491 : BitVec 32 := 2#32
  let v544 : BitVec 1 := Scalar.cmpi .eq v16 c2_i32_491
  let v545 : BitVec 32 := Scalar.extui v544
  let c0_i32_494 : BitVec 32 := 0#32
  let v546 : BitVec 1 := Scalar.cmpi .ne v545 c0_i32_494
  v546

def k0_off16 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_45 : BitVec 32 := 4#32
  let v63 : BitVec 32 := Scalar.muli v16 c4_i32_45
  let c3_i32_46 : BitVec 32 := 3#32
  let v64 : BitVec 32 := Scalar.addi v63 c3_i32_46
  let c0_i32_1522 : BitVec 32 := 0#32
  let c0_i32_1523 : BitVec 32 := 0#32
  ![v64.toNat, 0, 0]
def k0_dev22 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_cond16 (d0 : Dev nD) : BitVec 1 :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c3_i32_508 : BitVec 32 := 3#32
  let v562 : BitVec 1 := Scalar.cmpi .eq v16 c3_i32_508
  let v563 : BitVec 32 := Scalar.extui v562
  let c0_i32_511 : BitVec 32 := 0#32
  let v564 : BitVec 1 := Scalar.cmpi .ne v563 c0_i32_511
  v564

def k0_off17 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_45 : BitVec 32 := 4#32
  let v63 : BitVec 32 := Scalar.muli v16 c4_i32_45
  let c3_i32_46 : BitVec 32 := 3#32
  let v64 : BitVec 32 := Scalar.addi v63 c3_i32_46
  let c0_i32_1522 : BitVec 32 := 0#32
  let c0_i32_1523 : BitVec 32 := 0#32
  ![v64.toNat, 0, 0]
def k0_dev23 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v1865 : BitVec 32 := Scalar.muli v2 c4_i32_1518
  let v1866 : BitVec 32 := Scalar.addi c0_i32_1519 v1865
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1520 : BitVec 32 := 2#32
  let v1867 : BitVec 32 := Scalar.muli v9 c2_i32_1520
  let v1868 : BitVec 32 := Scalar.addi v1866 v1867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1521 : BitVec 32 := 1#32
  let v1869 : BitVec 32 := Scalar.muli v8 c1_i32_1521
  let v1870 : BitVec 32 := Scalar.addi v1868 v1869
  v1870.toNat
def k0_dev24 (d0 : Dev nD) : Nat :=
  let c0_i32_525 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_524 : BitVec 32 := 4#32
  let v592 : BitVec 32 := Scalar.muli v10 c4_i32_524
  let v593 : BitVec 32 := Scalar.addi c0_i32_525 v592
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_526 : BitVec 32 := 2#32
  let v594 : BitVec 32 := Scalar.muli v5 c2_i32_526
  let v595 : BitVec 32 := Scalar.addi v593 v594
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_527 : BitVec 32 := 1#32
  let v596 : BitVec 32 := Scalar.muli v8 c1_i32_527
  let v597 : BitVec 32 := Scalar.addi v595 v596
  v597.toNat
def k0_dev25 (d0 : Dev nD) : Nat :=
  let c0_i32_535 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_534 : BitVec 32 := 4#32
  let v606 : BitVec 32 := Scalar.muli v2 c4_i32_534
  let v607 : BitVec 32 := Scalar.addi c0_i32_535 v606
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_536 : BitVec 32 := 2#32
  let v608 : BitVec 32 := Scalar.muli v5 c2_i32_536
  let v609 : BitVec 32 := Scalar.addi v607 v608
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_537 : BitVec 32 := 1#32
  let v610 : BitVec 32 := Scalar.muli v11 c1_i32_537
  let v611 : BitVec 32 := Scalar.addi v609 v610
  v611.toNat
def k0_dev26 (d0 : Dev nD) : Nat :=
  let c0_i32_587 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_586 : BitVec 32 := 4#32
  let v703 : BitVec 32 := Scalar.muli v10 c4_i32_586
  let v704 : BitVec 32 := Scalar.addi c0_i32_587 v703
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_588 : BitVec 32 := 2#32
  let v705 : BitVec 32 := Scalar.muli v5 c2_i32_588
  let v706 : BitVec 32 := Scalar.addi v704 v705
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_589 : BitVec 32 := 1#32
  let v707 : BitVec 32 := Scalar.muli v8 c1_i32_589
  let v708 : BitVec 32 := Scalar.addi v706 v707
  v708.toNat
def k0_dev27 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v717 : BitVec 32 := Scalar.muli v2 c4_i32_596
  let v718 : BitVec 32 := Scalar.addi c0_i32_597 v717
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v719 : BitVec 32 := Scalar.muli v5 c2_i32_598
  let v720 : BitVec 32 := Scalar.addi v718 v719
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_599 : BitVec 32 := 1#32
  let v721 : BitVec 32 := Scalar.muli v11 c1_i32_599
  let v722 : BitVec 32 := Scalar.addi v720 v721
  v722.toNat
def k0_dev28 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v809 : BitVec 32 := Scalar.muli v2 c4_i32_640
  let v810 : BitVec 32 := Scalar.addi c0_i32_641 v809
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_642 : BitVec 32 := 2#32
  let v811 : BitVec 32 := Scalar.muli v9 c2_i32_642
  let v812 : BitVec 32 := Scalar.addi v810 v811
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_643 : BitVec 32 := 1#32
  let v813 : BitVec 32 := Scalar.muli v8 c1_i32_643
  let v814 : BitVec 32 := Scalar.addi v812 v813
  v814.toNat
def k0_off18 (d0 : Dev nD) (c0_i32_72 : BitVec 32) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_71 : BitVec 32 := 4#32
  let v89 : BitVec 32 := Scalar.muli v22 c4_i32_71
  let v90 : BitVec 32 := Scalar.addi v89 c0_i32_72
  let c0_i32_650 : BitVec 32 := 0#32
  let c0_i32_651 : BitVec 32 := 0#32
  ![v90.toNat, 0, 0]
def k0_dev29 (d0 : Dev nD) : Nat :=
  let c0_i32_657 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_656 : BitVec 32 := 4#32
  let v827 : BitVec 32 := Scalar.muli v10 c4_i32_656
  let v828 : BitVec 32 := Scalar.addi c0_i32_657 v827
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_658 : BitVec 32 := 2#32
  let v829 : BitVec 32 := Scalar.muli v5 c2_i32_658
  let v830 : BitVec 32 := Scalar.addi v828 v829
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_659 : BitVec 32 := 1#32
  let v831 : BitVec 32 := Scalar.muli v8 c1_i32_659
  let v832 : BitVec 32 := Scalar.addi v830 v831
  v832.toNat
def k0_dev30 (d0 : Dev nD) : Nat :=
  let c0_i32_677 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_676 : BitVec 32 := 4#32
  let v853 : BitVec 32 := Scalar.muli v10 c4_i32_676
  let v854 : BitVec 32 := Scalar.addi c0_i32_677 v853
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_678 : BitVec 32 := 2#32
  let v855 : BitVec 32 := Scalar.muli v5 c2_i32_678
  let v856 : BitVec 32 := Scalar.addi v854 v855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_679 : BitVec 32 := 1#32
  let v857 : BitVec 32 := Scalar.muli v8 c1_i32_679
  let v858 : BitVec 32 := Scalar.addi v856 v857
  v858.toNat
def k0_off19 (d0 : Dev nD) (c2_i32_68 : BitVec 32) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_67 : BitVec 32 := 4#32
  let v85 : BitVec 32 := Scalar.muli v19 c4_i32_67
  let v86 : BitVec 32 := Scalar.addi v85 c2_i32_68
  let c0_i32_690 : BitVec 32 := 0#32
  let c0_i32_691 : BitVec 32 := 0#32
  ![v86.toNat, 0, 0]
def k0_off20 (d0 : Dev nD) (c0_i32_85 : BitVec 32) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_83 : BitVec 32 := 4#32
  let v101 : BitVec 32 := Scalar.muli v19 c4_i32_83
  let c2_i32_84 : BitVec 32 := 2#32
  let v102 : BitVec 32 := Scalar.addi v101 c2_i32_84
  let v103 : BitVec 32 := Scalar.addi v102 c0_i32_85
  let c0_i32_700 : BitVec 32 := 0#32
  let c0_i32_701 : BitVec 32 := 0#32
  ![v103.toNat, 0, 0]
def k0_dev31 (d0 : Dev nD) : Nat :=
  let c0_i32_697 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_696 : BitVec 32 := 4#32
  let v879 : BitVec 32 := Scalar.muli v2 c4_i32_696
  let v880 : BitVec 32 := Scalar.addi c0_i32_697 v879
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_698 : BitVec 32 := 2#32
  let v881 : BitVec 32 := Scalar.muli v5 c2_i32_698
  let v882 : BitVec 32 := Scalar.addi v880 v881
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_699 : BitVec 32 := 1#32
  let v883 : BitVec 32 := Scalar.muli v11 c1_i32_699
  let v884 : BitVec 32 := Scalar.addi v882 v883
  v884.toNat
def k0_dev32 (d0 : Dev nD) : Nat :=
  let c0_i32_717 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_716 : BitVec 32 := 4#32
  let v905 : BitVec 32 := Scalar.muli v2 c4_i32_716
  let v906 : BitVec 32 := Scalar.addi c0_i32_717 v905
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_718 : BitVec 32 := 2#32
  let v907 : BitVec 32 := Scalar.muli v5 c2_i32_718
  let v908 : BitVec 32 := Scalar.addi v906 v907
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_719 : BitVec 32 := 1#32
  let v909 : BitVec 32 := Scalar.muli v11 c1_i32_719
  let v910 : BitVec 32 := Scalar.addi v908 v909
  v910.toNat
def k0_off21 (d0 : Dev nD) (c0_i32_736 : BitVec 32) : Fin 2 → Nat :=
  let c0_i32_742 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v12 : BitVec 32 := Scalar.muli v5 c8192_i32
  let v945 : BitVec 32 := Scalar.addi v12 c0_i32_736
  ![0, v945.toNat]
def k0_cond17 (d0 : Dev nD) : BitVec 1 :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c0_i32_985 : BitVec 32 := 0#32
  let v1285 : BitVec 1 := Scalar.cmpi .eq v19 c0_i32_985
  let v1286 : BitVec 32 := Scalar.extui v1285
  let c0_i32_988 : BitVec 32 := 0#32
  let v1287 : BitVec 1 := Scalar.cmpi .ne v1286 c0_i32_988
  v1287

def k0_off22 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_63 : BitVec 32 := 4#32
  let v81 : BitVec 32 := Scalar.muli v19 c4_i32_63
  let c0_i32_64 : BitVec 32 := 0#32
  let v82 : BitVec 32 := Scalar.addi v81 c0_i32_64
  let c0_i32_1522 : BitVec 32 := 0#32
  let c0_i32_1523 : BitVec 32 := 0#32
  ![v82.toNat, 0, 0]
def k0_cond18 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c0_i32_989 : BitVec 32 := 0#32
  let v1288 : BitVec 1 := Scalar.cmpi .eq v26 c0_i32_989
  let v1289 : BitVec 32 := Scalar.extui v1288
  let c0_i32_992 : BitVec 32 := 0#32
  let v1290 : BitVec 1 := Scalar.cmpi .ne v1289 c0_i32_992
  v1290

def k0_off23 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_89 : BitVec 32 := 4#32
  let v107 : BitVec 32 := Scalar.muli v26 c4_i32_89
  let c0_i32_90 : BitVec 32 := 0#32
  let v108 : BitVec 32 := Scalar.addi v107 c0_i32_90
  let c0_i32_1522 : BitVec 32 := 0#32
  let c0_i32_1523 : BitVec 32 := 0#32
  ![v108.toNat, 0, 0]
def k0_off24 (d0 : Dev nD) (c0_i32_996 : BitVec 32) : Fin 2 → Nat :=
  let c0_i32_1007 : BitVec 32 := 0#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c8192_i32_7 : BitVec 32 := 8192#32
  let v14 : BitVec 32 := Scalar.muli v13 c8192_i32_7
  let v1299 : BitVec 32 := Scalar.addi v14 c0_i32_996
  ![0, v1299.toNat]
def k0_cond19 (d0 : Dev nD) : BitVec 1 :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c1_i32_1010 : BitVec 32 := 1#32
  let v1314 : BitVec 1 := Scalar.cmpi .eq v19 c1_i32_1010
  let v1315 : BitVec 32 := Scalar.extui v1314
  let c0_i32_1013 : BitVec 32 := 0#32
  let v1316 : BitVec 1 := Scalar.cmpi .ne v1315 c0_i32_1013
  v1316

def k0_off25 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_63 : BitVec 32 := 4#32
  let v81 : BitVec 32 := Scalar.muli v19 c4_i32_63
  let c0_i32_64 : BitVec 32 := 0#32
  let v82 : BitVec 32 := Scalar.addi v81 c0_i32_64
  let c0_i32_1522 : BitVec 32 := 0#32
  let c0_i32_1523 : BitVec 32 := 0#32
  ![v82.toNat, 0, 0]
def k0_cond20 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c1_i32_1014 : BitVec 32 := 1#32
  let v1317 : BitVec 1 := Scalar.cmpi .eq v26 c1_i32_1014
  let v1318 : BitVec 32 := Scalar.extui v1317
  let c0_i32_1017 : BitVec 32 := 0#32
  let v1319 : BitVec 1 := Scalar.cmpi .ne v1318 c0_i32_1017
  v1319

def k0_off26 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_89 : BitVec 32 := 4#32
  let v107 : BitVec 32 := Scalar.muli v26 c4_i32_89
  let c0_i32_90 : BitVec 32 := 0#32
  let v108 : BitVec 32 := Scalar.addi v107 c0_i32_90
  let c0_i32_1522 : BitVec 32 := 0#32
  let c0_i32_1523 : BitVec 32 := 0#32
  ![v108.toNat, 0, 0]
def k0_cond21 (d0 : Dev nD) : BitVec 1 :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2_i32_1035 : BitVec 32 := 2#32
  let v1343 : BitVec 1 := Scalar.cmpi .eq v19 c2_i32_1035
  let v1344 : BitVec 32 := Scalar.extui v1343
  let c0_i32_1038 : BitVec 32 := 0#32
  let v1345 : BitVec 1 := Scalar.cmpi .ne v1344 c0_i32_1038
  v1345

def k0_off27 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_63 : BitVec 32 := 4#32
  let v81 : BitVec 32 := Scalar.muli v19 c4_i32_63
  let c0_i32_64 : BitVec 32 := 0#32
  let v82 : BitVec 32 := Scalar.addi v81 c0_i32_64
  let c0_i32_1522 : BitVec 32 := 0#32
  let c0_i32_1523 : BitVec 32 := 0#32
  ![v82.toNat, 0, 0]
def k0_cond22 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2_i32_1039 : BitVec 32 := 2#32
  let v1346 : BitVec 1 := Scalar.cmpi .eq v26 c2_i32_1039
  let v1347 : BitVec 32 := Scalar.extui v1346
  let c0_i32_1042 : BitVec 32 := 0#32
  let v1348 : BitVec 1 := Scalar.cmpi .ne v1347 c0_i32_1042
  v1348

def k0_off28 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_89 : BitVec 32 := 4#32
  let v107 : BitVec 32 := Scalar.muli v26 c4_i32_89
  let c0_i32_90 : BitVec 32 := 0#32
  let v108 : BitVec 32 := Scalar.addi v107 c0_i32_90
  let c0_i32_1522 : BitVec 32 := 0#32
  let c0_i32_1523 : BitVec 32 := 0#32
  ![v108.toNat, 0, 0]
def k0_cond23 (d0 : Dev nD) : BitVec 1 :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c3_i32_1060 : BitVec 32 := 3#32
  let v1372 : BitVec 1 := Scalar.cmpi .eq v19 c3_i32_1060
  let v1373 : BitVec 32 := Scalar.extui v1372
  let c0_i32_1063 : BitVec 32 := 0#32
  let v1374 : BitVec 1 := Scalar.cmpi .ne v1373 c0_i32_1063
  v1374

def k0_off29 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_63 : BitVec 32 := 4#32
  let v81 : BitVec 32 := Scalar.muli v19 c4_i32_63
  let c0_i32_64 : BitVec 32 := 0#32
  let v82 : BitVec 32 := Scalar.addi v81 c0_i32_64
  let c0_i32_1522 : BitVec 32 := 0#32
  let c0_i32_1523 : BitVec 32 := 0#32
  ![v82.toNat, 0, 0]
def k0_cond24 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c3_i32_1064 : BitVec 32 := 3#32
  let v1375 : BitVec 1 := Scalar.cmpi .eq v26 c3_i32_1064
  let v1376 : BitVec 32 := Scalar.extui v1375
  let c0_i32_1067 : BitVec 32 := 0#32
  let v1377 : BitVec 1 := Scalar.cmpi .ne v1376 c0_i32_1067
  v1377

def k0_off30 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_89 : BitVec 32 := 4#32
  let v107 : BitVec 32 := Scalar.muli v26 c4_i32_89
  let c0_i32_90 : BitVec 32 := 0#32
  let v108 : BitVec 32 := Scalar.addi v107 c0_i32_90
  let c0_i32_1522 : BitVec 32 := 0#32
  let c0_i32_1523 : BitVec 32 := 0#32
  ![v108.toNat, 0, 0]
def k0_cond25 (d0 : Dev nD) : BitVec 1 :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c0_i32_1085 : BitVec 32 := 0#32
  let v1401 : BitVec 1 := Scalar.cmpi .eq v19 c0_i32_1085
  let v1402 : BitVec 32 := Scalar.extui v1401
  let c0_i32_1088 : BitVec 32 := 0#32
  let v1403 : BitVec 1 := Scalar.cmpi .ne v1402 c0_i32_1088
  v1403

def k0_off31 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_65 : BitVec 32 := 4#32
  let v83 : BitVec 32 := Scalar.muli v19 c4_i32_65
  let c1_i32_66 : BitVec 32 := 1#32
  let v84 : BitVec 32 := Scalar.addi v83 c1_i32_66
  let c0_i32_1522 : BitVec 32 := 0#32
  let c0_i32_1523 : BitVec 32 := 0#32
  ![v84.toNat, 0, 0]
def k0_cond26 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c0_i32_1089 : BitVec 32 := 0#32
  let v1404 : BitVec 1 := Scalar.cmpi .eq v26 c0_i32_1089
  let v1405 : BitVec 32 := Scalar.extui v1404
  let c0_i32_1092 : BitVec 32 := 0#32
  let v1406 : BitVec 1 := Scalar.cmpi .ne v1405 c0_i32_1092
  v1406

def k0_off32 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_91 : BitVec 32 := 4#32
  let v109 : BitVec 32 := Scalar.muli v26 c4_i32_91
  let c1_i32_92 : BitVec 32 := 1#32
  let v110 : BitVec 32 := Scalar.addi v109 c1_i32_92
  let c0_i32_1522 : BitVec 32 := 0#32
  let c0_i32_1523 : BitVec 32 := 0#32
  ![v110.toNat, 0, 0]
def k0_cond27 (d0 : Dev nD) : BitVec 1 :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c1_i32_1110 : BitVec 32 := 1#32
  let v1430 : BitVec 1 := Scalar.cmpi .eq v19 c1_i32_1110
  let v1431 : BitVec 32 := Scalar.extui v1430
  let c0_i32_1113 : BitVec 32 := 0#32
  let v1432 : BitVec 1 := Scalar.cmpi .ne v1431 c0_i32_1113
  v1432

def k0_off33 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_65 : BitVec 32 := 4#32
  let v83 : BitVec 32 := Scalar.muli v19 c4_i32_65
  let c1_i32_66 : BitVec 32 := 1#32
  let v84 : BitVec 32 := Scalar.addi v83 c1_i32_66
  let c0_i32_1522 : BitVec 32 := 0#32
  let c0_i32_1523 : BitVec 32 := 0#32
  ![v84.toNat, 0, 0]
def k0_cond28 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c1_i32_1114 : BitVec 32 := 1#32
  let v1433 : BitVec 1 := Scalar.cmpi .eq v26 c1_i32_1114
  let v1434 : BitVec 32 := Scalar.extui v1433
  let c0_i32_1117 : BitVec 32 := 0#32
  let v1435 : BitVec 1 := Scalar.cmpi .ne v1434 c0_i32_1117
  v1435

def k0_off34 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_91 : BitVec 32 := 4#32
  let v109 : BitVec 32 := Scalar.muli v26 c4_i32_91
  let c1_i32_92 : BitVec 32 := 1#32
  let v110 : BitVec 32 := Scalar.addi v109 c1_i32_92
  let c0_i32_1522 : BitVec 32 := 0#32
  let c0_i32_1523 : BitVec 32 := 0#32
  ![v110.toNat, 0, 0]
def k0_cond29 (d0 : Dev nD) : BitVec 1 :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2_i32_1135 : BitVec 32 := 2#32
  let v1459 : BitVec 1 := Scalar.cmpi .eq v19 c2_i32_1135
  let v1460 : BitVec 32 := Scalar.extui v1459
  let c0_i32_1138 : BitVec 32 := 0#32
  let v1461 : BitVec 1 := Scalar.cmpi .ne v1460 c0_i32_1138
  v1461

def k0_off35 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_65 : BitVec 32 := 4#32
  let v83 : BitVec 32 := Scalar.muli v19 c4_i32_65
  let c1_i32_66 : BitVec 32 := 1#32
  let v84 : BitVec 32 := Scalar.addi v83 c1_i32_66
  let c0_i32_1522 : BitVec 32 := 0#32
  let c0_i32_1523 : BitVec 32 := 0#32
  ![v84.toNat, 0, 0]
def k0_cond30 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2_i32_1139 : BitVec 32 := 2#32
  let v1462 : BitVec 1 := Scalar.cmpi .eq v26 c2_i32_1139
  let v1463 : BitVec 32 := Scalar.extui v1462
  let c0_i32_1142 : BitVec 32 := 0#32
  let v1464 : BitVec 1 := Scalar.cmpi .ne v1463 c0_i32_1142
  v1464

def k0_off36 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_91 : BitVec 32 := 4#32
  let v109 : BitVec 32 := Scalar.muli v26 c4_i32_91
  let c1_i32_92 : BitVec 32 := 1#32
  let v110 : BitVec 32 := Scalar.addi v109 c1_i32_92
  let c0_i32_1522 : BitVec 32 := 0#32
  let c0_i32_1523 : BitVec 32 := 0#32
  ![v110.toNat, 0, 0]
def k0_cond31 (d0 : Dev nD) : BitVec 1 :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c3_i32_1160 : BitVec 32 := 3#32
  let v1488 : BitVec 1 := Scalar.cmpi .eq v19 c3_i32_1160
  let v1489 : BitVec 32 := Scalar.extui v1488
  let c0_i32_1163 : BitVec 32 := 0#32
  let v1490 : BitVec 1 := Scalar.cmpi .ne v1489 c0_i32_1163
  v1490

def k0_off37 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c4_i32_65 : BitVec 32 := 4#32
  let v83 : BitVec 32 := Scalar.muli v19 c4_i32_65
  let c1_i32_66 : BitVec 32 := 1#32
  let v84 : BitVec 32 := Scalar.addi v83 c1_i32_66
  let c0_i32_1522 : BitVec 32 := 0#32
  let c0_i32_1523 : BitVec 32 := 0#32
  ![v84.toNat, 0, 0]
def k0_cond32 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c3_i32_1164 : BitVec 32 := 3#32
  let v1491 : BitVec 1 := Scalar.cmpi .eq v26 c3_i32_1164
  let v1492 : BitVec 32 := Scalar.extui v1491
  let c0_i32_1167 : BitVec 32 := 0#32
  let v1493 : BitVec 1 := Scalar.cmpi .ne v1492 c0_i32_1167
  v1493

def k0_off38 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_91 : BitVec 32 := 4#32
  let v109 : BitVec 32 := Scalar.muli v26 c4_i32_91
  let c1_i32_92 : BitVec 32 := 1#32
  let v110 : BitVec 32 := Scalar.addi v109 c1_i32_92
  let c0_i32_1522 : BitVec 32 := 0#32
  let c0_i32_1523 : BitVec 32 := 0#32
  ![v110.toNat, 0, 0]
def k0_cond33 (d0 : Dev nD) : BitVec 1 :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c0_i32_1185 : BitVec 32 := 0#32
  let v1517 : BitVec 1 := Scalar.cmpi .eq v22 c0_i32_1185
  let v1518 : BitVec 32 := Scalar.extui v1517
  let c0_i32_1188 : BitVec 32 := 0#32
  let v1519 : BitVec 1 := Scalar.cmpi .ne v1518 c0_i32_1188
  v1519

def k0_off39 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_75 : BitVec 32 := 4#32
  let v93 : BitVec 32 := Scalar.muli v22 c4_i32_75
  let c2_i32_76 : BitVec 32 := 2#32
  let v94 : BitVec 32 := Scalar.addi v93 c2_i32_76
  let c0_i32_1522 : BitVec 32 := 0#32
  let c0_i32_1523 : BitVec 32 := 0#32
  ![v94.toNat, 0, 0]
def k0_cond34 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c0_i32_1189 : BitVec 32 := 0#32
  let v1520 : BitVec 1 := Scalar.cmpi .eq v26 c0_i32_1189
  let v1521 : BitVec 32 := Scalar.extui v1520
  let c0_i32_1192 : BitVec 32 := 0#32
  let v1522 : BitVec 1 := Scalar.cmpi .ne v1521 c0_i32_1192
  v1522

def k0_off40 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_93 : BitVec 32 := 4#32
  let v111 : BitVec 32 := Scalar.muli v26 c4_i32_93
  let c2_i32_94 : BitVec 32 := 2#32
  let v112 : BitVec 32 := Scalar.addi v111 c2_i32_94
  let c0_i32_95 : BitVec 32 := 0#32
  let v113 : BitVec 32 := Scalar.addi v112 c0_i32_95
  let c0_i32_1522 : BitVec 32 := 0#32
  let c0_i32_1523 : BitVec 32 := 0#32
  ![v113.toNat, 0, 0]
def k0_cond35 (d0 : Dev nD) : BitVec 1 :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c1_i32_1210 : BitVec 32 := 1#32
  let v1546 : BitVec 1 := Scalar.cmpi .eq v22 c1_i32_1210
  let v1547 : BitVec 32 := Scalar.extui v1546
  let c0_i32_1213 : BitVec 32 := 0#32
  let v1548 : BitVec 1 := Scalar.cmpi .ne v1547 c0_i32_1213
  v1548

def k0_off41 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_75 : BitVec 32 := 4#32
  let v93 : BitVec 32 := Scalar.muli v22 c4_i32_75
  let c2_i32_76 : BitVec 32 := 2#32
  let v94 : BitVec 32 := Scalar.addi v93 c2_i32_76
  let c0_i32_1522 : BitVec 32 := 0#32
  let c0_i32_1523 : BitVec 32 := 0#32
  ![v94.toNat, 0, 0]
def k0_cond36 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c1_i32_1214 : BitVec 32 := 1#32
  let v1549 : BitVec 1 := Scalar.cmpi .eq v26 c1_i32_1214
  let v1550 : BitVec 32 := Scalar.extui v1549
  let c0_i32_1217 : BitVec 32 := 0#32
  let v1551 : BitVec 1 := Scalar.cmpi .ne v1550 c0_i32_1217
  v1551

def k0_off42 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_93 : BitVec 32 := 4#32
  let v111 : BitVec 32 := Scalar.muli v26 c4_i32_93
  let c2_i32_94 : BitVec 32 := 2#32
  let v112 : BitVec 32 := Scalar.addi v111 c2_i32_94
  let c0_i32_95 : BitVec 32 := 0#32
  let v113 : BitVec 32 := Scalar.addi v112 c0_i32_95
  let c0_i32_1522 : BitVec 32 := 0#32
  let c0_i32_1523 : BitVec 32 := 0#32
  ![v113.toNat, 0, 0]
def k0_cond37 (d0 : Dev nD) : BitVec 1 :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c2_i32_1235 : BitVec 32 := 2#32
  let v1575 : BitVec 1 := Scalar.cmpi .eq v22 c2_i32_1235
  let v1576 : BitVec 32 := Scalar.extui v1575
  let c0_i32_1238 : BitVec 32 := 0#32
  let v1577 : BitVec 1 := Scalar.cmpi .ne v1576 c0_i32_1238
  v1577

def k0_off43 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_75 : BitVec 32 := 4#32
  let v93 : BitVec 32 := Scalar.muli v22 c4_i32_75
  let c2_i32_76 : BitVec 32 := 2#32
  let v94 : BitVec 32 := Scalar.addi v93 c2_i32_76
  let c0_i32_1522 : BitVec 32 := 0#32
  let c0_i32_1523 : BitVec 32 := 0#32
  ![v94.toNat, 0, 0]
def k0_cond38 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2_i32_1239 : BitVec 32 := 2#32
  let v1578 : BitVec 1 := Scalar.cmpi .eq v26 c2_i32_1239
  let v1579 : BitVec 32 := Scalar.extui v1578
  let c0_i32_1242 : BitVec 32 := 0#32
  let v1580 : BitVec 1 := Scalar.cmpi .ne v1579 c0_i32_1242
  v1580

def k0_off44 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_93 : BitVec 32 := 4#32
  let v111 : BitVec 32 := Scalar.muli v26 c4_i32_93
  let c2_i32_94 : BitVec 32 := 2#32
  let v112 : BitVec 32 := Scalar.addi v111 c2_i32_94
  let c0_i32_95 : BitVec 32 := 0#32
  let v113 : BitVec 32 := Scalar.addi v112 c0_i32_95
  let c0_i32_1522 : BitVec 32 := 0#32
  let c0_i32_1523 : BitVec 32 := 0#32
  ![v113.toNat, 0, 0]
def k0_cond39 (d0 : Dev nD) : BitVec 1 :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c3_i32_1260 : BitVec 32 := 3#32
  let v1604 : BitVec 1 := Scalar.cmpi .eq v22 c3_i32_1260
  let v1605 : BitVec 32 := Scalar.extui v1604
  let c0_i32_1263 : BitVec 32 := 0#32
  let v1606 : BitVec 1 := Scalar.cmpi .ne v1605 c0_i32_1263
  v1606

def k0_off45 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_75 : BitVec 32 := 4#32
  let v93 : BitVec 32 := Scalar.muli v22 c4_i32_75
  let c2_i32_76 : BitVec 32 := 2#32
  let v94 : BitVec 32 := Scalar.addi v93 c2_i32_76
  let c0_i32_1522 : BitVec 32 := 0#32
  let c0_i32_1523 : BitVec 32 := 0#32
  ![v94.toNat, 0, 0]
def k0_cond40 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c3_i32_1264 : BitVec 32 := 3#32
  let v1607 : BitVec 1 := Scalar.cmpi .eq v26 c3_i32_1264
  let v1608 : BitVec 32 := Scalar.extui v1607
  let c0_i32_1267 : BitVec 32 := 0#32
  let v1609 : BitVec 1 := Scalar.cmpi .ne v1608 c0_i32_1267
  v1609

def k0_off46 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_93 : BitVec 32 := 4#32
  let v111 : BitVec 32 := Scalar.muli v26 c4_i32_93
  let c2_i32_94 : BitVec 32 := 2#32
  let v112 : BitVec 32 := Scalar.addi v111 c2_i32_94
  let c0_i32_95 : BitVec 32 := 0#32
  let v113 : BitVec 32 := Scalar.addi v112 c0_i32_95
  let c0_i32_1522 : BitVec 32 := 0#32
  let c0_i32_1523 : BitVec 32 := 0#32
  ![v113.toNat, 0, 0]
def k0_cond41 (d0 : Dev nD) : BitVec 1 :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c0_i32_1285 : BitVec 32 := 0#32
  let v1633 : BitVec 1 := Scalar.cmpi .eq v22 c0_i32_1285
  let v1634 : BitVec 32 := Scalar.extui v1633
  let c0_i32_1288 : BitVec 32 := 0#32
  let v1635 : BitVec 1 := Scalar.cmpi .ne v1634 c0_i32_1288
  v1635

def k0_off47 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_77 : BitVec 32 := 4#32
  let v95 : BitVec 32 := Scalar.muli v22 c4_i32_77
  let c3_i32_78 : BitVec 32 := 3#32
  let v96 : BitVec 32 := Scalar.addi v95 c3_i32_78
  let c0_i32_1522 : BitVec 32 := 0#32
  let c0_i32_1523 : BitVec 32 := 0#32
  ![v96.toNat, 0, 0]
def k0_cond42 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c0_i32_1289 : BitVec 32 := 0#32
  let v1636 : BitVec 1 := Scalar.cmpi .eq v26 c0_i32_1289
  let v1637 : BitVec 32 := Scalar.extui v1636
  let c0_i32_1292 : BitVec 32 := 0#32
  let v1638 : BitVec 1 := Scalar.cmpi .ne v1637 c0_i32_1292
  v1638

def k0_off48 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_96 : BitVec 32 := 4#32
  let v114 : BitVec 32 := Scalar.muli v26 c4_i32_96
  let c2_i32_97 : BitVec 32 := 2#32
  let v115 : BitVec 32 := Scalar.addi v114 c2_i32_97
  let c1_i32_98 : BitVec 32 := 1#32
  let v116 : BitVec 32 := Scalar.addi v115 c1_i32_98
  let c0_i32_1522 : BitVec 32 := 0#32
  let c0_i32_1523 : BitVec 32 := 0#32
  ![v116.toNat, 0, 0]
def k0_cond43 (d0 : Dev nD) : BitVec 1 :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c1_i32_1310 : BitVec 32 := 1#32
  let v1662 : BitVec 1 := Scalar.cmpi .eq v22 c1_i32_1310
  let v1663 : BitVec 32 := Scalar.extui v1662
  let c0_i32_1313 : BitVec 32 := 0#32
  let v1664 : BitVec 1 := Scalar.cmpi .ne v1663 c0_i32_1313
  v1664

def k0_off49 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_77 : BitVec 32 := 4#32
  let v95 : BitVec 32 := Scalar.muli v22 c4_i32_77
  let c3_i32_78 : BitVec 32 := 3#32
  let v96 : BitVec 32 := Scalar.addi v95 c3_i32_78
  let c0_i32_1522 : BitVec 32 := 0#32
  let c0_i32_1523 : BitVec 32 := 0#32
  ![v96.toNat, 0, 0]
def k0_cond44 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c1_i32_1314 : BitVec 32 := 1#32
  let v1665 : BitVec 1 := Scalar.cmpi .eq v26 c1_i32_1314
  let v1666 : BitVec 32 := Scalar.extui v1665
  let c0_i32_1317 : BitVec 32 := 0#32
  let v1667 : BitVec 1 := Scalar.cmpi .ne v1666 c0_i32_1317
  v1667

def k0_off50 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_96 : BitVec 32 := 4#32
  let v114 : BitVec 32 := Scalar.muli v26 c4_i32_96
  let c2_i32_97 : BitVec 32 := 2#32
  let v115 : BitVec 32 := Scalar.addi v114 c2_i32_97
  let c1_i32_98 : BitVec 32 := 1#32
  let v116 : BitVec 32 := Scalar.addi v115 c1_i32_98
  let c0_i32_1522 : BitVec 32 := 0#32
  let c0_i32_1523 : BitVec 32 := 0#32
  ![v116.toNat, 0, 0]
def k0_cond45 (d0 : Dev nD) : BitVec 1 :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c2_i32_1335 : BitVec 32 := 2#32
  let v1691 : BitVec 1 := Scalar.cmpi .eq v22 c2_i32_1335
  let v1692 : BitVec 32 := Scalar.extui v1691
  let c0_i32_1338 : BitVec 32 := 0#32
  let v1693 : BitVec 1 := Scalar.cmpi .ne v1692 c0_i32_1338
  v1693

def k0_off51 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_77 : BitVec 32 := 4#32
  let v95 : BitVec 32 := Scalar.muli v22 c4_i32_77
  let c3_i32_78 : BitVec 32 := 3#32
  let v96 : BitVec 32 := Scalar.addi v95 c3_i32_78
  let c0_i32_1522 : BitVec 32 := 0#32
  let c0_i32_1523 : BitVec 32 := 0#32
  ![v96.toNat, 0, 0]
def k0_cond46 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2_i32_1339 : BitVec 32 := 2#32
  let v1694 : BitVec 1 := Scalar.cmpi .eq v26 c2_i32_1339
  let v1695 : BitVec 32 := Scalar.extui v1694
  let c0_i32_1342 : BitVec 32 := 0#32
  let v1696 : BitVec 1 := Scalar.cmpi .ne v1695 c0_i32_1342
  v1696

def k0_off52 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_96 : BitVec 32 := 4#32
  let v114 : BitVec 32 := Scalar.muli v26 c4_i32_96
  let c2_i32_97 : BitVec 32 := 2#32
  let v115 : BitVec 32 := Scalar.addi v114 c2_i32_97
  let c1_i32_98 : BitVec 32 := 1#32
  let v116 : BitVec 32 := Scalar.addi v115 c1_i32_98
  let c0_i32_1522 : BitVec 32 := 0#32
  let c0_i32_1523 : BitVec 32 := 0#32
  ![v116.toNat, 0, 0]
def k0_cond47 (d0 : Dev nD) : BitVec 1 :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c3_i32_1360 : BitVec 32 := 3#32
  let v1720 : BitVec 1 := Scalar.cmpi .eq v22 c3_i32_1360
  let v1721 : BitVec 32 := Scalar.extui v1720
  let c0_i32_1363 : BitVec 32 := 0#32
  let v1722 : BitVec 1 := Scalar.cmpi .ne v1721 c0_i32_1363
  v1722

def k0_off53 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c4_i32_77 : BitVec 32 := 4#32
  let v95 : BitVec 32 := Scalar.muli v22 c4_i32_77
  let c3_i32_78 : BitVec 32 := 3#32
  let v96 : BitVec 32 := Scalar.addi v95 c3_i32_78
  let c0_i32_1522 : BitVec 32 := 0#32
  let c0_i32_1523 : BitVec 32 := 0#32
  ![v96.toNat, 0, 0]
def k0_cond48 (d0 : Dev nD) : BitVec 1 :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c3_i32_1364 : BitVec 32 := 3#32
  let v1723 : BitVec 1 := Scalar.cmpi .eq v26 c3_i32_1364
  let v1724 : BitVec 32 := Scalar.extui v1723
  let c0_i32_1367 : BitVec 32 := 0#32
  let v1725 : BitVec 1 := Scalar.cmpi .ne v1724 c0_i32_1367
  v1725

def k0_off54 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4_i32_96 : BitVec 32 := 4#32
  let v114 : BitVec 32 := Scalar.muli v26 c4_i32_96
  let c2_i32_97 : BitVec 32 := 2#32
  let v115 : BitVec 32 := Scalar.addi v114 c2_i32_97
  let c1_i32_98 : BitVec 32 := 1#32
  let v116 : BitVec 32 := Scalar.addi v115 c1_i32_98
  let c0_i32_1522 : BitVec 32 := 0#32
  let c0_i32_1523 : BitVec 32 := 0#32
  ![v116.toNat, 0, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | .hbm, ⟨14, _⟩ => ⟨S512x16384, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Structured.lean ====
/- The kernel's body written as a structured program: one definition per kind of step, each at a symbolic chunk, slot
   or device, and the body as their composition; and the equation of the printed body with it, device by device. -/
module

public import proofs.«01_k».proof.Proof.Gen.KernelIdeal
public import Idealize.ShloMosaic.Lib.Pipeline.Regions

@[expose] public section

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F]

/-! ## The mesh -/

/-- The neighbour along the axis that cuts the columns: it holds the other half of the columns. -/
def yp (c : Dev nD) : Dev nD := ⟨c.val / 4 * 4 + (1 - c.val / 2 % 2) * 2 + c.val % 2, by have := c.isLt; show _ < 8; have : c.val < 8 := this; omega⟩
/-- The neighbour along the first axis. -/
def xp (c : Dev nD) : Dev nD := ⟨(1 - c.val / 4) * 4 + c.val % 4, by have := c.isLt; show _ < 8; omega⟩
/-- The neighbour along the last axis. -/
def zp (c : Dev nD) : Dev nD := ⟨c.val / 2 * 2 + (1 - c.val % 2), by have := c.isLt; show _ < 8; have : c.val < 8 := this; omega⟩

/-- The quarter of the columns that a device fetches from its column neighbour: its place on the two other axes. -/
def qm (c : Dev nD) : Fin 4 := ⟨2 * (c.val / 4) + c.val % 2, by have : c.val < 8 := c.isLt; omega⟩

/-- The half of the columns a device holds. -/
def half (c : Dev nD) : ℕ := c.val / 2 % 2

/-- Slot `j` of quarter `q`. -/
def qs (q j : Fin 4) : Fin 16 := ⟨4 * q.val + j.val, by omega⟩

/-- Chunk number `i` in the order of the matrix products: one chunk of each quarter in turn. -/
def perm (i : Fin 16) : Fin 16 := ⟨i.val % 4 * 4 + i.val / 4, by omega⟩

/-! ## The views -/

/-- The input row block, the staged window. -/
abbrev xM : Memref sig .tc .vmem S512x1024 .f32 := win0_0.stage 0
/-- The device's columns of the weights, in HBM. -/
abbrev wM : Memref sig .tc .hbm S1024x8192 .f32 := Memref.whole main_arg1
/-- The result, in HBM. -/
abbrev oM : Memref sig .tc .hbm S512x16384 .bf16 := Memref.whole main_v1
/-- The device's own logits, by slots. -/
abbrev lgM : Memref sig .tc .vmem S16x512x512 .bf16 := Memref.whole cc0_scratch0
/-- The other half's logits, by slots. -/
abbrev cmM : Memref sig .tc .vmem S16x512x512 .bf16 := Memref.whole cc0_scratch1
/-- The weights' double buffer. -/
abbrev wbM : Memref sig .tc .vmem S2x1024x512 .f32 := Memref.whole cc0_scratch2
/-- The results' staging ring of four. -/
abbrev osM : Memref sig .tc .vmem S4x512x512 .bf16 := Memref.whole cc0_scratch3
/-- The statistics to send. -/
abbrev stM : Memref sig .tc .vmem S512x8 .f32 := Memref.whole cc0_scratch4
/-- The statistics received. -/
abbrev srM : Memref sig .tc .vmem S512x8 .f32 := Memref.whole cc0_scratch5

theorem inb16 (n : Fin 16) : ∀ a, (![n.val, 0, 0] : Fin 3 → ℕ) a + S1x512x512.size a ≤ S16x512x512.size a := by
  revert n; decide
theorem inb4 (n : Fin 4) : ∀ a, (![n.val, 0, 0] : Fin 3 → ℕ) a + S1x512x512.size a ≤ S4x512x512.size a := by
  revert n; decide
theorem inb2 (n : Fin 2) : ∀ a, (![n.val, 0, 0] : Fin 3 → ℕ) a + S1x1024x512.size a ≤ S2x1024x512.size a := by
  revert n; decide
theorem inbW (k : Fin 16) : ∀ a, (![0, 512 * k.val] : Fin 2 → ℕ) a + S1024x512.size a ≤ S1024x8192.size a := by
  revert k; decide
theorem inbO (k : Fin 32) : ∀ a, (![0, 512 * k.val] : Fin 2 → ℕ) a + S512x512.size a ≤ S512x16384.size a := by
  revert k; decide
theorem inbS (j : Fin 2) : ∀ a, (![0, j.val] : Fin 2 → ℕ) a + S512x1.size a ≤ S512x8.size a := by
  revert j; decide

/-- Slot `n` of a buffer of sixteen slots, as a rectangle. -/
abbrev r16 (n : Fin 16) : Rect S16x512x512 := Rect.unit (s := S16x512x512) ![n.val, 0, 0] S1x512x512.size (inb16 n)
/-- Slot `n` of the staging ring, as a rectangle. -/
abbrev r4 (n : Fin 4) : Rect S4x512x512 := Rect.unit (s := S4x512x512) ![n.val, 0, 0] S1x512x512.size (inb4 n)
/-- Half `n` of the double buffer, as a rectangle. -/
abbrev r2 (n : Fin 2) : Rect S2x1024x512 := Rect.unit (s := S2x1024x512) ![n.val, 0, 0] S1x1024x512.size (inb2 n)
/-- Column chunk `k` of the weights, as a rectangle. -/
abbrev rW (k : Fin 16) : Rect S1024x8192 := Rect.unit (s := S1024x8192) ![0, 512 * k.val] S1024x512.size (inbW k)
/-- Column chunk `k` of the result, as a rectangle. -/
abbrev rO (k : Fin 32) : Rect S512x16384 := Rect.unit (s := S512x16384) ![0, 512 * k.val] S512x512.size (inbO k)
/-- Column `j` of the statistics, as a rectangle. -/
abbrev rS (j : Fin 2) : Rect S512x8 := Rect.unit (s := S512x8) ![0, j.val] S512x1.size (inbS j)

theorem packed16 (n : Fin 16) : (r16 n).PackedRows (EltTy.packing .bf16) := by revert n; decide
theorem words16 (n : Fin 16) : (r16 n).WholeWords (EltTy.packing .bf16) := by revert n; decide
theorem packed4 (n : Fin 4) : (r4 n).PackedRows (EltTy.packing .bf16) := by revert n; decide
theorem words4 (n : Fin 4) : (r4 n).WholeWords (EltTy.packing .bf16) := by revert n; decide
theorem wordsO (k : Fin 32) : (rO k).WholeWords (EltTy.packing .bf16) := by revert k; decide

/-- Slot `n` of a buffer of sixteen slots, as a matrix. -/
abbrev slot16 (m : Memref sig .tc .vmem S16x512x512 .bf16) (n : Fin 16) : Memref sig .tc .vmem S512x512 .bf16 :=
  (m.slice (r16 n) (fun _ => rfl)).squeeze S512x512 squeezes_S1x512x512_S512x512
/-- Slot `n` of the staging ring, as a matrix. -/
abbrev slot4 (n : Fin 4) : Memref sig .tc .vmem S512x512 .bf16 :=
  (osM.slice (r4 n) (fun _ => rfl)).squeeze S512x512 squeezes_S1x512x512_S512x512
/-- Half `n` of the double buffer, as a matrix. -/
abbrev slot2 (n : Fin 2) : Memref sig .tc .vmem S1024x512 .f32 :=
  (wbM.slice (r2 n) (fun _ => rfl)).squeeze S1024x512 squeezes_S1x1024x512_S1024x512
/-- Column chunk `k` of the weights. -/
abbrev wCol (k : Fin 16) : Memref sig .tc .hbm S1024x512 .f32 := wM.slice (rW k) (fun _ => rfl)
/-- Column chunk `k` of the result. -/
abbrev oCol (k : Fin 32) : Memref sig .tc .hbm S512x512 .bf16 := oM.slice (rO k) (fun _ => rfl)

theorem slot16_exact (m : Memref sig .tc .vmem S16x512x512 .bf16) (hm : m.IsWhole) (n : Fin 16) : (slot16 m n).view.WordExact :=
  (hm.wordExact_slice rfl _ (words16 n)).reshape _ _
theorem lg_exact (n : Fin 16) : (slot16 lgM n).view.WordExact := slot16_exact lgM (Memref.isWhole_whole _) n
theorem cm_exact (n : Fin 16) : (slot16 cmM n).view.WordExact := slot16_exact cmM (Memref.isWhole_whole _) n
theorem slot4_exact (n : Fin 4) : (slot4 n).view.WordExact :=
  ((Memref.isWhole_whole _).wordExact_slice rfl _ (words4 n)).reshape _ _
theorem slot2_exact (n : Fin 2) : (slot2 n).view.WordExact := (View.wordExact_bits rfl).reshape _ _
theorem oCol_exact (k : Fin 32) : (oCol k).view.WordExact := (Memref.isWhole_whole _).wordExact_slice rfl _ (wordsO k)

/-! ## The semaphores -/

/-- The barrier's semaphore. -/
abbrev barS : Sem sig := sig.barrier 0 rfl
/-- A DMA semaphore by its number. -/
abbrev dsem (n : ℕ) (h : n < 41) : DmaSem sig := ⟨n, h⟩
/-- Of the weights' copies. -/
abbrev wSem (n : Fin 2) : DmaSem sig := dsem (1 + n.val) (by omega)
/-- Of the results' copies. -/
abbrev oSem (n : Fin 4) : DmaSem sig := dsem (3 + n.val) (by omega)
/-- Sent to the column neighbour. -/
abbrev sySem (j : Fin 4) : DmaSem sig := dsem (7 + j.val) (by omega)
/-- Received from the column neighbour. -/
abbrev rySem (j : Fin 4) : DmaSem sig := dsem (11 + j.val) (by omega)
/-- Sent along the first axis. -/
abbrev sx1 (j : Fin 4) : DmaSem sig := dsem (15 + j.val) (by omega)
/-- Received along the first axis. -/
abbrev rx1 (j : Fin 4) : DmaSem sig := dsem (19 + j.val) (by omega)
/-- Sent along the last axis. -/
abbrev sz1 (j : Fin 4) : DmaSem sig := dsem (23 + j.val) (by omega)
/-- Received along the last axis. -/
abbrev rz1 (j : Fin 4) : DmaSem sig := dsem (27 + j.val) (by omega)
/-- Sent on along the first axis. -/
abbrev sx2 (j : Fin 2) : DmaSem sig := dsem (31 + j.val) (by omega)
/-- Received on along the first axis. -/
abbrev rx2 (j : Fin 2) : DmaSem sig := dsem (33 + j.val) (by omega)
/-- Sent on along the last axis. -/
abbrev sz2 (j : Fin 2) : DmaSem sig := dsem (35 + j.val) (by omega)
/-- Received on along the last axis. -/
abbrev rz2 (j : Fin 2) : DmaSem sig := dsem (37 + j.val) (by omega)
/-- The statistics sent. -/
abbrev ssS : DmaSem sig := dsem 39 (by omega)
/-- The statistics received. -/
abbrev srS : DmaSem sig := dsem 40 (by omega)

/-! ## The values -/

/-- The input in the products' format. -/
def xB (x : Vec F S512x1024 .f32) : FVec F S512x1024 .bf16 :=
  truncf .bf16 (shapeCast S512x1024 x shapeCasts_S512x1024_S512x1024) bitsLt_bf16_f32
/-- A chunk of the logits. -/
def dotV (xb : FVec F S512x1024 .bf16) (w : Vec F S1x1024x512 .f32) : FVec F S512x512 .f32 :=
  matmul dot_S512x1024_S1024x512_S512x512_1_0_0_1_n_n none xb
    (truncf .bf16 (shapeCast S1024x512 w shapeCasts_S1x1024x512_S1024x512) bitsLt_bf16_f32) (constant S512x512 .f32 0x00000000#32)
/-- The chunk as it is stored. -/
def lgV (xb : FVec F S512x1024 .bf16) (w : Vec F S1x1024x512 .f32) : FVec F S1x512x512 .bf16 :=
  shapeCast S1x512x512 (truncf .bf16 (dotV xb w) bitsLt_bf16_f32) shapeCasts_S512x512_S1x512x512
/-- The chunk's row maxima. -/
def rmV (xb : FVec F S512x1024 .bf16) (w : Vec F S1x1024x512 .f32) : FVec F S512x1 .f32 :=
  shapeCast S512x1 (multiReduction .maximumf [1] S512 (dotV xb w) 0xFF800000#32 reduces_S512x512_S512 (.inl rfl) rfl) shapeCasts_S512_S512x1
/-- The exponentials of a stored chunk less a column. -/
def exV (m : FVec F S512x1 .f32) (l : Vec F S1x512x512 .bf16) : FVec F S512x512 .f32 :=
  exp (subf (extf .f32 (shapeCast S512x512 l shapeCasts_S1x512x512_S512x512) bitsLt_bf16_f32)
    (broadcastTo S512x512 m broadcasts_S512x1_S512x512))
/-- Their row sums. -/
def esV (m : FVec F S512x1 .f32) (l : Vec F S1x512x512 .bf16) : FVec F S512x1 .f32 :=
  shapeCast S512x1 (multiReduction .add [1] S512 (exV m l) 0x00000000#32 reduces_S512x512_S512 (.inl rfl) rfl) shapeCasts_S512_S512x1
/-- A column as it is stored. -/
def colV (m : FVec F S512x1 .f32) : FVec F S512x1 .f32 := shapeCast S512x1 m shapeCasts_S512x1_S512x1
/-- The whole sum, from the two halves' maxima and sums. -/
def sumV (m s mo so : FVec F S512x1 .f32) : FVec F S512x1 .f32 :=
  addf (mulf s (exp (subf m (maximumf m mo)))) (mulf so (exp (subf mo (maximumf m mo))))
/-- Its reciprocal. -/
def rcV (s : FVec F S512x1 .f32) : FVec F S512x1 .f32 := divf (broadcast S512x1 (Scalar.ofBits .f32 0x3F800000#32)) s
/-- A result tile. -/
def outV (m r : FVec F S512x1 .f32) (l : Vec F S1x512x512 .bf16) : FVec F S1x512x512 .bf16 :=
  shapeCast S1x512x512 (truncf .bf16 (mulf (exV m l) (broadcastTo S512x512 r broadcasts_S512x1_S512x512)) bitsLt_bf16_f32)
    shapeCasts_S512x512_S1x512x512

/-! ## The steps -/

/-- The programs of a TensorCore's thread. -/
abbrev P := Prog (TpuEff nD τ sig (Elt F) Λ₀ .tc) PUnit

/-- Load slot `n` of a buffer of sixteen slots. -/
def ld16 (m : Memref sig .tc .vmem S16x512x512 .bf16) (n : Fin 16) (K : Vec F S1x512x512 .bf16 → P (F := F)) : P (F := F) :=
  .op (.load m (r16 n).toLoadRect (View.loadsAt_vmem h_S1x512x512)) K

/-- Start the copy of a matrix from slot `n` of a buffer to slot `n` of the other half's logits on device `d`. -/
def send (m : Memref sig .tc .vmem S16x512x512 .bf16) (hm : m.IsWhole) (n : Fin 16) (d : Dev nD) (ss rs : DmaSem sig) (K : P (F := F)) : P (F := F) :=
  .op (.enqueueDma (slot16 m n) (.remote (Dev.tc d) (slot16 cmM n) (.dma ss)) (.dma rs)
    (slot16_exact m hm n) (cm_exact n) ⟨⟨rfl, Or.inl rfl⟩, trivial⟩) fun _ => K

/-- Wait for one slot's matrix on a semaphore. -/
def waitSlot (m m' : Memref sig .tc .vmem S16x512x512 .bf16) (hm : m.IsWhole) (hm' : m'.IsWhole) (n : Fin 16) (s : DmaSem sig) (K : P (F := F)) : P (F := F) :=
  .op (.waitDma2 s (slot16 m n) (slot16 m' n) (slot16_exact m hm n) (slot16_exact m' hm' n)) fun _ => K

/-- Start the copy of chunk `k` of the weights into half `b` of the double buffer. -/
def wCopy (k : Fin 16) (b : Fin 2) (K : P (F := F)) : P (F := F) :=
  .op (.enqueueDma (wCol k) (.here (slot2 b)) (.dma (wSem b)) (View.wordExact_bits rfl) (slot2_exact b) ⟨Or.inl rfl, trivial⟩) fun _ => K

/-- Wait for it. -/
def wWait (k : Fin 16) (b : Fin 2) (K : P (F := F)) : P (F := F) :=
  .op (.waitDma2 (wSem b) (wCol k) (slot2 b) (View.wordExact_bits rfl) (slot2_exact b)) fun _ => K

/-- Store a slot of the device's own logits. -/
def stLg (n : Fin 16) (v : FVec F S1x512x512 .bf16) (K : P (F := F)) : P (F := F) :=
  .op (.store lgM (r16 n) v Finset.univ
    (View.stores_vmem h_S1x512x512 ((Memref.isWhole_whole _).storeExact_slice rfl _ (packed16 n)) (fun _ => rfl)) (.inl rfl)) fun _ => K

/-- The step of chunk `i`: wait for the weights, compute and store the logits, and, when the chunk lies in the
    quarter the column neighbour waits for, start sending it. -/
def chunk (c : Dev nD) (xb : FVec F S512x1024 .bf16) (i : Fin 16) (K : FVec F S512x1 .f32 → P (F := F)) : P (F := F) :=
  wWait (perm i) ⟨i.val % 2, by omega⟩ <|
  .op (.load wbM (r2 ⟨i.val % 2, by omega⟩).toLoadRect (View.loadsAt_vmem h_S1x1024x512)) fun w =>
  ld16 lgM (perm i) fun _ =>
  stLg (perm i) (lgV xb w) <|
  if qm c = ⟨i.val % 4, by omega⟩ then
    send lgM (Memref.isWhole_whole _) (qs (qm c) ⟨i.val / 4, by omega⟩) (yp c) (sySem ⟨i.val / 4, by omega⟩) (rySem ⟨i.val / 4, by omega⟩) (K (rmV xb w))
  else K (rmV xb w)

/-- The step of chunk `i`, the copy of the next chunk's weights started first. -/
def chunkN (c : Dev nD) (xb : FVec F S512x1024 .bf16) (i : Fin 15) (K : FVec F S512x1 .f32 → P (F := F)) : P (F := F) :=
  wCopy (perm i.succ) ⟨(i.val + 1) % 2, by omega⟩ <| chunk c xb i.castSucc K

/-- Relay `j`: what came from the column neighbour goes on along the two other axes. -/
def relay (c : Dev nD) (j : Fin 4) (K : P (F := F)) : P (F := F) :=
  waitSlot lgM cmM (Memref.isWhole_whole _) (Memref.isWhole_whole _) (qs (qm c) j) (rySem j) <|
  send cmM (Memref.isWhole_whole _) (qs (qm c) j) (xp c) (sx1 j) (rx1 j) <|
  send cmM (Memref.isWhole_whole _) (qs (qm c) j) (zp c) (sz1 j) (rz1 j) K

/-- Add slot `n`'s exponentials to the sum. -/
def addExp (m : FVec F S512x1 .f32) (s : FVec F S512x1 .f32) (n : Fin 16) (K : FVec F S512x1 .f32 → P (F := F)) : P (F := F) :=
  ld16 lgM n fun l => K (addf s (esV m l))

/-- Store column `j` of the statistics. -/
def stStat (j : Fin 2) (v : FVec F S512x1 .f32) (K : P (F := F)) : P (F := F) :=
  .op (.load stM (rS j).toLoadRect (View.loadsAt_vmem h_S512x1)) fun _ =>
  .op (.store stM (rS j) v Finset.univ (View.stores_vmem_bits_univ h_S512x1 rfl) (.inl rfl)) fun _ => K

/-- Load column `j` of the statistics received. -/
def ldStat (j : Fin 2) (K : Vec F S512x1 .f32 → P (F := F)) : P (F := F) :=
  .op (.load srM (rS j).toLoadRect (View.loadsAt_vmem h_S512x1)) K

/-- Wait for the quarter of the last axis's neighbour and send it on along the first axis. -/
def relayX (c : Dev nD) (j : Fin 2) (K : P (F := F)) : P (F := F) :=
  waitSlot cmM cmM (Memref.isWhole_whole _) (Memref.isWhole_whole _) (qs (qm (zp c)) ⟨j.val, by omega⟩) (rz1 ⟨j.val, by omega⟩) <|
  send cmM (Memref.isWhole_whole _) (qs (qm (zp c)) ⟨j.val, by omega⟩) (xp c) (sx2 j) (rx2 j) K

/-- Wait for the quarter of the first axis's neighbour and send it on along the last axis. -/
def relayZ (c : Dev nD) (j : Fin 2) (K : P (F := F)) : P (F := F) :=
  waitSlot cmM cmM (Memref.isWhole_whole _) (Memref.isWhole_whole _) (qs (qm (xp c)) ⟨2 + j.val, by omega⟩) (rx1 ⟨2 + j.val, by omega⟩) <|
  send cmM (Memref.isWhole_whole _) (qs (qm (xp c)) ⟨2 + j.val, by omega⟩) (zp c) (sz2 j) (rz2 j) K

/-- Store tile `v` in slot `b` of the staging ring and start its copy to column chunk `k` of the result. -/
def putOut (b : Fin 4) (v : FVec F S1x512x512 .bf16) (k : Fin 32) (K : P (F := F)) : P (F := F) :=
  .op (.load osM (r4 b).toLoadRect (View.loadsAt_vmem h_S1x512x512)) fun _ =>
  .op (.store osM (r4 b) v Finset.univ
    (View.stores_vmem h_S1x512x512 ((Memref.isWhole_whole _).storeExact_slice rfl _ (packed4 b)) (fun _ => rfl)) (.inl rfl)) fun _ =>
  .op (.enqueueDma (slot4 b) (.here (oCol k)) (.dma (oSem b)) (slot4_exact b) (oCol_exact k) ⟨Or.inl rfl, trivial⟩) fun _ => K

/-- Wait for slot `b` of the staging ring to have been copied to column chunk `k`. -/
def waitOut (b : Fin 4) (k : Fin 32) (K : P (F := F)) : P (F := F) :=
  .op (.waitDma2 (oSem b) (slot4 b) (oCol k) (slot4_exact b) (oCol_exact k)) fun _ => K

/-- Column chunk `k` of the half `h`. -/
def colOf (h : ℕ) (k : Fin 16) : Fin 32 := ⟨16 * (h % 2) + k.val, by omega⟩

/-- The column chunk result tile `n` of a device goes to: its own half in order, then the other half in the order in
    which its chunks come. -/
def tileCol (c : Dev nD) (n : Fin 32) : Fin 32 :=
  if h : n.val < 16 then colOf (half c) ⟨n.val, h⟩ else colOf (half (yp c)) (perm ⟨n.val - 16, by omega⟩)

/-- Result tile `n` of `m` and `r` from a loaded chunk: through slot `n % 4`, once it is free. -/
def tile (c : Dev nD) (m r : FVec F S512x1 .f32) (n : Fin 32) (src : Memref sig .tc .vmem S16x512x512 .bf16) (s : Fin 16) (K : P (F := F)) : P (F := F) :=
  ld16 src s fun l =>
  if h : 4 ≤ n.val then
    waitOut ⟨n.val % 4, by omega⟩ (tileCol c ⟨n.val - 4, by omega⟩) <| putOut ⟨n.val % 4, by omega⟩ (outV m r l) (tileCol c n) K
  else putOut ⟨n.val % 4, by omega⟩ (outV m r l) (tileCol c n) K

/-- Tile `i` of the device's own half. -/
def ownTile (c : Dev nD) (m r : FVec F S512x1 .f32) (i : Fin 16) (K : P (F := F)) : P (F := F) :=
  tile c m r ⟨i.val, by omega⟩ lgM i K

/-- A wait taken on the devices `p` holds of. -/
def waitIf (p : Prop) [Decidable p] (n : Fin 16) (s : DmaSem sig) (K : P (F := F)) : P (F := F) :=
  if p then waitSlot cmM cmM (Memref.isWhole_whole _) (Memref.isWhole_whole _) n s K else K

/-- The waits for chunk `i` of the other half that were not made before. -/
def otherWaits (c : Dev nD) (i : Fin 16) (K : P (F := F)) : P (F := F) :=
  if h : i.val / 4 < 2 then
    waitIf (qm (xp c) = ⟨i.val % 4, by omega⟩) (perm i) (rx1 ⟨i.val / 4, by omega⟩) <|
    waitIf (qm (xp (zp c)) = ⟨i.val % 4, by omega⟩) (perm i) (rx2 ⟨i.val / 4, h⟩) K
  else
    waitIf (qm (zp c) = ⟨i.val % 4, by omega⟩) (perm i) (rz1 ⟨i.val / 4, by omega⟩) <|
    waitIf (qm (xp (zp c)) = ⟨i.val % 4, by omega⟩) (perm i) (rz2 ⟨i.val / 4 - 2, by omega⟩) K

/-- Tile `i` of the other half: its waits, then the tile. -/
def otherTile (c : Dev nD) (m r : FVec F S512x1 .f32) (i : Fin 16) (K : P (F := F)) : P (F := F) :=
  otherWaits c i <| tile c m r ⟨16 + i.val, by omega⟩ cmM (perm i) K

/-- The last waits of round `j`: what was sent. -/
def finish1 (c : Dev nD) (j : Fin 4) (K : P (F := F)) : P (F := F) :=
  waitSlot cmM lgM (Memref.isWhole_whole _) (Memref.isWhole_whole _) (qs (qm c) j) (sySem j) <|
  waitSlot cmM cmM (Memref.isWhole_whole _) (Memref.isWhole_whole _) (qs (qm c) j) (sx1 j) <|
  waitSlot cmM cmM (Memref.isWhole_whole _) (Memref.isWhole_whole _) (qs (qm c) j) (sz1 j) K

/-- The last waits of the second round `j`: what was sent on. -/
def finish2 (c : Dev nD) (j : Fin 2) (K : P (F := F)) : P (F := F) :=
  waitSlot cmM cmM (Memref.isWhole_whole _) (Memref.isWhole_whole _) (qs (qm (zp c)) ⟨j.val, by omega⟩) (sx2 j) <|
  waitSlot cmM cmM (Memref.isWhole_whole _) (Memref.isWhole_whole _) (qs (qm (xp c)) ⟨2 + j.val, by omega⟩) (sz2 j) K

/-! ## Iterating a step -/

/-- Steps `b, …, b + n - 1` of a family, in order. -/
def iter {N : ℕ} (f : Fin N → P (F := F) → P (F := F)) : (b n : ℕ) → b + n ≤ N → P (F := F) → P (F := F)
  | _, 0, _, K => K
  | b, n + 1, h, K => f ⟨b, by omega⟩ (iter f (b + 1) n (by omega) K)

/-- Steps `b, …, b + n - 1` of a family that carries a value, in order. -/
def iterV {N : ℕ} {A : Type} (f : Fin N → A → (A → P (F := F)) → P (F := F)) : (b n : ℕ) → b + n ≤ N → A → (A → P (F := F)) → P (F := F)
  | _, 0, _, a, K => K a
  | b, n + 1, h, a, K => f ⟨b, by omega⟩ a fun a' => iterV f (b + 1) n (by omega) a' K

/-- The step of chunk `i` folded into the running maximum. -/
def chunkMax (c : Dev nD) (xb : FVec F S512x1024 .bf16) (i : Fin 15) (m : FVec F S512x1 .f32) (K : FVec F S512x1 .f32 → P (F := F)) : P (F := F) :=
  chunkN c xb i fun v => K (maximumf m v)

/-! ## The body -/

/-- The last part: the results of the two halves, and the last waits. -/
def tailB (c : Dev nD) (m r : FVec F S512x1 .f32) : P (F := F) :=
  iter (ownTile c m r) 0 16 (by omega) <|
  iter (otherTile c m r) 0 16 (by omega) <|
  iter (fun b K => waitOut b (tileCol c ⟨28 + b.val, by omega⟩) K) 0 4 (by omega) <|
  .op (.waitDma2 ssS srM stM (Memref.isWhole_whole _).wordExact (Memref.isWhole_whole _).wordExact) fun _ =>
  iter (finish1 c) 0 4 (by omega) <|
  iter (finish2 c) 0 2 (by omega) <|
  .ret ⟨⟩

/-- The statistics' exchange and the second round of relays. -/
def statsB (c : Dev nD) (m s : FVec F S512x1 .f32) : P (F := F) :=
  stStat 0 (colV m) <| stStat 1 (colV s) <|
  .op (.enqueueDma stM (.remote (Dev.tc (yp c)) srM (.dma ssS)) (.dma srS) (Memref.isWhole_whole _).wordExact (Memref.isWhole_whole _).wordExact
    ⟨⟨rfl, Or.inl rfl⟩, trivial⟩) fun _ =>
  iter (relayX c) 0 2 (by omega) <|
  iter (relayZ c) 0 2 (by omega) <|
  .op (.waitDma2 srS stM srM (Memref.isWhole_whole _).wordExact (Memref.isWhole_whole _).wordExact) fun _ =>
  ldStat 0 fun mo => ldStat 1 fun so =>
  tailB c (maximumf m mo) (rcV (sumV m s mo so))

/-- The sum of the exponentials, between two relays. -/
def expB (c : Dev nD) (m : FVec F S512x1 .f32) : P (F := F) :=
  ld16 lgM 0 fun l =>
  iterV (fun n a => addExp m a n) 1 7 (by omega) (esV m l) fun s =>
  relay c 3 <|
  iterV (fun n a => addExp m a n) 8 8 (by omega) s fun s => statsB c m s

/-- The matrix products and the first relays. -/
def prodB (c : Dev nD) (xb : FVec F S512x1024 .bf16) : P (F := F) :=
  wCopy 0 0 <|
  chunkN c xb 0 fun m =>
  iterV (chunkMax c xb) 1 8 (by omega) m fun m =>
  relay c 0 <|
  iterV (chunkMax c xb) 9 4 (by omega) m fun m =>
  relay c 1 <|
  iterV (chunkMax c xb) 13 2 (by omega) m fun m =>
  chunk c xb 15 fun v =>
  relay c 2 <|
  expB c (maximumf m v)

/-- The body on device `c`. -/
def bodyB (c : Dev nD) : P (F := F) :=
  .op (.semSignal (Dev.tc (yp c)) barS 1) fun _ =>
  .op (.semSignal (Dev.tc (xp c)) barS 1) fun _ =>
  .op (.semSignal (Dev.tc (zp c)) barS 1) fun _ =>
  .op (.semWait barS 3) fun _ =>
  .op (.load xM (Rect.unit (s := S512x1024) ![0, 0] S512x1024.size inb_S512x1024_S512x1024_0_0).toLoadRect (View.loadsAt_vmem h_S512x1024)) fun x =>
  prodB c (xB x)

/-- The body: the device reads which it is. -/
def body : P (F := F) := .op .deviceId fun c => bodyB c

end Cert.KernelIdeal.Body

end
-- ==== Proof.Contents.lean ====
/- The buffers' contents during the run, as whole-buffer functions, and what a slot, a column chunk or a column of them
   holds; how a write through one of the views makes such contents; and the cuts of the buffers into them. -/
module

public import proofs.«01_k».proof.Proof.Structured
public import Idealize.ShloMosaic.Lib.Ring
public import Idealize.ShloMosaic.Lib.Pipeline.Value
public import Idealize.ShloMosaic.Lib.Pipeline.ValueKit.Geometry
public import Idealize.ShloMosaic.Lib.Transfers
public import Idealize.ShloMosaic.Lib.Rounds

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Cert.KernelIdeal Cert.KernelIdeal.Gen

variable {F : FTy → Type} [FloatOps F]

/-! ## The algebra -/

/-- The rounds' ghost state. -/
abbrev UB : Type := URounds (GSem nD τ sig) (Fin 3)
/-- The rounds', and the local copies' counters. -/
abbrev UX : Type := UB × Counters
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UX).trans embR
abbrev EC : UEmb Counters (MT nD τ sig Unit (Elt F) ℕ UU ℕ) := countersEmb

/-! ## Contents -/

variable (m : (ℓ : Loc nD τ sig) → Buf (Elt F) ℓ)

/-- The input row block as the window stages it on device `c`. -/
def xstg (c : Dev nD) : Vec F S512x1024 .f32 :=
  (win0_0.blk (0 : Fin 1)).view.read (Elt F) (m ((c : Thread nD τ).loc main_arg0))
/-- It in the products' format. -/
def xb (c : Dev nD) : FVec F S512x1024 .bf16 := xB (xstg m c)
/-- The device's columns of the weights. -/
def wAll (c : Dev nD) : Vec F S1024x8192 .f32 := m ((c : Thread nD τ).loc main_arg1)
/-- The double buffer's contents, both halves holding chunk `k`. -/
def wBuf (c : Dev nD) (k : Fin 16) : Vec F S2x1024x512 .f32 :=
  fun i => wAll m c (show S1024x8192.Idx from fun | 0 => i 1 | 1 => ⟨512 * k.val + (i 2).val, by have : (i 2).val < 512 := (i 2).isLt; show _ < 8192; omega⟩)
/-- Chunk `k` of the weights as it is loaded. -/
def wV (c : Dev nD) (k : Fin 16) : Vec F S1x1024x512 .f32 := fun i => wBuf m c k (show S2x1024x512.Idx from fun | 0 => ⟨0, by decide⟩ | 1 => i 1 | 2 => i 2)
/-- The stored chunk `n` of device `c`'s logits. -/
def LGv (c : Dev nD) (n : Fin 16) : FVec F S1x512x512 .bf16 := lgV (xb m c) (wV m c n)
/-- The row maxima of chunk `n`. -/
def RMv (c : Dev nD) (n : Fin 16) : FVec F S512x1 .f32 := rmV (xb m c) (wV m c n)

/-- Sixteen slots' contents as one buffer's. -/
def pack16 (v : Fin 16 → FVec F S1x512x512 .bf16) : Vec F S16x512x512 .bf16 :=
  fun i => v (i 0) (show S1x512x512.Idx from fun | 0 => ⟨0, by decide⟩ | 1 => i 1 | 2 => i 2)
/-- A tile in every slot of the staging ring. -/
def pack4 (v : FVec F S1x512x512 .bf16) : Vec F S4x512x512 .bf16 :=
  fun i => v (show S1x512x512.Idx from fun | 0 => ⟨0, by decide⟩ | 1 => i 1 | 2 => i 2)
/-- Thirty-two tiles as the columns of the result. -/
def packO (v : Fin 32 → FVec F S1x512x512 .bf16) : Vec F S512x16384 .bf16 :=
  fun i => v ⟨(i 1).val / 512, by have : (i 1).val < 16384 := (i 1).isLt; omega⟩
    (show S1x512x512.Idx from fun | 0 => ⟨0, by decide⟩ | 1 => i 0 | 2 => ⟨(i 1).val % 512, by show _ < 512; omega⟩)

/-- The device whose chunk lands in slot `n` of device `c`'s buffer of the other half. -/
def org (c : Dev nD) (n : Fin 16) : Dev nD :=
  ⟨n.val / 4 / 2 * 4 + (1 - c.val / 2 % 2) * 2 + n.val / 4 % 2, by show _ < 8; have := n.isLt; omega⟩
/-- What lands there. -/
def CMv (c : Dev nD) (n : Fin 16) : FVec F S1x512x512 .bf16 := LGv m (org c n) n

/-- The device's own logits, all stored. -/
def LG (c : Dev nD) : Vec F S16x512x512 .bf16 := pack16 (LGv m c)
/-- The other half's, all landed. -/
def CM (c : Dev nD) : Vec F S16x512x512 .bf16 := pack16 (CMv m c)

/-- The running row maximum after chunks `0, …, i`. -/
def mRun (c : Dev nD) : ℕ → FVec F S512x1 .f32
  | 0 => RMv m c (perm 0)
  | i + 1 => maximumf (mRun c i) (RMv m c (perm ⟨(i + 1) % 16, by omega⟩))
/-- The row maximum of the device's half. -/
def mOwn (c : Dev nD) : FVec F S512x1 .f32 := mRun m c 15
/-- The running sum of the exponentials after chunks `0, …, i`. -/
def sRun (c : Dev nD) : ℕ → FVec F S512x1 .f32
  | 0 => esV (mOwn m c) (LGv m c 0)
  | i + 1 => addf (sRun c i) (esV (mOwn m c) (LGv m c ⟨(i + 1) % 16, by omega⟩))
/-- The sum over the device's half. -/
def sOwn (c : Dev nD) : FVec F S512x1 .f32 := sRun m c 15
/-- The row maximum of the whole. -/
def mTot (c : Dev nD) : FVec F S512x1 .f32 := maximumf (mOwn m c) (colV (mOwn m (yp c)))
/-- The reciprocal of the whole sum. -/
def rTot (c : Dev nD) : FVec F S512x1 .f32 := rcV (sumV (mOwn m c) (sOwn m c) (colV (mOwn m (yp c))) (colV (sOwn m (yp c))))
/-- The result's column chunk `k`. -/
def outT (c : Dev nD) (k : Fin 32) : FVec F S1x512x512 .bf16 :=
  outV (mTot m c) (rTot m c) (if k.val / 16 = half c then LGv m c ⟨k.val % 16, by omega⟩ else CMv m c ⟨k.val % 16, by omega⟩)
/-- The result. -/
def OUT (c : Dev nD) : Vec F S512x16384 .bf16 := packO (outT m c)

/-! ## Writes -/

section Writes
variable {κ : Kind} {sp : Space} {s : Shape} {e : EltTy}

omit [FloatOps F] in
/-- A write through a view leaves, on the view's elements, any contents the view reads the written vector from. -/
theorem write_pts {c : Thread nD τ} (v : View sig c.2.kind sp s e) (q : PosShare TreeShare) (f g : Buf (Elt F) (v.loc c)) (w : s.Idx → Elt F e)
    (h : v.read (Elt F) g = w) :
    (v.loc c ↦[v.set]{q} (v.write (Elt F) f w Finset.univ) : sProp 𝕄) = v.loc c ↦[v.set]{q} g := by
  subst h
  refine pointsTo_congr fun i hi => ?_
  rw [View.write_read_eq_piecewise]
  exact Finset.piecewise_eq_of_mem _ _ _ hi
end Writes

omit [FloatOps F] in
theorem read_lg (n : Fin 16) (v : Fin 16 → FVec F S1x512x512 .bf16) :
    (lgM.access (r16 n)).read (Elt F) (pack16 v) = v n := by
  funext i
  show v _ _ = v n i
  congr 1
  · exact Fin.ext (by show n.val + 1 * (i 0).val = n.val; have : (i 0).val < 1 := (i 0).isLt; omega)
  · funext a
    match a with
    | 0 => exact Fin.ext (by show 0 = (i 0).val; have : (i 0).val < 1 := (i 0).isLt; omega)
    | 1 => exact Fin.ext (by show 0 + 1 * (i 1).val = _; omega)
    | 2 => exact Fin.ext (by show 0 + 1 * (i 2).val = _; omega)

omit [FloatOps F] in
theorem read_cm (n : Fin 16) (v : Fin 16 → FVec F S1x512x512 .bf16) :
    (cmM.access (r16 n)).read (Elt F) (pack16 v) = v n := read_lg n v

omit [FloatOps F] in
theorem read_os (b : Fin 4) (v : FVec F S1x512x512 .bf16) :
    (osM.access (r4 b)).read (Elt F) (pack4 v) = v := by
  funext i
  show v _ = v i
  congr 1
  funext a
  match a with
  | 0 => exact Fin.ext (by show 0 = (i 0).val; have : (i 0).val < 1 := (i 0).isLt; omega)
  | 1 => exact Fin.ext (by show 0 + 1 * (i 1).val = _; omega)
  | 2 => exact Fin.ext (by show 0 + 1 * (i 2).val = _; omega)

omit [FloatOps F] in
theorem read_wb (c : Dev nD) (b : Fin 2) (k : Fin 16) :
    (wbM.access (r2 b)).read (Elt F) (wBuf m c k) = wV m c k := by
  funext i
  show wAll m c _ = wAll m c _
  congr 1
  funext a
  match a with
  | 0 => exact Fin.ext (by show 0 + 1 * (i 1).val = (i 1).val; omega)
  | 1 => exact Fin.ext (by show 512 * k.val + (0 + 1 * (i 2).val) = 512 * k.val + (i 2).val; omega)

omit [FloatOps F] in
/-- A slot of one buffer read, where the other buffer's slot is to be written. -/
theorem read_slot16 (n : Fin 16) (v v' : Fin 16 → FVec F S1x512x512 .bf16) (h : v n = v' n) :
    (slot16 lgM n).view.read (Elt F) (pack16 v) = (slot16 cmM n).view.read (Elt F) (pack16 v') := by
  show shapeCast S512x512 ((lgM.access (r16 n)).read (Elt F) (pack16 v)) shapeCasts_S1x512x512_S512x512
    = shapeCast S512x512 ((cmM.access (r16 n)).read (Elt F) (pack16 v')) shapeCasts_S1x512x512_S512x512
  rw [read_lg, read_cm, h]

omit [FloatOps F] in
/-- Column chunk `k` of the weights is what the double buffer's half is to hold. -/
theorem read_wCol (c : Dev nD) (k : Fin 16) (b : Fin 2) :
    (slot2 b).view.read (Elt F) (wBuf m c k) = (wCol k).view.read (Elt F) (wAll m c) := by
  show shapeCast S1024x512 ((wbM.access (r2 b)).read (Elt F) (wBuf m c k)) shapeCasts_S1x1024x512_S1024x512 = _
  rw [read_wb]
  funext j
  rw [shapeCast_dropUnit_apply ![1024, 512]]
  show wAll m c _ = wAll m c _
  congr 1
  funext a
  match a with
  | 0 => exact Fin.ext (by show (j 0).val = 0 + 1 * (j 0).val; omega)
  | 1 => exact Fin.ext (by show 512 * k.val + (j 1).val = 512 * k.val + 1 * (j 1).val; omega)

omit [FloatOps F] in
/-- A tile of the staging ring is what the result's column chunk is to hold. -/
theorem read_oCol (k : Fin 32) (b : Fin 4) (v : Fin 32 → FVec F S1x512x512 .bf16) :
    (oCol k).view.read (Elt F) (packO v) = (slot4 b).view.read (Elt F) (pack4 (v k)) := by
  show _ = shapeCast S512x512 ((osM.access (r4 b)).read (Elt F) (pack4 (v k))) shapeCasts_S1x512x512_S512x512
  rw [read_os]
  funext j
  rw [shapeCast_dropUnit_apply ![512, 512]]
  have hj : (j 1).val < 512 := (j 1).isLt
  show v _ _ = v k _
  congr 1
  · exact Fin.ext (by show (512 * k.val + 1 * (j 1).val) / 512 = k.val; omega)
  · funext a
    match a with
    | 0 => rfl
    | 1 => exact Fin.ext (by show 0 + 1 * (j 0).val = (j 0).val; omega)
    | 2 => exact Fin.ext (by show (512 * k.val + 1 * (j 1).val) % 512 = (j 1).val; omega)

/-! ## The buffers' cuts -/

/-- The elements of slot `n`. -/
abbrev I16 (n : Fin 16) : Finset S16x512x512.Idx := (r16 n).set
abbrev I4 (n : Fin 4) : Finset S4x512x512.Idx := (r4 n).set
abbrev I2 (n : Fin 2) : Finset S2x1024x512.Idx := (r2 n).set
abbrev IW (k : Fin 16) : Finset S1024x8192.Idx := (rW k).set
abbrev IO (k : Fin 32) : Finset S512x16384.Idx := (rO k).set

theorem disj16 (a b : Fin 16) (h : a ≠ b) : Disjoint (I16 a) (I16 b) :=
  Rect.disjoint_of_axis _ _ 0 fun j₁ h₁ j₂ h₂ => by
    have : j₁ < 1 := h₁; have : j₂ < 1 := h₂; have := Fin.val_ne_of_ne h
    show a.val + 1 * j₁ ≠ b.val + 1 * j₂; omega
theorem disj4 (a b : Fin 4) (h : a ≠ b) : Disjoint (I4 a) (I4 b) :=
  Rect.disjoint_of_axis _ _ 0 fun j₁ h₁ j₂ h₂ => by
    have : j₁ < 1 := h₁; have : j₂ < 1 := h₂; have := Fin.val_ne_of_ne h
    show a.val + 1 * j₁ ≠ b.val + 1 * j₂; omega
theorem disj2 (a b : Fin 2) (h : a ≠ b) : Disjoint (I2 a) (I2 b) :=
  Rect.disjoint_of_axis _ _ 0 fun j₁ h₁ j₂ h₂ => by
    have : j₁ < 1 := h₁; have : j₂ < 1 := h₂; have := Fin.val_ne_of_ne h
    show a.val + 1 * j₁ ≠ b.val + 1 * j₂; omega
theorem disjW (a b : Fin 16) (h : a ≠ b) : Disjoint (IW a) (IW b) :=
  Rect.disjoint_of_axis _ _ 1 fun j₁ h₁ j₂ h₂ => by
    have : j₁ < 512 := h₁; have : j₂ < 512 := h₂; have := Fin.val_ne_of_ne h
    show 512 * a.val + 1 * j₁ ≠ 512 * b.val + 1 * j₂; omega
theorem disjO (a b : Fin 32) (h : a ≠ b) : Disjoint (IO a) (IO b) :=
  Rect.disjoint_of_axis _ _ 1 fun j₁ h₁ j₂ h₂ => by
    have : j₁ < 512 := h₁; have : j₂ < 512 := h₂; have := Fin.val_ne_of_ne h
    show 512 * a.val + 1 * j₁ ≠ 512 * b.val + 1 * j₂; omega

theorem cover16 (i : S16x512x512.Idx) : ∃ n, i ∈ I16 n := by
  refine ⟨i 0, Rect.mem_set_unit.mpr fun a => ?_⟩
  match a with
  | 0 => exact ⟨le_refl (i 0).val, (by show (i 0).val < (i 0).val + 1; omega)⟩
  | 1 => exact ⟨Nat.zero_le _, (by have := (i 1).isLt; show (i 1).val < 0 + 512; rw [Nat.zero_add]; exact this)⟩
  | 2 => exact ⟨Nat.zero_le _, (by have := (i 2).isLt; show (i 2).val < 0 + 512; rw [Nat.zero_add]; exact this)⟩
theorem cover4 (i : S4x512x512.Idx) : ∃ n, i ∈ I4 n := by
  refine ⟨i 0, Rect.mem_set_unit.mpr fun a => ?_⟩
  match a with
  | 0 => exact ⟨le_refl (i 0).val, (by show (i 0).val < (i 0).val + 1; omega)⟩
  | 1 => exact ⟨Nat.zero_le _, (by have := (i 1).isLt; show (i 1).val < 0 + 512; rw [Nat.zero_add]; exact this)⟩
  | 2 => exact ⟨Nat.zero_le _, (by have := (i 2).isLt; show (i 2).val < 0 + 512; rw [Nat.zero_add]; exact this)⟩
theorem cover2 (i : S2x1024x512.Idx) : ∃ n, i ∈ I2 n := by
  refine ⟨i 0, Rect.mem_set_unit.mpr fun a => ?_⟩
  match a with
  | 0 => exact ⟨le_refl (i 0).val, (by show (i 0).val < (i 0).val + 1; omega)⟩
  | 1 => exact ⟨Nat.zero_le _, (by have := (i 1).isLt; show (i 1).val < 0 + 1024; rw [Nat.zero_add]; exact this)⟩
  | 2 => exact ⟨Nat.zero_le _, (by have := (i 2).isLt; show (i 2).val < 0 + 512; rw [Nat.zero_add]; exact this)⟩
theorem coverW (i : S1024x8192.Idx) : ∃ n, i ∈ IW n := by
  have h : (i 1).val < 8192 := (i 1).isLt
  refine ⟨⟨(i 1).val / 512, by omega⟩, Rect.mem_set_unit.mpr fun a => ?_⟩
  match a with
  | 0 => exact ⟨Nat.zero_le _, (by have := (i 0).isLt; show (i 0).val < 0 + 1024; rw [Nat.zero_add]; exact this)⟩
  | 1 => exact ⟨(by show 512 * ((i 1).val / 512) ≤ (i 1).val; omega), (by show (i 1).val < 512 * ((i 1).val / 512) + 512; omega)⟩
theorem coverO (i : S512x16384.Idx) : ∃ n, i ∈ IO n := by
  have h : (i 1).val < 16384 := (i 1).isLt
  refine ⟨⟨(i 1).val / 512, by omega⟩, Rect.mem_set_unit.mpr fun a => ?_⟩
  match a with
  | 0 => exact ⟨Nat.zero_le _, (by have := (i 0).isLt; show (i 0).val < 0 + 512; rw [Nat.zero_add]; exact this)⟩
  | 1 => exact ⟨(by show 512 * ((i 1).val / 512) ≤ (i 1).val; omega), (by show (i 1).val < 512 * ((i 1).val / 512) + 512; omega)⟩

/-! ## What the devices hold -/

/-- Slot `n` of device `c`'s own logits at a share, holding what is stored there. -/
def lgAt (c : Dev nD) (n : Fin 16) (q : PosShare TreeShare) : sProp 𝕄 := (c : Thread nD τ).loc cc0_scratch0 ↦[I16 n]{q} LG m c
/-- Slot `n` at any contents. -/
def lgAny (c : Dev nD) (n : Fin 16) : sProp 𝕄 := iprop(∃ f, (c : Thread nD τ).loc cc0_scratch0 ↦[I16 n]{fullShare} f)
/-- Slot `n` of the other half's logits at a share, holding what lands there. -/
def cmAt (c : Dev nD) (n : Fin 16) (q : PosShare TreeShare) : sProp 𝕄 := (c : Thread nD τ).loc cc0_scratch1 ↦[I16 n]{q} CM m c
def cmAny (c : Dev nD) (n : Fin 16) : sProp 𝕄 := iprop(∃ f, (c : Thread nD τ).loc cc0_scratch1 ↦[I16 n]{fullShare} f)
/-- Half `b` of the double buffer, holding chunk `k`. -/
def wbAt (c : Dev nD) (b : Fin 2) (k : Fin 16) : sProp 𝕄 := (c : Thread nD τ).loc cc0_scratch2 ↦[I2 b]{fullShare} wBuf m c k
def wbAny (c : Dev nD) (b : Fin 2) : sProp 𝕄 := iprop(∃ f, (c : Thread nD τ).loc cc0_scratch2 ↦[I2 b]{fullShare} f)
/-- Slot `b` of the staging ring, holding a tile. -/
def osAt (c : Dev nD) (b : Fin 4) (v : FVec F S1x512x512 .bf16) : sProp 𝕄 := (c : Thread nD τ).loc cc0_scratch3 ↦[I4 b]{fullShare} pack4 v
def osAny (c : Dev nD) (b : Fin 4) : sProp 𝕄 := iprop(∃ f, (c : Thread nD τ).loc cc0_scratch3 ↦[I4 b]{fullShare} f)
/-- Column chunk `k` of the weights. -/
def wcAt (c : Dev nD) (k : Fin 16) : sProp 𝕄 := (c : Thread nD τ).loc main_arg1 ↦[IW k]{fullShare} wAll m c
/-- Column chunk `k` of the result, computed. -/
def oAt (c : Dev nD) (k : Fin 32) : sProp 𝕄 := (c : Thread nD τ).loc main_v1 ↦[IO k]{fullShare} OUT m c
def oAny (c : Dev nD) (k : Fin 32) : sProp 𝕄 := iprop(∃ f, (c : Thread nD τ).loc main_v1 ↦[IO k]{fullShare} f)
/-- The statistics to send. -/
def stAny (c : Dev nD) : sProp 𝕄 := iprop(∃ f, (c : Thread nD τ).loc cc0_scratch4 ↦{fullShare} f)
def srAny (c : Dev nD) : sProp 𝕄 := iprop(∃ f, (c : Thread nD τ).loc cc0_scratch5 ↦{fullShare} f)
/-- What a statistics buffer's two first columns hold, on device `c` about device `d`. -/
def isStat (d : Dev nD) (f : Vec F S512x8 .f32) : Prop :=
  (srM.access (rS 0)).read (Elt F) f = colV (mOwn m d) ∧ (srM.access (rS 1)).read (Elt F) f = colV (sOwn m d)
def srAt (c : Dev nD) : sProp 𝕄 := iprop(∃ f, ⌜isStat m (yp c) f⌝ ∗ (c : Thread nD τ).loc cc0_scratch5 ↦{fullShare} f)

instance lgAt_storable (c n q) : BI.Storable (upEmb : UEmb _ 𝕄) (lgAt m c n q) := by unfold lgAt; infer_instance
instance cmAt_storable (c n q) : BI.Storable (upEmb : UEmb _ 𝕄) (cmAt m c n q) := by unfold cmAt; infer_instance
omit [FloatOps F] in
instance cmAny_storable (c n) : BI.Storable (upEmb : UEmb _ 𝕄) (cmAny (F := F) c n) := by unfold cmAny; infer_instance
omit [FloatOps F] in
instance stAny_storable (c) : BI.Storable (upEmb : UEmb _ 𝕄) (stAny (F := F) c) := by unfold stAny; infer_instance
omit [FloatOps F] in
instance srAny_storable (c) : BI.Storable (upEmb : UEmb _ 𝕄) (srAny (F := F) c) := by unfold srAny; infer_instance
instance srAt_storable (c) : BI.Storable (upEmb : UEmb _ 𝕄) (srAt m c) := by unfold srAt; infer_instance

/-! ### Whole buffers and their parts -/

section Cuts
variable {ℓ : Loc nD τ sig} {B : Type} [Fintype B] [DecidableEq B] (I : B → Finset (Idx ℓ))
  (hd : ∀ b b', b ≠ b' → Disjoint (I b) (I b')) (hc : ∀ i, ∃ n, i ∈ I n)

omit [FloatOps F] [DecidableEq B] in
include hd hc in
/-- A whole buffer is its parts; -/
theorem blocks_eq (f : Buf (Elt F) ℓ) : (ℓ ↦{fullShare} f : sProp 𝕄) = bigSep Finset.univ fun b => ℓ ↦[I b]{fullShare} f :=
  pointsTo_blocks I hd (by ext i; simpa using hc i) f
omit [FloatOps F] [DecidableEq B] in
include hd hc in
/-- at some contents it gives its parts, each at some contents; -/
theorem any_cut : (iprop(∃ f, ℓ ↦{fullShare} f) : sProp 𝕄) ⊢ bigSep Finset.univ fun b => iprop(∃ f, ℓ ↦[I b]{fullShare} f) := by
  iintro ⟨%f, H⟩
  iapply ((Entails.of_eq (blocks_eq I hd hc f)).trans (bigSep_mono fun n _ => (show (ℓ ↦[I n]{fullShare} f : sProp 𝕄) ⊢ iprop(∃ f, ℓ ↦[I n]{fullShare} f) from by
    iintro H; iexists f; iexact H))) $$ H
omit [FloatOps F] in
include hd hc in
/-- and the parts join again. -/
theorem any_join (f : Buf (Elt F) ℓ) : (bigSep Finset.univ fun b => iprop(∃ f, ℓ ↦[I b]{fullShare} f)) ⊢ (iprop(∃ f, ℓ ↦{fullShare} f) : sProp 𝕄) :=
  pointsTo_blocks_join_exists I hd (by ext i; simpa using hc i) f
end Cuts

omit [FloatOps F] in
theorem cm_cut (c : Dev nD) : iprop(∃ f, (c : Thread nD τ).loc cc0_scratch1 ↦{fullShare} f) ⊢ (bigSep Finset.univ (cmAny (F := F) c) : sProp 𝕄) :=
  any_cut (ℓ := (c : Thread nD τ).loc cc0_scratch1) I16 disj16 cover16
omit [FloatOps F] in
include m in
theorem cm_join (c : Dev nD) : (bigSep Finset.univ (cmAny (F := F) c) : sProp 𝕄) ⊢ iprop(∃ f, (c : Thread nD τ).loc cc0_scratch1 ↦{fullShare} f) :=
  any_join (ℓ := (c : Thread nD τ).loc cc0_scratch1) I16 disj16 cover16 (m ((c : Thread nD τ).loc cc0_scratch1))
omit [FloatOps F] in
theorem lg_cut (c : Dev nD) : iprop(∃ f, (c : Thread nD τ).loc cc0_scratch0 ↦{fullShare} f) ⊢ (bigSep Finset.univ (lgAny (F := F) c) : sProp 𝕄) :=
  any_cut (ℓ := (c : Thread nD τ).loc cc0_scratch0) I16 disj16 cover16
omit [FloatOps F] in
include m in
theorem lg_join (c : Dev nD) : (bigSep Finset.univ (lgAny (F := F) c) : sProp 𝕄) ⊢ iprop(∃ f, (c : Thread nD τ).loc cc0_scratch0 ↦{fullShare} f) :=
  any_join (ℓ := (c : Thread nD τ).loc cc0_scratch0) I16 disj16 cover16 (m ((c : Thread nD τ).loc cc0_scratch0))
omit [FloatOps F] in
theorem wb_cut (c : Dev nD) : iprop(∃ f, (c : Thread nD τ).loc cc0_scratch2 ↦{fullShare} f) ⊢ (bigSep Finset.univ (wbAny (F := F) c) : sProp 𝕄) :=
  any_cut (ℓ := (c : Thread nD τ).loc cc0_scratch2) I2 disj2 cover2
omit [FloatOps F] in
include m in
theorem wb_join (c : Dev nD) : (bigSep Finset.univ (wbAny (F := F) c) : sProp 𝕄) ⊢ iprop(∃ f, (c : Thread nD τ).loc cc0_scratch2 ↦{fullShare} f) :=
  any_join (ℓ := (c : Thread nD τ).loc cc0_scratch2) I2 disj2 cover2 (m ((c : Thread nD τ).loc cc0_scratch2))
omit [FloatOps F] in
theorem os_cut (c : Dev nD) : iprop(∃ f, (c : Thread nD τ).loc cc0_scratch3 ↦{fullShare} f) ⊢ (bigSep Finset.univ (osAny (F := F) c) : sProp 𝕄) :=
  any_cut (ℓ := (c : Thread nD τ).loc cc0_scratch3) I4 disj4 cover4
omit [FloatOps F] in
include m in
theorem os_join (c : Dev nD) : (bigSep Finset.univ (osAny (F := F) c) : sProp 𝕄) ⊢ iprop(∃ f, (c : Thread nD τ).loc cc0_scratch3 ↦{fullShare} f) :=
  any_join (ℓ := (c : Thread nD τ).loc cc0_scratch3) I4 disj4 cover4 (m ((c : Thread nD τ).loc cc0_scratch3))
omit [FloatOps F] in
theorem o_cut (c : Dev nD) : iprop(∃ f, (c : Thread nD τ).loc main_v1 ↦{fullShare} f) ⊢ (bigSep Finset.univ (oAny (F := F) c) : sProp 𝕄) :=
  any_cut (ℓ := (c : Thread nD τ).loc main_v1) IO disjO coverO

omit [FloatOps F] in
theorem wc_eq (c : Dev nD) : ((c : Thread nD τ).loc main_arg1 ↦{fullShare} wAll m c : sProp 𝕄) = bigSep Finset.univ (wcAt m c) :=
  blocks_eq (ℓ := (c : Thread nD τ).loc main_arg1) IW disjW coverW _
theorem o_eq (c : Dev nD) : ((c : Thread nD τ).loc main_v1 ↦{fullShare} OUT m c : sProp 𝕄) = bigSep Finset.univ (oAt m c) :=
  blocks_eq (ℓ := (c : Thread nD τ).loc main_v1) IO disjO coverO _

/-! ### Shares -/

theorem lgAt_split (c : Dev nD) (n : Fin 16) : lgAt m c n fullShare ⊣⊢ iprop(lgAt m c n fullShare.left ∗ lgAt m c n fullShare.right) :=
  pointsTo_share (PosShare.mem_left_op_right _)
theorem cmAt_split (c : Dev nD) (n : Fin 16) (q : PosShare TreeShare) : cmAt m c n q ⊣⊢ iprop(cmAt m c n q.left ∗ cmAt m c n q.right) :=
  pointsTo_share (PosShare.mem_left_op_right _)
theorem lgAt_any (c : Dev nD) (n : Fin 16) : lgAt m c n fullShare ⊢ lgAny c n := by
  unfold lgAt lgAny; iintro H; iexists _; iexact H
theorem cmAt_any (c : Dev nD) (n : Fin 16) : cmAt m c n fullShare ⊢ cmAny c n := by
  unfold cmAt cmAny; iintro H; iexists _; iexact H

end Cert.KernelIdeal.Body
end
-- ==== Proof.Protocol.lean ====
/- The protocol: the cells, what each of their rounds hands over, what each device owes and in which order it pays, and the
   levels of the waits. -/
module

public import proofs.«01_k».proof.Proof.Contents
public import Idealize.ShloMosaic.Lib.Pipeline.Kit

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The mesh's laws -/

theorem yp_yp (c : Dev nD) : yp (yp c) = c := by revert c; decide
theorem xp_xp (c : Dev nD) : xp (xp c) = c := by revert c; decide
theorem zp_zp (c : Dev nD) : zp (zp c) = c := by revert c; decide
theorem qm_yp (c : Dev nD) : qm (yp c) = qm c := by revert c; decide
theorem xp_zp (c : Dev nD) : xp (zp c) = zp (xp c) := by revert c; decide
def yE : Dev nD ≃ Dev nD := ⟨yp, yp, yp_yp, yp_yp⟩
def xE : Dev nD ≃ Dev nD := ⟨xp, xp, xp_xp, xp_xp⟩
def zE : Dev nD ≃ Dev nD := ⟨zp, zp, zp_zp, zp_zp⟩

/-! ## The cells -/

abbrev barCell (c : Dev nD) : GSem nD τ sig := ((c : Thread nD τ), .reg barS)
abbrev dCell (c : Dev nD) (n : ℕ) (h : n < 41) : GSem nD τ sig := ((c : Thread nD τ), .dma (dsem n h))

/-- The cells of a device: its barrier's, and those of its remote copies' semaphores. -/
def csem (k : Fin 35) : SemLoc sig := if k.val = 0 then .reg barS else .dma (dsem (6 + k.val) (by omega))
abbrev kcell (ck : Dev nD × Fin 35) : GSem nD τ sig := ((ck.1 : Thread nD τ), csem ck.2)
/-- The kernel's own semaphores. -/
def osem (k : Fin 40) : SemLoc sig := .dma (dsem (1 + k.val) (by omega))

/-- A slot's credit, and the statistics'. -/
abbrev NL : ℕ := (slot16 cmM 0).view.dmaCredit
abbrev NS : ℕ := (srM : Memref sig .tc .vmem S512x8 .f32).view.dmaCredit
theorem NL_pos : 0 < NL := View.dmaCredit_pos _ (by decide)
theorem NS_pos : 0 < NS := View.dmaCredit_pos _ (by decide)
/-- The credit of the semaphore number `n`. -/
def amtD (n : ℕ) : ℕ := if n < 39 then NL else NS
theorem amtD_pos (n : ℕ) : 0 < amtD n := by unfold amtD; split; exact NL_pos; exact NS_pos

/-- A number's place among four, and among two. -/
def j4 (k : ℕ) : Fin 4 := ⟨k % 4, by omega⟩
def j2 (k : ℕ) : Fin 2 := ⟨k % 2, by omega⟩

/-- What a wait on the semaphore number `n` of device `c` hands over. -/
def payD (c : Dev nD) (n : ℕ) : sProp 𝕄 :=
  if n < 11 then lgAt m c (qs (qm c) (j4 (n - 7))) fullShare.right
  else if n < 15 then cmAt m c (qs (qm c) (j4 (n - 11))) fullShare
  else if n < 19 then cmAt m c (qs (qm c) (j4 (n - 15))) fullShare.right.left
  else if n < 23 then cmAt m c (qs (qm (xp c)) (j4 (n - 19))) fullShare
  else if n < 27 then cmAt m c (qs (qm c) (j4 (n - 23))) fullShare.right.right
  else if n < 31 then cmAt m c (qs (qm (zp c)) (j4 (n - 27))) fullShare
  else if n < 33 then cmAt m c (qs (qm (zp c)) (j4 (n - 31))) fullShare.right
  else if n < 35 then cmAt m c (qs (qm (xp (zp c))) (j4 (n - 33))) fullShare
  else if n < 37 then cmAt m c (qs (qm (xp c)) (j4 (2 + (n - 35)))) fullShare.right
  else if n < 39 then cmAt m c (qs (qm (xp (zp c))) (j4 (2 + (n - 37)))) fullShare
  else if n < 40 then stAny c
  else srAt m c

/-- What the barrier unit of duty `d` hands over: the places in the signaller's buffers that device `c` is to write. -/
def barPay (c : Dev nD) (d : Fin 3) : sProp 𝕄 :=
  match d with
  | 0 => iprop(srAny (yp c) ∗ bigSep Finset.univ fun j : Fin 4 => cmAny (yp c) (qs (qm c) j))
  | 1 => iprop((bigSep Finset.univ fun j : Fin 4 => cmAny (xp c) (qs (qm c) j))
      ∗ bigSep Finset.univ fun j : Fin 2 => cmAny (xp c) (qs (qm (zp c)) ⟨j.val, by omega⟩))
  | 2 => iprop((bigSep Finset.univ fun j : Fin 4 => cmAny (zp c) (qs (qm c) j))
      ∗ bigSep Finset.univ fun j : Fin 2 => cmAny (zp c) (qs (qm (xp c)) ⟨2 + j.val, by omega⟩))

/-- The duties of a semaphore's one round. -/
def dutiesOf : SemLoc sig → Finset (Fin 3)
  | .reg _ => Finset.univ
  | .dma s => if 7 ≤ s.val then {0} else ∅
def amountOf' : SemLoc sig → ℕ
  | .reg _ => 1
  | .dma s => amtD s.val
def payOf (c : Dev nD) (sm : SemLoc sig) (d : Fin 3) : sProp 𝕄 :=
  match sm with
  | .reg _ => barPay c d
  | .dma s => payD m c s.val

/-- One round, round 0. -/
def Rd : Rounds.Schedule (GSem nD τ sig) (Fin 3) 𝕄 where
  duties g r := if r = 0 ∧ g.1.2 = .tc then dutiesOf g.2 else ∅
  unitless _ := False
  amount g _ _ := amountOf' g.2
  payload g _ d := payOf m g.1.1 g.2 d
  amount_pos g _ _ _ := by
    match h : g.2 with
    | .reg _ => exact Nat.one_pos
    | .dma _ => exact amtD_pos _

omit [FloatOps F] in
instance barPay_storable (c : Dev nD) (d : Fin 3) : BI.Storable (upEmb : UEmb _ 𝕄) (barPay (F := F) c d) := by
  unfold barPay; split <;> infer_instance
instance payD_storable (c : Dev nD) (n : ℕ) : BI.Storable (upEmb : UEmb _ 𝕄) (payD m c n) := by
  unfold payD; (repeat' split) <;> infer_instance
instance payload_storable (g : GSem nD τ sig) (r : ℕ) (d : Fin 3) : BI.Storable (upEmb : UEmb _ 𝕄) ((Rd m).payload g r d) := by
  show BI.Storable upEmb (payOf m g.1.1 g.2 d); unfold payOf; split <;> infer_instance

theorem duties_bar (c : Dev nD) : (Rd m).duties (barCell c) 0 = Finset.univ := by
  dsimp only [Rd]; exact if_pos ⟨rfl, rfl⟩
theorem duties_d (c : Dev nD) (n : ℕ) (h : n < 41) (h7 : 7 ≤ n) : (Rd m).duties (dCell c n h) 0 = {0} := by
  dsimp only [Rd]; rw [if_pos ⟨rfl, rfl⟩]; exact if_pos h7
theorem duties_later (g : GSem nD τ sig) : ∀ r, 1 ≤ r → (Rd m).duties g r = ∅ := fun r hr => by
  dsimp only [Rd]; exact if_neg fun h => by omega
theorem expect_bar (c : Dev nD) : (Rd m).expect (barCell c) 0 = 3 := by
  unfold Schedule.expect Schedule.amountOf; rw [duties_bar]; rfl
theorem expect_d (c : Dev nD) (n : ℕ) (h : n < 41) (h7 : 7 ≤ n) : (Rd m).expect (dCell c n h) 0 = amtD n := by
  unfold Schedule.expect Schedule.amountOf; rw [duties_d m c n h h7, Finset.sum_singleton]; rfl
theorem rest_d (c : Dev nD) (n : ℕ) (h : n < 41) (h7 : 7 ≤ n) :
    bigSep ((Rd m).duties (dCell c n h) 0 \ ∅) (fun d => (Rd m).payload (dCell c n h) 0 d) = payD m c n := by
  rw [Finset.sdiff_empty, duties_d m c n h h7, bigSep_singleton]; rfl
theorem rest_bar (c : Dev nD) :
    bigSep ((Rd m).duties (barCell c) 0 \ ∅) (fun d => (Rd m).payload (barCell c) 0 d) = iprop(barPay c 0 ∗ barPay c 1 ∗ barPay c 2) := by
  rw [Finset.sdiff_empty, duties_bar, bigSep_univ_eq_bigSepL [0, 1, 2] (by decide) (by decide)]; rfl

/-! ## What a device owes -/

/-- The peer, the semaphore and the amount of the twenty credits a device gives: `0–3` the quarter to the column neighbour,
    `4–7` and `8–11` the relays along the first and the last axis, `12, 13` and `14, 15` the second relays, `16` the
    statistics, `17–19` the barrier's units. -/
def peerT (c : Dev nD) (t : Fin 20) : Dev nD :=
  if t.val < 4 then yp c else if t.val < 8 then xp c else if t.val < 12 then zp c else if t.val < 14 then xp c else if t.val < 16 then zp c
  else if t.val < 18 then yp c else if t.val < 19 then xp c else zp c
def semT (t : Fin 20) : SemLoc sig :=
  if h : t.val < 4 then .dma (dsem (11 + t.val) (by omega)) else if h : t.val < 8 then .dma (dsem (15 + t.val) (by omega))
  else if h : t.val < 12 then .dma (dsem (19 + t.val) (by omega)) else if h : t.val < 14 then .dma (dsem (21 + t.val) (by omega))
  else if h : t.val < 16 then .dma (dsem (23 + t.val) (by omega)) else if t.val < 17 then .dma (dsem 40 (by omega)) else .reg barS
def amtT (t : Fin 20) : ℕ := if t.val < 16 then NL else if t.val < 17 then NS else 1
/-- When each is given, on a device of quarter `q`. -/
def timeT (q : Fin 4) (t : Fin 20) : ℕ :=
  if t.val < 4 then 15 + 10 * (4 * t.val + q.val)
  else if t.val < 12 then (if t.val % 4 = 0 then 100 else if t.val % 4 = 1 then 140 else if t.val % 4 = 2 then 170 else 175) + (t.val - 4) / 4
  else if t.val < 16 then 178 + t.val
  else if t.val < 17 then 180 else t.val - 17
def cellT (c : Dev nD) (t : Fin 20) : GSem nD τ sig := ((peerT c t : Thread nD τ), semT t)

/-- What device `c` owes at time `T`: what it has not given before. -/
def owed (c : Dev nD) (T : ℕ) : CellTallies nD τ sig Unit :=
  ∑ t ∈ Finset.univ.filter (fun t => T ≤ timeT (qm c) t), tallyAt (cellT c t) () (amtT t)

/-- One credit given between two times. -/
theorem owed_step (c : Dev nD) (T T' : ℕ) (t : Fin 20)
    (h : Finset.univ.filter (fun t => T ≤ timeT (qm c) t) = insert t (Finset.univ.filter (fun t => T' ≤ timeT (qm c) t)) ∧ timeT (qm c) t < T') :
    owed c T = owed c T' + tallyAt (cellT c t) () (amtT t) := by
  unfold owed
  rw [h.1, Finset.sum_insert (by simp only [Finset.mem_filter, Finset.mem_univ, true_and]; omega), add_comm]
/-- None given between two times. -/
theorem owed_same (c : Dev nD) (T T' : ℕ)
    (h : Finset.univ.filter (fun t => T ≤ timeT (qm c) t) = Finset.univ.filter (fun t => T' ≤ timeT (qm c) t)) : owed c T = owed c T' := by
  unfold owed; rw [h]
theorem owed_end (c : Dev nD) : owed c 194 = 0 := by
  have : ∀ q, Finset.univ.filter (fun t : Fin 20 => 194 ≤ timeT q t) = ∅ := by decide +kernel
  unfold owed; rw [this, Finset.sum_empty]

theorem owed_pos {c : Dev nD} {T : ℕ} {g : GSem nD τ sig} {u : Unit} (h : 0 < owed c T g u) :
    ∃ t, T ≤ timeT (qm c) t ∧ g = cellT c t := by
  by_contra hn
  push Not at hn
  refine absurd h (Nat.not_lt.mpr (Nat.le_of_eq ?_))
  unfold owed
  rw [Finset.sum_apply, Finsupp.finset_sum_apply]
  refine Finset.sum_eq_zero fun t ht => ?_
  rw [tallyAt_apply, if_neg]
  rintro ⟨rfl, -⟩
  exact hn t (Finset.mem_filter.mp ht).2 rfl

/-! ## The levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
/-- The barrier at 1, the quarters' arrivals in their order, then the first relays', then the second's and the statistics';
    everything else at 0. -/
def lvD (n : ℕ) : ℕ :=
  if n < 11 then 0 else if n < 15 then n - 9 else if n < 19 then 0 else if n < 23 then 6 else if n < 27 then 0 else if n < 31 then 6
  else if n < 33 then 0 else if n < 35 then 7 else if n < 37 then 0 else if n < 39 then 7 else if n < 40 then 0 else 7
def lvS : SemLoc sig → ℕ
  | .reg _ => 1
  | .dma s => lvD s.val
def lv (g : GSem nD τ sig) (_ : Unit) : ℕ := lvS g.2

omit [FloatOps F] in
/-- A wait is allowed below everything still owed. -/
theorem mayWait (c : Dev nD) (sm : SemLoc sig) (T : ℕ) (h : ∀ t, T ≤ timeT (qm c) t → lvS sm < lvS (semT t)) :
    (levAts L lv : sProp 𝕄) ⊢ MayWait (c : Thread nD τ) sm () (owed c T) :=
  MayOwe.of_cut (L := L) (lev := lv) (lvS sm) (fun p hp => by rw [Finset.mem_singleton.mp hp, L_tc]; exact Finset.mem_singleton_self _)
    (fun g u hg => by obtain ⟨t, -, rfl⟩ := owed_pos hg; exact Finset.mem_singleton_self _)
    (fun p hp => by rw [Finset.mem_singleton.mp hp]; exact le_refl _)
    (fun g u hg => by obtain ⟨t, ht, rfl⟩ := owed_pos hg; exact h t ht)

omit [FloatOps F] in
theorem mayWait_low (c : Dev nD) (n : ℕ) (hn : n < 41) (T : ℕ) (h : lvD n = 0) :
    (levAts L lv : sProp 𝕄) ⊢ MayWait (c : Thread nD τ) (.dma (dsem n hn)) () (owed c T) :=
  mayWait c _ T fun t _ => by
    have : ∀ t, 0 < lvS (semT t) := by decide +kernel
    show lvD n < _; rw [h]; exact this t

/-! ## The records -/

variable (K : Dev nD × Fin 35 → ℕ)

/-- Every cell's invariant, and that each has reached its round. -/
def records : sProp 𝕄 :=
  iprop((bigSep Finset.univ fun ck : Dev nD × Fin 35 => cellInv ER (Rd m) (K ck) (kcell ck))
    ∗ bigSep Finset.univ fun ck : Dev nD × Fin 35 => reached ER (kcell ck) 0)
instance records_persistent : BI.Persistent (records m K) := by unfold records; infer_instance
/-- They and the levels. -/
def ctx : sProp 𝕄 := iprop(records m K ∗ levAts L lv)
instance ctx_persistent : BI.Persistent (ctx m K) := by unfold ctx; infer_instance

/-- The number of the invariant's name of semaphore number `n`. -/
abbrev kd (n : ℕ) (h : n < 41) (h7 : 7 ≤ n) : Fin 35 := ⟨n - 6, by omega⟩
theorem kcell_d (c : Dev nD) (n : ℕ) (h : n < 41) (h7 : 7 ≤ n) : kcell (c, kd n h h7) = dCell c n h := by
  show ((c : Thread nD τ), csem _) = _
  unfold csem
  rw [if_neg (by show ¬ (n - 6 = 0); omega)]
  refine congrArg (fun s => ((c : Thread nD τ), SemLoc.dma s)) (Fin.ext ?_)
  show 6 + (n - 6) = n; omega
theorem kcell_bar (c : Dev nD) : kcell (c, 0) = barCell c := rfl

theorem inv_at (ck : Dev nD × Fin 35) : ctx m K ⊢ cellInv ER (Rd m) (K ck) (kcell ck) := by
  have h : (bigSep Finset.univ fun ck : Dev nD × Fin 35 => (cellInv ER (Rd m) (K ck) (kcell ck) : sProp 𝕄)) ⊢ cellInv ER (Rd m) (K ck) (kcell ck) :=
    bigSep_elim (Finset.mem_univ ck)
  unfold ctx records
  iintro ⟨⟨H, -⟩, -⟩
  iapply h $$ H
theorem reached_at (ck : Dev nD × Fin 35) : ctx m K ⊢ reached ER (kcell ck) 0 := by
  have h : (bigSep Finset.univ fun ck : Dev nD × Fin 35 => (reached ER (kcell ck) 0 : sProp 𝕄)) ⊢ reached ER (kcell ck) 0 :=
    bigSep_elim (Finset.mem_univ ck)
  unfold ctx records
  iintro ⟨⟨-, H⟩, -⟩
  iapply h $$ H
theorem ctx_inv (c : Dev nD) (n : ℕ) (h : n < 41) (h7 : 7 ≤ n) : ctx m K ⊢ cellInv ER (Rd m) (K (c, kd n h h7)) (dCell c n h) := by
  rw [← kcell_d c n h h7]; exact inv_at m K (c, kd n h h7)
theorem ctx_invBar (c : Dev nD) : ctx m K ⊢ cellInv ER (Rd m) (K (c, 0)) (barCell c) := inv_at m K (c, 0)
theorem ctx_reached (c : Dev nD) (n : ℕ) (h : n < 41) (h7 : 7 ≤ n) : ctx m K ⊢ reached ER (dCell c n h) 0 := by
  rw [← kcell_d c n h h7]; exact reached_at m K (c, kd n h h7)
theorem ctx_reachedBar (c : Dev nD) : ctx m K ⊢ reached ER (barCell c) 0 := reached_at m K (c, 0)
theorem ctx_levs : ctx m K ⊢ levAts L lv := by
  unfold ctx
  iintro ⟨-, H⟩; iexact H

end Cert.KernelIdeal.Body
end
-- ==== Proof.Moves.lean ====
/- The rules of the remote copies and of their waits on the protocol's cells. -/
module

public import proofs.«01_k».proof.Proof.Protocol

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

abbrev 𝒱₀ : Variants := Variants.none

/-- The run of a program on device `c` to a postcondition. -/
abbrev run (c : Dev nD) (Q : PUnit → sProp 𝕄) (p : P (F := F)) : sProp 𝕄 := wp frame (wpE (defs₀ (F := F)) 𝒱₀ (c : Thread nD τ) none) Set.univ p Q

/-- What device `c` owes from time `T` on. -/
def ow (c : Dev nD) (T : ℕ) : sProp 𝕄 := iprop(∃ W, owes (c : Thread nD τ) (owed c T) W)
omit [FloatOps F] in
theorem ow_same (c : Dev nD) {T T' : ℕ} (h : owed c T = owed c T') : ow (F := F) c T ⊢ ow c T' := by
  unfold ow; rw [h]

/-- The right to wait on semaphore number `n`. -/
def rcv (c : Dev nD) (n : ℕ) (h : n < 41) : sProp 𝕄 := iprop(cred (tallyAt (dCell c n h) () (amtD n)) ∗ atPos ER (dCell c n h) 0 ∅ 0)
/-- The token to pay it. -/
def tokD (c : Dev nD) (n : ℕ) (h : n < 41) : sProp 𝕄 := dutyTok ER (dCell c n h) 0 0
/-- The owner's place at it, the credit not yet there. -/
def posD (c : Dev nD) (n : ℕ) (h : n < 41) : sProp 𝕄 := atPos ER (dCell c n h) 0 ∅ 0
/-- Its counter at zero, closed. -/
def zeroD (c : Dev nD) (n : ℕ) (h : n < 41) : sProp 𝕄 := semVal (dCell c n h) 0

/-- A wait on a cell of the protocol. -/
theorem wp_waitD (c : Dev nD) (n : ℕ) (h : n < 41) (h7 : 7 ≤ n) {sp sp' : Space} {s s' : Shape} {e e' : EltTy}
    {src : Memref sig .tc sp' s' e'} {dst : Memref sig .tc sp s e} {hs : src.view.WordExact} {hd : dst.view.WordExact}
    (T : ℕ) (hN : dst.view.dmaCredit = amtD n) (hT : ∀ t, T ≤ timeT (qm c) t → lvD n < lvS (semT t)) {k : PUnit → P (F := F)} {Q : PUnit → sProp 𝕄} :
    iprop(ctx m K ∗ rcv c n h ∗ ow c T)
      ⊢ iprop(((ow c T ∗ payD m c n ∗ zeroD c n h) -∗ run c Q (k ⟨⟩)) -∗ run c Q (.op (.waitDma2 (dsem n h) src dst hs hd) k)) := by
  unfold ow rcv zeroD
  iintro ⟨#Hc, ⟨Hcr, Hat⟩, ⟨%W, Ho⟩⟩ Hk
  iapply (Rounds.wp_wait_rest_token 𝒱₀ ER (Rd m) (c : Thread nD τ) none (κ := K (c, kd n h h7))
      (wpE_waitDma2_eq 𝒱₀ (c : Thread nD τ) none Set.univ) (Set.mem_univ _) () (O := owed c T) (W := W) (R := 0) (m := 0) (T := ∅)
      (by rw [Nat.zero_add, expect_d m c n h h7, ← hN])) $$ [Hcr Ho Hat]
  · isplitr; · iapply (ctx_inv m K c n h h7) $$ Hc
    isplitl [Hcr]; · rw [hN]; iexact Hcr
    isplitl [Ho]; · iexact Ho
    isplitr; · iapply ((ctx_levs m K).trans (mayWait c (.dma (dsem n h)) T hT)) $$ Hc
    iexact Hat
  iintro ⟨Ho, Hat, -, Hpay⟩
  ihave Hp := (Entails.of_eq (rest_d m c n h h7)) $$ Hpay
  imod (Rounds.cell_close ER (Rd m) (Set.mem_univ (K (c, kd n h h7))) (fun h => h) (R := 0 + 1) (duties_later m (dCell c n h))) $$ [Hat] with Hz
  · isplitr; · iapply (ctx_inv m K c n h h7) $$ Hc
    iexact Hat
  iapply Hk
  isplitl [Ho]; · iexists _; iexact Ho
  isplitl [Hp] <;> iassumption

/-- A remote copy of a whole matrix between two of the protocol's cells. -/
theorem wp_sendD (c d : Dev nD) (ns nr : ℕ) (hs : ns < 41) (hr : nr < 41) (hs7 : 7 ≤ ns) (hr7 : 7 ≤ nr) {s : Shape} {e : EltTy}
    {src : Memref sig .tc .vmem s e} {dst : Memref sig .tc .vmem s e} {hx : src.view.WordExact} {hy : dst.view.WordExact}
    {hsc : (dst : Memref sig (Dev.tc d : Thread nD τ).2.kind .vmem s e).view.ref.isScScratch = false}
    {hsem : DmaTarget.Typed .vmem (.dma (dsem nr hr)) (.remote (Dev.tc d : Thread nD τ) dst (.dma (dsem ns hs)) hsc)}
    (T T' N : ℕ) (hN : dst.view.dmaCredit = N) (hN₁ : amtD ns = N) (hN₂ : amtD nr = N)
    (hO : owed c T = owed c T' + tallyAt (dCell d nr hr) () N) {q : PosShare TreeShare}
    {fs : Buf (Elt F) (src.view.loc (c : Thread nD τ))} {fd : Buf (Elt F) (dst.view.loc (d : Thread nD τ))}
    (h₁ : (src.view.loc (c : Thread nD τ) ↦[src.view.set]{q} fs : sProp 𝕄) ⊢ payD m c ns)
    (h₂ : (dst.view.loc (d : Thread nD τ) ↦[dst.view.set]{fullShare} (dst.view.write (Elt F) fd (src.view.read (Elt F) fs) Finset.univ) : sProp 𝕄) ⊢ payD m d nr)
    {k : PUnit → P (F := F)} {Q : PUnit → sProp 𝕄} :
    iprop(ctx m K ∗ (src.view.loc (c : Thread nD τ) ↦[src.view.set]{q} fs) ∗ (dst.view.loc (d : Thread nD τ) ↦[dst.view.set]{fullShare} fd)
        ∗ ow c T ∗ tokD c ns hs ∗ tokD d nr hr)
      ⊢ iprop(((cred (tallyAt (dCell c ns hs) () (amtD ns)) ∗ ow c T') -∗ run c Q (k ⟨⟩))
          -∗ run c Q (.op (.enqueueDma src (.remote (Dev.tc d : Thread nD τ) dst (.dma (dsem ns hs)) hsc) (.dma (dsem nr hr)) hx hy hsem) k)) := by
  unfold ow tokD
  iintro ⟨#Hc, Hs, Hd, ⟨%W, Ho⟩, Ht₁, Ht₂⟩ Hk
  iapply (Rounds.wp_send_pointsTo 𝒱₀ ER (Rd m) (c : Thread nD τ) none (κ₁ := K (c, kd ns hs hs7)) (κ₂ := K (d, kd nr hr hr7))
    (r₁ := 0) (r₂ := 0) (d₁ := 0) (d₂ := 0) (fd := fd) (fs := fs) (q := q)
    (by rw [duties_d m c ns hs hs7]; exact Finset.mem_singleton_self _) (by rw [duties_d m d nr hr hr7]; exact Finset.mem_singleton_self _)
    (sS := .dma (dsem ns hs)) (sem := .dma (dsem nr hr)) () () N (show dst.view.amount (.dma (dsem nr hr)) = N from hN) hN₁ hN₂ (owed c T') hO (W := W) h₁ h₂) $$ [Hs Hd Ho Ht₁ Ht₂]
  · isplitr; · iapply (ctx_inv m K c ns hs hs7) $$ Hc
    isplitr; · iapply (ctx_inv m K d nr hr hr7) $$ Hc
    isplitl [Hs]; · iexact Hs
    isplitl [Hd]; · iexact Hd
    isplitl [Ho]; · iexact Ho
    isplitl [Ht₁]; · iexact Ht₁
    isplitr; · iapply (ctx_reached m K c ns hs hs7) $$ Hc
    isplitl [Ht₂]; · iexact Ht₂
    iapply (ctx_reached m K d nr hr hr7) $$ Hc
  iintro ⟨Hcr, Ho⟩
  iapply Hk
  isplitl [Hcr]; · rw [hN₁]; iexact Hcr
  iexists _; iexact Ho

/-- A unit to a neighbour's barrier. -/
theorem wp_sigBar (c d : Dev nD) (du : Fin 3) (T T' : ℕ) (hO : owed c T = owed c T' + tallyAt (barCell d) () 1) {k : PUnit → P (F := F)} {Q : PUnit → sProp 𝕄} :
    iprop(ctx m K ∗ ow c T ∗ dutyTok ER (barCell d) 0 du ∗ barPay d du)
      ⊢ iprop((ow c T' -∗ run c Q (k ⟨⟩)) -∗ run c Q (.op (.semSignal (Dev.tc d) barS 1) k)) := by
  unfold ow
  iintro ⟨#Hc, ⟨%W, Ho⟩, Ht, Hp⟩ Hk
  iapply (Rounds.wp_signal 𝒱₀ ER (Rd m) (c : Thread nD τ) none (dst := (d : Thread nD τ)) (κ := K (d, 0))
      (d := du) (by rw [duties_bar]; exact Finset.mem_univ _) rfl () (owed c T') hO) $$ [Ho Ht Hp]
  · isplitr; · iapply (ctx_invBar m K d) $$ Hc
    isplitl [Ho]; · iexact Ho
    isplitl [Ht]; · iexact Ht
    isplitl [Hp]; · rw [show (Rd m).payload (barCell d) 0 du = barPay d du from rfl]; iexact Hp
    iapply (ctx_reachedBar m K d) $$ Hc
  iintro Ho
  iapply Hk
  iexists _; iexact Ho

/-- The wait on the barrier. -/
theorem wp_waitBar (c : Dev nD) (T : ℕ) (hT : ∀ t, T ≤ timeT (qm c) t → 1 < lvS (semT t)) {k : PUnit → P (F := F)} {Q : PUnit → sProp 𝕄} :
    iprop(ctx m K ∗ cred (tallyAt (barCell c) () 3) ∗ atPos ER (barCell c) 0 ∅ 0 ∗ ow c T)
      ⊢ iprop(((ow c T ∗ (barPay c 0 ∗ barPay c 1 ∗ barPay c 2) ∗ semVal (barCell c) 0) -∗ run c Q (k ⟨⟩)) -∗ run c Q (.op (.semWait barS 3) k)) := by
  unfold ow
  iintro ⟨#Hc, Hcr, Hat, ⟨%W, Ho⟩⟩ Hk
  iapply (Rounds.wp_wait_rest_token 𝒱₀ ER (Rd m) (c : Thread nD τ) none (κ := K (c, 0))
      (wpE_semWait_eq 𝒱₀ (c : Thread nD τ) none Set.univ) (Set.mem_univ _) () (O := owed c T) (W := W) (R := 0) (m := 0) (T := ∅)
      (by rw [expect_bar])) $$ [Hcr Ho Hat]
  · isplitr; · iapply (ctx_invBar m K c) $$ Hc
    isplitl [Hcr]; · iexact Hcr
    isplitl [Ho]; · iexact Ho
    isplitr; · iapply ((ctx_levs m K).trans (mayWait c (.reg barS) T hT)) $$ Hc
    iexact Hat
  iintro ⟨Ho, Hat, -, Hpay⟩
  ihave Hp := (Entails.of_eq (rest_bar m c)) $$ Hpay
  imod (Rounds.cell_close ER (Rd m) (Set.mem_univ (K (c, 0))) (fun h => h) (R := 0 + 1) (duties_later m (barCell c))) $$ [Hat] with Hz
  · isplitr; · iapply (ctx_invBar m K c) $$ Hc
    iexact Hat
  iapply Hk
  isplitl [Ho]; · iexists _; iexact Ho
  isplitl [Hp] <;> iassumption

/-! ## The slots, as the views name them -/

omit [FloatOps F] in
theorem set_lg (n : Fin 16) : (slot16 lgM n).view.set = I16 n := by rw [View.set_reshape]; exact View.set_slice_whole _ _
omit [FloatOps F] in
theorem set_cm (n : Fin 16) : (slot16 cmM n).view.set = I16 n := by rw [View.set_reshape]; exact View.set_slice_whole _ _

theorem lgAt_eq (c : Dev nD) (n : Fin 16) (q : PosShare TreeShare) :
    lgAt m c n q = ((slot16 lgM n).view.loc (c : Thread nD τ) ↦[(slot16 lgM n).view.set]{q} LG m c : sProp 𝕄) := by
  unfold lgAt; rw [set_lg]
theorem cmAt_eq (c : Dev nD) (n : Fin 16) (q : PosShare TreeShare) :
    cmAt m c n q = ((slot16 cmM n).view.loc (c : Thread nD τ) ↦[(slot16 cmM n).view.set]{q} CM m c : sProp 𝕄) := by
  unfold cmAt; rw [set_cm]
omit [FloatOps F] in
theorem cmAny_eq (c : Dev nD) (n : Fin 16) :
    cmAny c n = (iprop(∃ f, (slot16 cmM n).view.loc (c : Thread nD τ) ↦[(slot16 cmM n).view.set]{fullShare} f) : sProp 𝕄) := by
  unfold cmAny; rw [set_cm]

theorem CM_xp (c : Dev nD) : CM m (xp c) = CM m c := by
  have h : ∀ (c : Dev nD) n, org (xp c) n = org c n := by decide
  unfold CM CMv; simp only [h]
theorem CM_zp (c : Dev nD) : CM m (zp c) = CM m c := by
  have h : ∀ (c : Dev nD) n, org (zp c) n = org c n := by decide
  unfold CM CMv; simp only [h]
theorem CMv_yp (c : Dev nD) (j : Fin 4) : CMv m (yp c) (qs (qm c) j) = LGv m c (qs (qm c) j) := by
  have h : ∀ (c : Dev nD) j, org (yp c) (qs (qm c) j) = c := by decide
  unfold CMv; rw [h]

/-- What lands from the column neighbour's own logits. -/
theorem land_lg (c : Dev nD) (j : Fin 4) (fd : Vec F S16x512x512 .bf16) :
    ((slot16 cmM (qs (qm c) j)).view.loc (yp c : Thread nD τ) ↦[(slot16 cmM (qs (qm c) j)).view.set]{fullShare}
      ((slot16 cmM (qs (qm c) j)).view.write (Elt F) fd ((slot16 lgM (qs (qm c) j)).view.read (Elt F) (LG m c)) Finset.univ) : sProp 𝕄)
      = cmAt m (yp c) (qs (qm c) j) fullShare := by
  rw [cmAt_eq]
  exact write_pts (c := (yp c : Thread nD τ)) (slot16 cmM (qs (qm c) j)).view fullShare fd (CM m (yp c)) _
    (read_slot16 (qs (qm c) j) (LGv m c) (CMv m (yp c)) (CMv_yp m c j).symm).symm
/-- What lands from another buffer of the other half's logits. -/
theorem land_cm (c d : Dev nD) (n : Fin 16) (h : CM m d = CM m c) (fd : Vec F S16x512x512 .bf16) :
    ((slot16 cmM n).view.loc (d : Thread nD τ) ↦[(slot16 cmM n).view.set]{fullShare}
      ((slot16 cmM n).view.write (Elt F) fd ((slot16 cmM n).view.read (Elt F) (CM m c)) Finset.univ) : sProp 𝕄)
      = cmAt m d n fullShare := by
  rw [cmAt_eq]
  exact write_pts (c := (d : Thread nD τ)) (slot16 cmM n).view fullShare fd (CM m d) _ (by rw [h])

/-! ## The payloads, by kind -/

theorem j4_add (a : ℕ) (j : Fin 4) : j4 (a + j.val - a) = j := Fin.ext (by show (a + j.val - a) % 4 = j.val; omega)
theorem j4_two (a : ℕ) (j : Fin 2) : j4 (a + j.val - a) = ⟨j.val, by omega⟩ := Fin.ext (by show (a + j.val - a) % 4 = j.val; omega)
theorem j4_two' (a : ℕ) (j : Fin 2) : j4 (2 + (a + j.val - a)) = ⟨2 + j.val, by omega⟩ := Fin.ext (by show (2 + (a + j.val - a)) % 4 = 2 + j.val; omega)

section Pay
variable (c : Dev nD)
theorem pay_sy (j : Fin 4) : payD m c (7 + j.val) = lgAt m c (qs (qm c) j) fullShare.right := by
  unfold payD; rw [if_pos (by omega), j4_add]
theorem pay_ry (j : Fin 4) : payD m c (11 + j.val) = cmAt m c (qs (qm c) j) fullShare := by
  unfold payD; rw [if_neg (by omega), if_pos (by omega), j4_add]
theorem pay_sx1 (j : Fin 4) : payD m c (15 + j.val) = cmAt m c (qs (qm c) j) fullShare.right.left := by
  unfold payD; rw [if_neg (by omega), if_neg (by omega), if_pos (by omega), j4_add]
theorem pay_rx1 (j : Fin 4) : payD m c (19 + j.val) = cmAt m c (qs (qm (xp c)) j) fullShare := by
  unfold payD; rw [if_neg (by omega), if_neg (by omega), if_neg (by omega), if_pos (by omega), j4_add]
theorem pay_sz1 (j : Fin 4) : payD m c (23 + j.val) = cmAt m c (qs (qm c) j) fullShare.right.right := by
  unfold payD; rw [if_neg (by omega), if_neg (by omega), if_neg (by omega), if_neg (by omega), if_pos (by omega), j4_add]
theorem pay_rz1 (j : Fin 4) : payD m c (27 + j.val) = cmAt m c (qs (qm (zp c)) j) fullShare := by
  unfold payD; rw [if_neg (by omega), if_neg (by omega), if_neg (by omega), if_neg (by omega), if_neg (by omega), if_pos (by omega), j4_add]
theorem pay_sx2 (j : Fin 2) : payD m c (31 + j.val) = cmAt m c (qs (qm (zp c)) ⟨j.val, by omega⟩) fullShare.right := by
  unfold payD; rw [if_neg (by omega), if_neg (by omega), if_neg (by omega), if_neg (by omega), if_neg (by omega), if_neg (by omega), if_pos (by omega), j4_two]
theorem pay_rx2 (j : Fin 2) : payD m c (33 + j.val) = cmAt m c (qs (qm (xp (zp c))) ⟨j.val, by omega⟩) fullShare := by
  unfold payD; rw [if_neg (by omega), if_neg (by omega), if_neg (by omega), if_neg (by omega), if_neg (by omega), if_neg (by omega), if_neg (by omega), if_pos (by omega), j4_two]
theorem pay_sz2 (j : Fin 2) : payD m c (35 + j.val) = cmAt m c (qs (qm (xp c)) ⟨2 + j.val, by omega⟩) fullShare.right := by
  unfold payD; rw [if_neg (by omega), if_neg (by omega), if_neg (by omega), if_neg (by omega), if_neg (by omega), if_neg (by omega), if_neg (by omega), if_neg (by omega), if_pos (by omega), j4_two']
theorem pay_rz2 (j : Fin 2) : payD m c (37 + j.val) = cmAt m c (qs (qm (xp (zp c))) ⟨2 + j.val, by omega⟩) fullShare := by
  unfold payD; rw [if_neg (by omega), if_neg (by omega), if_neg (by omega), if_neg (by omega), if_neg (by omega), if_neg (by omega), if_neg (by omega), if_neg (by omega), if_neg (by omega), if_pos (by omega), j4_two']
end Pay

theorem amt_lo {n : ℕ} (h : n < 39) : amtD n = NL := if_pos h

omit [FloatOps F] in
theorem credit_cm (n : Fin 16) : (slot16 cmM n).view.dmaCredit = NL := by
  unfold NL View.dmaCredit; rfl
omit [FloatOps F] in
theorem credit_lg (n : Fin 16) : (slot16 lgM n).view.dmaCredit = NL := by
  unfold NL View.dmaCredit; rfl

/-! ## The five kinds of copies -/

omit [FloatOps F] in
theorem cellT_eq (c : Dev nD) (t : Fin 20) (d : Dev nD) (n : ℕ) (h : n < 41) (hd : peerT c t = d) (hn : semT t = .dma (dsem n h)) :
    cellT c t = dCell d n h := by unfold cellT; rw [hd, hn]

/-- A slot of the device's own logits to the column neighbour. -/
theorem wp_sendY (c : Dev nD) (j : Fin 4) (T T' : ℕ) (hO : owed c T = owed c T' + tallyAt (dCell (yp c) (11 + j.val) (by omega)) () NL)
    {k : P (F := F)} {Q : PUnit → sProp 𝕄} :
    iprop(ctx m K ∗ lgAt m c (qs (qm c) j) fullShare.right ∗ cmAny (yp c) (qs (qm c) j) ∗ ow c T
        ∗ tokD c (7 + j.val) (by omega) ∗ tokD (yp c) (11 + j.val) (by omega))
      ⊢ iprop(((cred (tallyAt (dCell c (7 + j.val) (by omega)) () (amtD (7 + j.val))) ∗ ow c T') -∗ run c Q k)
          -∗ run c Q (send lgM (Memref.isWhole_whole _) (qs (qm c) j) (yp c) (sySem j) (rySem j) k)) := by
  rw [lgAt_eq, cmAny_eq]
  iintro ⟨#Hc, Hs, ⟨%fd, Hd⟩, Ho, Ht⟩ Hk
  unfold send
  iapply (wp_sendD m K (fs := LG m c) (fd := fd) (q := fullShare.right) c (yp c) (7 + j.val) (11 + j.val) _ _ (Nat.le_add_right 7 _) (Nat.le_trans (by decide) (Nat.le_add_right 11 _)) T T' NL (credit_cm _) (amt_lo (by omega)) (amt_lo (by omega)) hO
    (Entails.of_eq (by rw [pay_sy, lgAt_eq])) (Entails.of_eq (by
      have := pay_ry m (yp c) j
      rw [qm_yp] at this
      rw [this, land_lg]))) $$ [Hs Hd Ho Ht]
  · isplitr; · iexact Hc
    isplitl [Hs]; · iexact Hs
    isplitl [Hd]; · iexact Hd
    isplitl [Ho]; · iexact Ho
    iexact Ht
  iexact Hk

/-- A slot of the other half's logits on to a neighbour. -/
theorem wp_sendC (c d : Dev nD) (n : Fin 16) (ns nr : ℕ) (hs : ns < 39) (hr : nr < 39) (hs7 : 7 ≤ ns) (hr7 : 7 ≤ nr) (q : PosShare TreeShare)
    (hd : CM m d = CM m c) (h₁ : payD m c ns = cmAt m c n q) (h₂ : payD m d nr = cmAt m d n fullShare)
    (T T' : ℕ) (hO : owed c T = owed c T' + tallyAt (dCell d nr (by omega)) () NL)
    {k : P (F := F)} {Q : PUnit → sProp 𝕄} :
    iprop(ctx m K ∗ cmAt m c n q ∗ cmAny d n ∗ ow c T ∗ tokD c ns (by omega) ∗ tokD d nr (by omega))
      ⊢ iprop(((cred (tallyAt (dCell c ns (by omega)) () (amtD ns)) ∗ ow c T') -∗ run c Q k)
          -∗ run c Q (send cmM (Memref.isWhole_whole _) n d (dsem ns (by omega)) (dsem nr (by omega)) k)) := by
  rw [cmAt_eq, cmAny_eq]
  iintro ⟨#Hc, Hs, ⟨%fd, Hd⟩, Ho, Ht⟩ Hk
  unfold send
  iapply (wp_sendD m K (fs := CM m c) (fd := fd) (q := q) c d ns nr (Nat.lt_trans hs (by decide)) (Nat.lt_trans hr (by decide)) hs7 hr7 T T' NL (credit_cm _) (amt_lo hs) (amt_lo hr) hO
    (Entails.of_eq (by rw [h₁, cmAt_eq])) (Entails.of_eq (by rw [h₂, land_cm m c d n hd]))) $$ [Hs Hd Ho Ht]
  · isplitr; · iexact Hc
    isplitl [Hs]; · iexact Hs
    isplitl [Hd]; · iexact Hd
    isplitl [Ho]; · iexact Ho
    iexact Ht
  iexact Hk

end Cert.KernelIdeal.Body
end
-- ==== Proof.Locals.lean ====
/- The rules of the device's own steps: loads and stores of slots, the weights' copies in and the results' copies out. -/
module

public import proofs.«01_k».proof.Proof.Moves

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

/-! ## Loads and stores of slots -/

omit [FloatOps F] in
theorem acc_lg (n : Fin 16) : (lgM.access (r16 n)).set = I16 n := View.set_slice_whole _ _
omit [FloatOps F] in
theorem acc_cm (n : Fin 16) : (cmM.access (r16 n)).set = I16 n := View.set_slice_whole _ _
omit [FloatOps F] in
theorem acc_os (n : Fin 4) : (osM.access (r4 n)).set = I4 n := View.set_slice_whole _ _
omit [FloatOps F] in
theorem acc_wb (n : Fin 2) : (wbM.access (r2 n)).set = I2 n := View.set_slice_whole _ _

theorem wp_ldLg (c : Dev nD) (n : Fin 16) (q : PosShare TreeShare) {k : Vec F S1x512x512 .bf16 → P (F := F)} {Q : PUnit → sProp 𝕄} :
    lgAt m c n q ⊢ iprop((lgAt m c n q -∗ run c Q (k (LGv m c n))) -∗ run c Q (ld16 lgM n k)) := by
  unfold lgAt ld16
  rw [show LGv m c n = (lgM.access (r16 n)).read (Elt F) (LG m c) from (read_lg n _).symm]
  exact wp_load_rect (defs := defs₀ (F := F)) 𝒱₀ (c : Thread nD τ) none Set.univ (m := lgM) (r := r16 n) (hl := View.loadsAt_vmem h_S1x512x512)
    (S := I16 n) (q := q) (f := LG m c) (by rw [acc_lg])

theorem wp_ldCm (c : Dev nD) (n : Fin 16) (q : PosShare TreeShare) {k : Vec F S1x512x512 .bf16 → P (F := F)} {Q : PUnit → sProp 𝕄} :
    cmAt m c n q ⊢ iprop((cmAt m c n q -∗ run c Q (k (CMv m c n))) -∗ run c Q (ld16 cmM n k)) := by
  unfold cmAt ld16
  rw [show CMv m c n = (cmM.access (r16 n)).read (Elt F) (CM m c) from (read_cm n _).symm]
  exact wp_load_rect (defs := defs₀ (F := F)) 𝒱₀ (c : Thread nD τ) none Set.univ (m := cmM) (r := r16 n) (hl := View.loadsAt_vmem h_S1x512x512)
    (S := I16 n) (q := q) (f := CM m c) (by rw [acc_cm])

/-- A load whose result is not used. -/
theorem wp_ldLgAny (c : Dev nD) (n : Fin 16) {k : P (F := F)} {Q : PUnit → sProp 𝕄} :
    lgAny c n ⊢ iprop((lgAny c n -∗ run c Q k) -∗ run c Q (ld16 lgM n fun _ => k)) := by
  unfold lgAny ld16
  iintro ⟨%f, H⟩ Hk
  iapply (wp_load_rect (defs := defs₀ (F := F)) 𝒱₀ (c : Thread nD τ) none Set.univ (m := lgM) (r := r16 n) (hl := View.loadsAt_vmem h_S1x512x512)
    (S := I16 n) (q := fullShare) (f := f) (by rw [acc_lg])) $$ H
  iintro H
  iapply Hk
  iexists f; iexact H

theorem wp_stLg (c : Dev nD) (n : Fin 16) {k : P (F := F)} {Q : PUnit → sProp 𝕄} :
    lgAny c n ⊢ iprop((lgAt m c n fullShare -∗ run c Q k) -∗ run c Q (stLg n (LGv m c n) k)) := by
  unfold lgAny stLg
  iintro ⟨%f, H⟩ Hk
  iapply (wp_store (defs := defs₀ (F := F)) 𝒱₀ (c : Thread nD τ) none Set.univ (m := lgM) (r := r16 n) (Mk := Finset.univ) (S := I16 n) (f := f)
    (by rw [← acc_lg]; exact View.setOn_subset_set _ _)) $$ H
  iintro H
  iapply Hk
  iapply (Entails.of_eq (show ((lgM.access (r16 n)).loc (c : Thread nD τ) ↦[I16 n]{fullShare} _ : sProp 𝕄) = lgAt m c n fullShare from by
    rw [← acc_lg]
    refine (write_pts (c := (c : Thread nD τ)) (lgM.access (r16 n)) fullShare f (LG m c) (LGv m c n) (read_lg n _)).trans ?_
    unfold lgAt; rw [acc_lg])) $$ H

theorem wp_ldWb (c : Dev nD) (b : Fin 2) (n : Fin 16) {k : Vec F S1x1024x512 .f32 → P (F := F)} {Q : PUnit → sProp 𝕄} :
    wbAt m c b n ⊢ iprop((wbAt m c b n -∗ run c Q (k (wV m c n)))
      -∗ run c Q (.op (.load wbM (r2 b).toLoadRect (View.loadsAt_vmem h_S1x1024x512)) k)) := by
  unfold wbAt
  rw [show wV m c n = (wbM.access (r2 b)).read (Elt F) (wBuf m c n) from (read_wb m c b n).symm]
  exact wp_load_rect (defs := defs₀ (F := F)) 𝒱₀ (c : Thread nD τ) none Set.univ (m := wbM) (r := r2 b) (hl := View.loadsAt_vmem h_S1x1024x512)
    (S := I2 b) (q := fullShare) (f := wBuf m c n) (by rw [acc_wb])

/-! ## The weights' copies -/

/-- Chunk `k` of the weights on its way to half `b`. -/
def wFl (c : Dev nD) (k : Fin 16) (b : Fin 2) : sProp 𝕄 :=
  Flight EC (c : Thread nD τ) (.dma (wSem b)) () (slot2 b).view.dmaCredit iprop(wbAt m c b k ∗ wcAt m c k)
/-- Half `b` free. -/
def wFree (c : Dev nD) (b : Fin 2) : sProp 𝕄 := iprop(wbAny c b ∗ zeroD c (1 + b.val) (by omega))

omit [FloatOps F] in
theorem set_wb (b : Fin 2) : (slot2 b).view.set = I2 b := by rw [View.set_reshape]; exact View.set_slice_whole _ _
omit [FloatOps F] in
theorem set_wc (k : Fin 16) : (wCol k).view.set = IW k := View.set_slice_whole _ _

omit [FloatOps F] in
theorem land_w (c : Dev nD) (k : Fin 16) (b : Fin 2) (fd : Vec F S2x1024x512 .f32) :
    ((slot2 b).view.loc (c : Thread nD τ) ↦[(slot2 b).view.set]{fullShare}
      ((slot2 b).view.write (Elt F) fd ((wCol k).view.read (Elt F) (wAll m c)) Finset.univ) : sProp 𝕄) = wbAt m c b k := by
  refine (write_pts (c := (c : Thread nD τ)) (slot2 b).view fullShare fd (wBuf m c k) _ (read_wCol m c k b)).trans ?_
  unfold wbAt; rw [set_wb]

theorem wp_wCopy (c : Dev nD) (k : Fin 16) (b : Fin 2) {p : P (F := F)} {Q : PUnit → sProp 𝕄} :
    iprop(wcAt m c k ∗ wFree c b) ⊢ iprop((wFl m c k b -∗ run c Q p) -∗ run c Q (wCopy k b p)) := by
  unfold wFree wbAny zeroD wcAt wCopy
  iintro ⟨Hs, ⟨%fd, Hd⟩, Hz⟩ Hk
  iapply (wp_dmaLocal EC 𝒱₀ (c : Thread nD τ) none (src := wCol k) (dst := slot2 b) (sm := .dma (wSem b)) (fs := wAll m c) (fd := fd) (q := fullShare)
    (Sd := (slot2 b).view.set) () (slot2 b).view.dmaCredit rfl (View.dmaCredit_pos _ (by decide)) (Finset.Subset.refl _)) $$ [Hs Hd Hz]
  · rw [set_wc, set_wb]
    isplitl [Hs]; · iexact Hs
    isplitl [Hd]; · iexact Hd
    iexact Hz
  iintro Hf
  iapply Hk
  unfold wFl
  have h : iprop(((slot2 b).view.loc (c : Thread nD τ) ↦[(slot2 b).view.set]{fullShare}
        ((slot2 b).view.write (Elt F) fd ((wCol k).view.read (Elt F) (wAll m c)) Finset.univ))
      ∗ ((wCol k).view.loc (c : Thread nD τ) ↦[(wCol k).view.set]{fullShare} wAll m c)) ⊢ (iprop(wbAt m c b k ∗ wcAt m c k) : sProp 𝕄) := by
    rw [land_w, set_wc]; exact .rfl
  iapply (Flight_mono EC (c : Thread nD τ) h) $$ Hf

theorem wp_wWait (c : Dev nD) (k : Fin 16) (b : Fin 2) (T : ℕ) {p : P (F := F)} {Q : PUnit → sProp 𝕄} :
    iprop(ctx m K ∗ wFl m c k b ∗ ow c T)
      ⊢ iprop(((wbAt m c b k ∗ wcAt m c k ∗ zeroD c (1 + b.val) (by omega) ∗ ow c T) -∗ run c Q p) -∗ run c Q (wWait k b p)) := by
  unfold wFl ow wWait
  iintro ⟨#Hc, Hf, ⟨%W, Ho⟩⟩ Hk
  iapply (wp_waitLocalO EC 𝒱₀ (c : Thread nD τ) none (O := owed c T) (W := W) () rfl) $$ [Hf Ho]
  · isplitl [Hf]; · iexact Hf
    isplitl [Ho]; · iexact Ho
    iapply ((ctx_levs m K).trans (mayWait_low c (1 + b.val) _ T (if_pos (by omega)))) $$ Hc
  iintro ⟨⟨Hd, Hs⟩, Hz, Ho⟩
  iapply Hk
  unfold zeroD
  isplitl [Hd]; · iexact Hd
  isplitl [Hs]; · iexact Hs
  isplitl [Hz]; · iexact Hz
  iexists _; iexact Ho

/-! ## The results' copies -/

/-- The tile of column chunk `k` on its way out from slot `b`. -/
def oFl (c : Dev nD) (b : Fin 4) (k : Fin 32) : sProp 𝕄 :=
  Flight EC (c : Thread nD τ) (.dma (oSem b)) () (oCol k).view.dmaCredit iprop(oAt m c k ∗ osAny c b)
/-- Slot `b` free. -/
def oFree (c : Dev nD) (b : Fin 4) : sProp 𝕄 := iprop(osAny c b ∗ zeroD c (3 + b.val) (by omega))

omit [FloatOps F] in
theorem set_os (b : Fin 4) : (slot4 b).view.set = I4 b := by rw [View.set_reshape]; exact View.set_slice_whole _ _
omit [FloatOps F] in
theorem set_oc (k : Fin 32) : (oCol k).view.set = IO k := View.set_slice_whole _ _

theorem land_o (c : Dev nD) (k : Fin 32) (b : Fin 4) (fd : Vec F S512x16384 .bf16) :
    ((oCol k).view.loc (c : Thread nD τ) ↦[(oCol k).view.set]{fullShare}
      ((oCol k).view.write (Elt F) fd ((slot4 b).view.read (Elt F) (pack4 (outT m c k))) Finset.univ) : sProp 𝕄) = oAt m c k := by
  refine (write_pts (c := (c : Thread nD τ)) (oCol k).view fullShare fd (OUT m c) _ (read_oCol k b (outT m c))).trans ?_
  unfold oAt; rw [set_oc]

theorem wp_putOut (c : Dev nD) (b : Fin 4) (v : FVec F S1x512x512 .bf16) (k : Fin 32) (hv : v = outT m c k) {p : P (F := F)} {Q : PUnit → sProp 𝕄} :
    iprop(oFree c b ∗ oAny c k) ⊢ iprop((oFl m c b k -∗ run c Q p) -∗ run c Q (putOut b v k p)) := by
  subst hv
  unfold oFree osAny oAny zeroD putOut
  iintro ⟨⟨⟨%fs, Hs⟩, Hz⟩, ⟨%fd, Hd⟩⟩ Hk
  iapply (wp_load_rect (defs := defs₀ (F := F)) 𝒱₀ (c : Thread nD τ) none Set.univ (m := osM) (r := r4 b) (hl := View.loadsAt_vmem h_S1x512x512)
    (S := I4 b) (q := fullShare) (f := fs) (by rw [acc_os])) $$ Hs
  iintro Hs
  iapply (wp_store (defs := defs₀ (F := F)) 𝒱₀ (c : Thread nD τ) none Set.univ (m := osM) (r := r4 b) (Mk := Finset.univ) (S := I4 b) (f := fs)
    (by rw [← acc_os]; exact View.setOn_subset_set _ _)) $$ Hs
  iintro Hs
  ihave Hs' := (Entails.of_eq (show ((osM.access (r4 b)).loc (c : Thread nD τ) ↦[I4 b]{fullShare} _ : sProp 𝕄)
      = ((osM.access (r4 b)).loc (c : Thread nD τ) ↦[I4 b]{fullShare} pack4 (outT m c k)) from by
    rw [← acc_os]
    exact write_pts (c := (c : Thread nD τ)) (osM.access (r4 b)) fullShare fs (pack4 (outT m c k)) (outT m c k) (read_os b _))) $$ Hs
  iapply (wp_dmaLocal EC 𝒱₀ (c : Thread nD τ) none (src := slot4 b) (dst := oCol k) (sm := .dma (oSem b)) (fs := pack4 (outT m c k)) (fd := fd) (q := fullShare)
    (Sd := (oCol k).view.set) () (oCol k).view.dmaCredit rfl (View.dmaCredit_pos _ (by decide)) (Finset.Subset.refl _)) $$ [Hs' Hd Hz]
  · rw [set_oc, set_os]
    isplitl [Hs']; · iexact Hs'
    isplitl [Hd]; · iexact Hd
    iexact Hz
  iintro Hf
  iapply Hk
  unfold oFl osAny
  have h : iprop(((oCol k).view.loc (c : Thread nD τ) ↦[(oCol k).view.set]{fullShare}
        ((oCol k).view.write (Elt F) fd ((slot4 b).view.read (Elt F) (pack4 (outT m c k))) Finset.univ))
      ∗ ((slot4 b).view.loc (c : Thread nD τ) ↦[(slot4 b).view.set]{fullShare} pack4 (outT m c k)))
      ⊢ (iprop(oAt m c k ∗ ∃ f, (c : Thread nD τ).loc cc0_scratch3 ↦[I4 b]{fullShare} f) : sProp 𝕄) := by
    rw [land_o, set_os]
    iintro ⟨H1, H2⟩
    isplitl [H1]; · iexact H1
    iexists _; iexact H2
  iapply (Flight_mono EC (c : Thread nD τ) h) $$ Hf

theorem wp_waitOut (c : Dev nD) (b : Fin 4) (k : Fin 32) (T : ℕ) {p : P (F := F)} {Q : PUnit → sProp 𝕄} :
    iprop(ctx m K ∗ oFl m c b k ∗ ow c T)
      ⊢ iprop(((oAt m c k ∗ oFree c b ∗ ow c T) -∗ run c Q p) -∗ run c Q (waitOut b k p)) := by
  unfold oFl ow waitOut
  iintro ⟨#Hc, Hf, ⟨%W, Ho⟩⟩ Hk
  iapply (wp_waitLocalO EC 𝒱₀ (c : Thread nD τ) none (O := owed c T) (W := W) () rfl) $$ [Hf Ho]
  · isplitl [Hf]; · iexact Hf
    isplitl [Ho]; · iexact Ho
    iapply ((ctx_levs m K).trans (mayWait_low c (3 + b.val) _ T (if_pos (by omega)))) $$ Hc
  iintro ⟨⟨Hd, Hs⟩, Hz, Ho⟩
  iapply Hk
  unfold oFree zeroD
  isplitl [Hd]; · iexact Hd
  isplitl [Hs Hz]
  · isplitl [Hs]; · iexact Hs
    iexact Hz
  iexists _; iexact Ho

end Cert.KernelIdeal.Body
end
-- ==== Proof.Steps.lean ====
/- The rules of the iterations, and of the steps of the matrix products, the first relays and the sums. -/
module

public import proofs.«01_k».proof.Proof.Locals

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

/-! ## Iterations -/

/-- A family of steps, each taking its own resource and giving back another, beside an invariant. -/
theorem wp_iter {N : ℕ} (f : Fin N → P (F := F) → P (F := F)) (c : Dev nD) (Inv : ℕ → sProp 𝕄) (A B : Fin N → sProp 𝕄) {Q : PUnit → sProp 𝕄} :
    ∀ (b n : ℕ) (h : b + n ≤ N)
      (_ : ∀ (i : Fin N), b ≤ i.val → i.val < b + n → ∀ k : P (F := F),
        iprop(ctx m K ∗ Inv i.val ∗ A i) ⊢ iprop(((Inv (i.val + 1) ∗ B i) -∗ run c Q k) -∗ run c Q (f i k)))
      (k : P (F := F)),
      iprop(ctx m K ∗ Inv b ∗ bigSep (rangeSet N b (b + n)) A)
        ⊢ iprop(((Inv (b + n) ∗ bigSep (rangeSet N b (b + n)) B) -∗ run c Q k) -∗ run c Q (iter f b n h k))
  | b, 0, h, hs, k => by
    rw [bigSep_rangeSet_empty (by omega), bigSep_rangeSet_empty (by omega)]
    iintro ⟨-, Hi, He⟩ Hk
    iapply Hk
    isplitl [Hi] <;> iassumption
  | b, n + 1, h, hs, k => by
    rw [bigSep_rangeSet_head (by omega) (show b < N by omega), bigSep_rangeSet_head (by omega) (show b < N by omega)]
    iintro ⟨#Hc, Hi, Ha, Hr⟩ Hk
    iapply (hs ⟨b, by omega⟩ (le_refl _) (by show b < _; omega) _) $$ [Hi Ha]
    · isplitr; · iexact Hc
      isplitl [Hi] <;> iassumption
    iintro ⟨Hi, Hb⟩
    have ih := wp_iter f c Inv A B (Q := Q) (b + 1) n (by omega) (fun i h₁ h₂ k => hs i (by omega) (by omega) k) k
    simp only [show b + 1 + n = b + (n + 1) by omega] at ih
    iapply ih $$ [Hi Hr]
    · isplitr; · iexact Hc
      isplitl [Hi] <;> iassumption
    iintro ⟨Hi, Hr⟩
    iapply Hk
    isplitl [Hi]; · iexact Hi
    isplitl [Hb] <;> iassumption

/-- The same of a family that carries a value, the values known. -/
theorem wp_iterV {N : ℕ} {V : Type} (f : Fin N → V → (V → P (F := F)) → P (F := F)) (v : ℕ → V) (c : Dev nD) (Inv : ℕ → sProp 𝕄)
    (A B : Fin N → sProp 𝕄) {Q : PUnit → sProp 𝕄} :
    ∀ (b n : ℕ) (h : b + n ≤ N)
      (_ : ∀ (i : Fin N), b ≤ i.val → i.val < b + n → ∀ k : V → P (F := F),
        iprop(ctx m K ∗ Inv i.val ∗ A i) ⊢ iprop(((Inv (i.val + 1) ∗ B i) -∗ run c Q (k (v (i.val + 1)))) -∗ run c Q (f i (v i.val) k)))
      (k : V → P (F := F)),
      iprop(ctx m K ∗ Inv b ∗ bigSep (rangeSet N b (b + n)) A)
        ⊢ iprop(((Inv (b + n) ∗ bigSep (rangeSet N b (b + n)) B) -∗ run c Q (k (v (b + n)))) -∗ run c Q (iterV f b n h (v b) k))
  | b, 0, h, hs, k => by
    rw [bigSep_rangeSet_empty (by omega), bigSep_rangeSet_empty (by omega)]
    iintro ⟨-, Hi, He⟩ Hk
    iapply Hk
    isplitl [Hi] <;> iassumption
  | b, n + 1, h, hs, k => by
    rw [bigSep_rangeSet_head (by omega) (show b < N by omega), bigSep_rangeSet_head (by omega) (show b < N by omega)]
    iintro ⟨#Hc, Hi, Ha, Hr⟩ Hk
    iapply (hs ⟨b, by omega⟩ (le_refl _) (by show b < _; omega) _) $$ [Hi Ha]
    · isplitr; · iexact Hc
      isplitl [Hi] <;> iassumption
    iintro ⟨Hi, Hb⟩
    have ih := wp_iterV f v c Inv A B (Q := Q) (b + 1) n (by omega) (fun i h₁ h₂ k => hs i (by omega) (by omega) k) k
    simp only [show b + 1 + n = b + (n + 1) by omega] at ih
    iapply ih $$ [Hi Hr]
    · isplitr; · iexact Hc
      isplitl [Hi] <;> iassumption
    iintro ⟨Hi, Hr⟩
    iapply Hk
    isplitl [Hi]; · iexact Hi
    isplitl [Hb] <;> iassumption

/-! ## The chunks of the matrix product -/

/-- The credit of a copy sent. -/
def crD (c : Dev nD) (n : ℕ) (h : n < 41) : sProp 𝕄 := cred (tallyAt (dCell c n h) () (amtD n))

/-- What sending slot `j` of the device's quarter takes. -/
def syIn (c : Dev nD) (j : Fin 4) : sProp 𝕄 :=
  iprop(cmAny (yp c) (qs (qm c) j) ∗ tokD c (7 + j.val) (by omega) ∗ tokD (yp c) (11 + j.val) (by omega))
/-- Chunk `i`'s slot before its step, with what its sending takes where it is sent. -/
def chIn (c : Dev nD) (i : Fin 16) : sProp 𝕄 :=
  iprop(lgAny c (perm i) ∗ if qm c = ⟨i.val % 4, by omega⟩ then syIn c ⟨i.val / 4, by omega⟩ else emp)
/-- And after it. -/
def chOut (c : Dev nD) (i : Fin 16) : sProp 𝕄 :=
  iprop(lgAt m c (perm i) fullShare.left ∗ if qm c = ⟨i.val % 4, by omega⟩ then crD c (7 + i.val / 4) (by omega) else lgAt m c (perm i) fullShare.right)

theorem step_sy : ∀ (q : Fin 4) (j : Fin 4),
    Finset.univ.filter (fun t => 15 + 10 * (4 * j.val + q.val) ≤ timeT q t)
      = insert ⟨j.val, by omega⟩ (Finset.univ.filter (fun t => 16 + 10 * (4 * j.val + q.val) ≤ timeT q t))
      ∧ timeT q ⟨j.val, by omega⟩ < 16 + 10 * (4 * j.val + q.val) := by decide +kernel
theorem step_none : ∀ (q : Fin 4) (i : Fin 16), q ≠ ⟨i.val % 4, by omega⟩ →
    Finset.univ.filter (fun t => 15 + 10 * i.val ≤ timeT q t) = Finset.univ.filter (fun t => 16 + 10 * i.val ≤ timeT q t) := by decide +kernel
theorem peer_sy (c : Dev nD) (j : Fin 4) : cellT c ⟨j.val, by omega⟩ = dCell (yp c) (11 + j.val) (by omega) :=
  cellT_eq c _ _ _ _ (if_pos j.isLt) (dif_pos j.isLt)
theorem amt_sy (j : Fin 4) : amtT ⟨j.val, by omega⟩ = NL := if_pos (by show j.val < 16; omega)

theorem owed_sy (c : Dev nD) (i : Fin 16) (h : qm c = ⟨i.val % 4, by omega⟩) :
    owed c (15 + 10 * i.val) = owed c (16 + 10 * i.val) + tallyAt (dCell (yp c) (11 + i.val / 4) (by omega)) () NL := by
  have hi : i.val = 4 * (i.val / 4) + (qm c).val := by rw [h]; show _ = 4 * (i.val / 4) + i.val % 4; omega
  have := owed_step c (15 + 10 * i.val) (16 + 10 * i.val) ⟨i.val / 4, by omega⟩ (by
    have := step_sy (qm c) ⟨i.val / 4, by omega⟩
    dsimp only at this
    rw [← hi] at this
    exact this)
  rw [this, peer_sy c ⟨i.val / 4, by omega⟩, amt_sy ⟨i.val / 4, by omega⟩]
theorem perm_sent (c : Dev nD) (i : Fin 16) (h : qm c = ⟨i.val % 4, by omega⟩) : perm i = qs (qm c) ⟨i.val / 4, by omega⟩ := by
  rw [h]; exact Fin.ext (by show i.val % 4 * 4 + i.val / 4 = 4 * (i.val % 4) + i.val / 4; omega)

theorem wp_chunk (c : Dev nD) (i : Fin 16) (T T' : ℕ) (h₁ : owed c T = owed c (15 + 10 * i.val)) (h₂ : owed c (16 + 10 * i.val) = owed c T')
    {k : FVec F S512x1 .f32 → P (F := F)} {Q : PUnit → sProp 𝕄} :
    iprop(ctx m K ∗ wFl m c (perm i) ⟨i.val % 2, by omega⟩ ∗ ow c T ∗ chIn c i)
      ⊢ iprop(((wFree c ⟨i.val % 2, by omega⟩ ∗ ow c T' ∗ wcAt m c (perm i) ∗ chOut m c i) -∗ run c Q (k (RMv m c (perm i))))
          -∗ run c Q (chunk c (xb m c) i k)) := by
  unfold chIn chOut chunk
  iintro ⟨#Hc, Hf, Ho, Hl, Hx⟩ Hk
  iapply (wp_wWait m K c (perm i) _ T) $$ [Hf Ho]
  · isplitr; · iexact Hc
    isplitl [Hf] <;> iassumption
  iintro ⟨Hb, Hw, Hz, Ho⟩
  iapply (wp_ldWb m c _ (perm i)) $$ Hb
  iintro Hb
  iapply (wp_ldLgAny c (perm i)) $$ Hl
  iintro Hl
  iapply (wp_stLg m c (perm i)) $$ Hl
  iintro Hl
  ihave Hl := (lgAt_split m c (perm i)).1 $$ Hl
  icases Hl with ⟨Hl, Hr⟩
  ihave Hb' : wFree (F := F) c ⟨i.val % 2, by omega⟩ $$ [Hb Hz]
  · unfold wFree wbAny wbAt
    isplitl [Hb]; · iexists _; iexact Hb
    iexact Hz
  ihave Ho := (ow_same c h₁) $$ Ho
  by_cases h : qm c = ⟨i.val % 4, by omega⟩
  · ihave Hx' := (Entails.of_eq (if_pos h)) $$ Hx
    unfold syIn
    icases Hx' with ⟨Hd, Ht₁, Ht₂⟩
    rw [if_pos h, if_pos h]
    rw [perm_sent c i h]
    iapply (wp_sendY m K c _ _ _ (owed_sy c i h)) $$ [Hr Hd Ho Ht₁ Ht₂]
    · isplitr; · iexact Hc
      isplitl [Hr]; · iexact Hr
      isplitl [Hd]; · iexact Hd
      isplitl [Ho]; · iexact Ho
      isplitl [Ht₁] <;> iassumption
    iintro ⟨Hcr, Ho⟩
    ihave Ho := (ow_same c h₂) $$ Ho
    iapply Hk
    isplitl [Hb']; · iexact Hb'
    isplitl [Ho]; · iexact Ho
    isplitl [Hw]; · iexact Hw
    isplitl [Hl]; · iexact Hl
    unfold crD; iexact Hcr
  · iclear Hx
    rw [if_neg h, if_neg h]
    ihave Ho := (ow_same c ((owed_same c _ _ (step_none (qm c) i h)).trans h₂)) $$ Ho
    iapply Hk
    isplitl [Hb']; · iexact Hb'
    isplitl [Ho]; · iexact Ho
    isplitl [Hw]; · iexact Hw
    isplitl [Hl] <;> iassumption

/-- The state between the chunks: the next chunk's weights on their way, the other half free. -/
def chI (τ' : ℕ → ℕ) (c : Dev nD) (i : ℕ) : sProp 𝕄 :=
  iprop(wFl m c (perm ⟨i % 16, by omega⟩) ⟨i % 2, by omega⟩ ∗ wFree c ⟨(i + 1) % 2, by omega⟩ ∗ ow c (τ' i))
/-- What step `i` takes. -/
def chA (c : Dev nD) (i : Fin 15) : sProp 𝕄 := iprop(wcAt m c (perm i.succ) ∗ chIn c i.castSucc)
/-- What step `i` gives back. -/
def chB (c : Dev nD) (i : Fin 15) : sProp 𝕄 := iprop(wcAt m c (perm i.castSucc) ∗ chOut m c i.castSucc)

theorem wp_chunkN (τ' : ℕ → ℕ) (c : Dev nD) (i : Fin 15) (h₁ : owed c (τ' i.val) = owed c (15 + 10 * i.val))
    (h₂ : owed c (16 + 10 * i.val) = owed c (τ' (i.val + 1)))
    {k : FVec F S512x1 .f32 → P (F := F)} {Q : PUnit → sProp 𝕄} :
    iprop(ctx m K ∗ chI m τ' c i.val ∗ chA m c i)
      ⊢ iprop(((chI m τ' c (i.val + 1) ∗ chB m c i) -∗ run c Q (k (RMv m c (perm i.castSucc)))) -∗ run c Q (chunkN c (xb m c) i k)) := by
  have e₁ : perm ⟨i.val % 16, by omega⟩ = perm i.castSucc := congrArg perm (Fin.ext (Nat.mod_eq_of_lt (by omega)))
  have e₂ : perm ⟨(i.val + 1) % 16, by omega⟩ = perm i.succ := congrArg perm (Fin.ext (Nat.mod_eq_of_lt (by omega)))
  have e₃ : (⟨(i.val + 1 + 1) % 2, by omega⟩ : Fin 2) = ⟨i.val % 2, by omega⟩ := Fin.ext (by show (i.val + 1 + 1) % 2 = i.val % 2; omega)
  unfold chI chA chB chunkN
  rw [e₁, e₂, e₃]
  iintro ⟨#Hc, ⟨Hf, He, Ho⟩, Hw, Hx⟩ Hk
  iapply (wp_wCopy m c (perm i.succ) _) $$ [Hw He]
  · isplitl [Hw] <;> iassumption
  iintro Hg
  iapply (wp_chunk m K c i.castSucc _ _ h₁ h₂) $$ [Hf Ho Hx]
  · isplitr; · iexact Hc
    isplitl [Hf]; · iexact Hf
    isplitl [Ho] <;> iassumption
  iintro ⟨He, Ho, Hw, Hx⟩
  iapply Hk
  isplitl [Hg He Ho]
  · isplitl [Hg]; · iexact Hg
    isplitl [He]; · iexact He
    iexact Ho
  isplitl [Hw] <;> iassumption

/-- A run of chunks folded into the running maximum. -/
theorem wp_chunks (τ' : ℕ → ℕ) (c : Dev nD) (b n : ℕ) (h : b + n ≤ 15) (hb : 1 ≤ b)
    (h₁ : ∀ i, b ≤ i → i < b + n → owed c (τ' i) = owed c (15 + 10 * i))
    (h₂ : ∀ i, b ≤ i → i < b + n → owed c (16 + 10 * i) = owed c (τ' (i + 1)))
    {k : FVec F S512x1 .f32 → P (F := F)} {Q : PUnit → sProp 𝕄} :
    iprop(ctx m K ∗ chI m τ' c b ∗ bigSep (rangeSet 15 b (b + n)) (chA m c))
      ⊢ iprop(((chI m τ' c (b + n) ∗ bigSep (rangeSet 15 b (b + n)) (chB m c)) -∗ run c Q (k (mRun m c (b + n - 1))))
          -∗ run c Q (iterV (chunkMax c (xb m c)) b n h (mRun m c (b - 1)) k)) :=
  wp_iterV m K (chunkMax c (xb m c)) (fun i => mRun m c (i - 1)) c (chI m τ' c) (chA m c) (chB m c) b n h (fun i hi hi' k => by
    have e : maximumf (mRun m c (i.val - 1)) (RMv m c (perm i.castSucc)) = mRun m c (i.val + 1 - 1) := by
      obtain ⟨j, hj⟩ : ∃ j, i.val = j + 1 := ⟨i.val - 1, by omega⟩
      rw [hj]
      show _ = maximumf (mRun m c j) (RMv m c (perm ⟨(j + 1) % 16, by omega⟩))
      congr 3
      exact Fin.ext (by show i.val = (j + 1) % 16; omega)
    have := wp_chunkN m K τ' c i (h₁ i.val hi hi') (h₂ i.val hi hi') (k := fun v => k (maximumf (mRun m c (i.val - 1)) v)) (Q := Q)
    rw [e] at this
    exact this) k

end Cert.KernelIdeal.Body
end
-- ==== Proof.Relays.lean ====
/- The rules of the relays, of the sums of exponentials and of the statistics' exchange. -/
module

public import proofs.«01_k».proof.Proof.Steps

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

/-! ## The first relays -/

/-- When relay `j` is made. -/
def tR (j : Fin 4) : ℕ := if j.val = 0 then 100 else if j.val = 1 then 140 else if j.val = 2 then 170 else 175

/-- What relay `j` takes. -/
def relIn (c : Dev nD) (j : Fin 4) : sProp 𝕄 :=
  iprop(rcv c (11 + j.val) (by omega)
    ∗ (cmAny (xp c) (qs (qm c) j) ∗ tokD c (15 + j.val) (by omega) ∗ tokD (xp c) (19 + j.val) (by omega))
    ∗ cmAny (zp c) (qs (qm c) j) ∗ tokD c (23 + j.val) (by omega) ∗ tokD (zp c) (27 + j.val) (by omega))
/-- What it gives back. -/
def relOut (c : Dev nD) (j : Fin 4) : sProp 𝕄 :=
  iprop(cmAt m c (qs (qm c) j) fullShare.left ∗ zeroD c (11 + j.val) (by omega) ∗ crD c (15 + j.val) (by omega) ∗ crD c (23 + j.val) (by omega))

theorem wait_ry : ∀ (q j : Fin 4) (t : Fin 20), tR j ≤ timeT q t → lvD (11 + j.val) < lvS (semT t) := by decide +kernel
theorem step_x1 : ∀ (q j : Fin 4),
    Finset.univ.filter (fun t => tR j ≤ timeT q t) = insert ⟨4 + j.val, by omega⟩ (Finset.univ.filter (fun t => tR j + 1 ≤ timeT q t))
      ∧ timeT q ⟨4 + j.val, by omega⟩ < tR j + 1 := by decide +kernel
theorem step_z1 : ∀ (q j : Fin 4),
    Finset.univ.filter (fun t => tR j + 1 ≤ timeT q t) = insert ⟨8 + j.val, by omega⟩ (Finset.univ.filter (fun t => tR j + 2 ≤ timeT q t))
      ∧ timeT q ⟨8 + j.val, by omega⟩ < tR j + 2 := by decide +kernel
theorem cell_x1 (c : Dev nD) (j : Fin 4) : cellT c ⟨4 + j.val, by omega⟩ = dCell (xp c) (19 + j.val) (by omega) := by
  have : ∀ (c : Dev nD) (j : Fin 4), peerT c ⟨4 + j.val, by omega⟩ = xp c ∧ semT ⟨4 + j.val, by omega⟩ = .dma (dsem (19 + j.val) (by omega)) := by decide +kernel
  exact cellT_eq c _ _ _ _ (this c j).1 (this c j).2
theorem cell_z1 (c : Dev nD) (j : Fin 4) : cellT c ⟨8 + j.val, by omega⟩ = dCell (zp c) (27 + j.val) (by omega) := by
  have : ∀ (c : Dev nD) (j : Fin 4), peerT c ⟨8 + j.val, by omega⟩ = zp c ∧ semT ⟨8 + j.val, by omega⟩ = .dma (dsem (27 + j.val) (by omega)) := by decide +kernel
  exact cellT_eq c _ _ _ _ (this c j).1 (this c j).2
theorem owed_x1 (c : Dev nD) (j : Fin 4) :
    owed c (tR j) = owed c (tR j + 1) + tallyAt (dCell (xp c) (19 + j.val) (by omega)) () NL := by
  rw [owed_step c _ _ _ (step_x1 (qm c) j), cell_x1, show amtT ⟨4 + j.val, by omega⟩ = NL from if_pos (by show 4 + j.val < 16; omega)]
theorem owed_z1 (c : Dev nD) (j : Fin 4) :
    owed c (tR j + 1) = owed c (tR j + 2) + tallyAt (dCell (zp c) (27 + j.val) (by omega)) () NL := by
  rw [owed_step c _ _ _ (step_z1 (qm c) j), cell_z1, show amtT ⟨8 + j.val, by omega⟩ = NL from if_pos (by show 8 + j.val < 16; omega)]

theorem wp_relay (c : Dev nD) (j : Fin 4) (T : ℕ) (h : owed c T = owed c (tR j)) {k : P (F := F)} {Q : PUnit → sProp 𝕄} :
    iprop(ctx m K ∗ ow c T ∗ relIn c j)
      ⊢ iprop(((ow c (tR j + 2) ∗ relOut m c j) -∗ run c Q k) -∗ run c Q (relay c j k)) := by
  unfold relIn relOut relay waitSlot
  iintro ⟨#Hc, Ho, Hr, ⟨Hdx, Hs₁, Hr₁⟩, ⟨Hdz, Hs₂, Hr₂⟩⟩ Hk
  ihave Ho := (ow_same c h) $$ Ho
  iapply (wp_waitD m K c (11 + j.val) _ (Nat.le_trans (by decide) (Nat.le_add_right 11 _)) (tR j)
    ((credit_cm _).trans (amt_lo (by omega)).symm) (wait_ry (qm c) j)) $$ [Hr Ho]
  · isplitr; · iexact Hc
    isplitl [Hr] <;> iassumption
  iintro ⟨Ho, Hp, Hz⟩
  ihave Hp := (Entails.of_eq (pay_ry m c j)) $$ Hp
  ihave Hp := (cmAt_split m c (qs (qm c) j) fullShare).1 $$ Hp
  icases Hp with ⟨Hl, Hp⟩
  ihave Hp := (cmAt_split m c (qs (qm c) j) fullShare.right).1 $$ Hp
  icases Hp with ⟨Hx, Hy⟩
  iapply (wp_sendC m K c (xp c) (qs (qm c) j) (15 + j.val) (19 + j.val) (by omega) (by omega) (Nat.le_trans (by decide) (Nat.le_add_right 15 _))
    (Nat.le_trans (by decide) (Nat.le_add_right 19 _)) fullShare.right.left (CM_xp m c) (pay_sx1 m c j)
    (by rw [pay_rx1, xp_xp]) _ _ (owed_x1 c j)) $$ [Hx Hdx Ho Hs₁ Hr₁]
  · isplitr; · iexact Hc
    isplitl [Hx]; · iexact Hx
    isplitl [Hdx]; · iexact Hdx
    isplitl [Ho]; · iexact Ho
    isplitl [Hs₁] <;> iassumption
  iintro ⟨Hcx, Ho⟩
  iapply (wp_sendC m K c (zp c) (qs (qm c) j) (23 + j.val) (27 + j.val) (by omega) (by omega) (Nat.le_trans (by decide) (Nat.le_add_right 23 _))
    (Nat.le_trans (by decide) (Nat.le_add_right 27 _)) fullShare.right.right (CM_zp m c) (pay_sz1 m c j)
    (by rw [pay_rz1, zp_zp]) _ _ (owed_z1 c j)) $$ [Hy Hdz Ho Hs₂ Hr₂]
  · isplitr; · iexact Hc
    isplitl [Hy]; · iexact Hy
    isplitl [Hdz]; · iexact Hdz
    isplitl [Ho]; · iexact Ho
    isplitl [Hs₂] <;> iassumption
  iintro ⟨Hcz, Ho⟩
  iapply Hk
  unfold crD
  isplitl [Ho]; · iexact Ho
  isplitl [Hl]; · iexact Hl
  isplitl [Hz]; · iexact Hz
  isplitl [Hcx] <;> iassumption

/-! ## The sums of exponentials -/

theorem wp_exps (c : Dev nD) (b n : ℕ) (h : b + n ≤ 16) (hb : 1 ≤ b) {k : FVec F S512x1 .f32 → P (F := F)} {Q : PUnit → sProp 𝕄} :
    iprop(ctx m K ∗ bigSep (rangeSet 16 b (b + n)) fun i => lgAt m c i fullShare.left)
      ⊢ iprop(((bigSep (rangeSet 16 b (b + n)) fun i => lgAt m c i fullShare.left) -∗ run c Q (k (sRun m c (b + n - 1))))
          -∗ run c Q (iterV (fun n a => addExp (mOwn m c) a n) b n h (sRun m c (b - 1)) k)) := by
  have := wp_iterV m K (fun n a => addExp (mOwn m c) a n) (fun i => sRun m c (i - 1)) c (fun _ => iprop(emp)) (fun i => lgAt m c i fullShare.left)
    (fun i => lgAt m c i fullShare.left) (Q := Q) b n h (fun i hi hi' k => by
      obtain ⟨j, hj⟩ : ∃ j, i.val = j + 1 := ⟨i.val - 1, by omega⟩
      have e : addf (sRun m c (i.val - 1)) (esV (mOwn m c) (LGv m c i)) = sRun m c (i.val + 1 - 1) := by
        rw [hj]
        show _ = addf (sRun m c j) (esV (mOwn m c) (LGv m c ⟨(j + 1) % 16, by omega⟩))
        congr 3
        exact Fin.ext (by show i.val = (j + 1) % 16; omega)
      unfold addExp
      iintro ⟨-, -, Hl⟩ Hk
      iapply (wp_ldLg m c i fullShare.left) $$ Hl
      iintro Hl
      rw [e]
      iapply Hk
      isplitr; · iempintro
      iexact Hl) k
  iintro ⟨#Hc, H⟩ Hk
  iapply this $$ [H]
  · isplitr; · iexact Hc
    isplitr; · iempintro
    iexact H
  iintro ⟨-, H⟩
  iapply Hk $$ H

/-! ## The statistics -/

omit [FloatOps F] in
theorem acc_st (j : Fin 2) : (stM.access (rS j)).set = (rS j).set := View.set_slice_whole _ _
omit [FloatOps F] in
theorem disjS : Disjoint (stM.access (rS 0)).set (stM.access (rS 1)).set := by
  rw [acc_st, acc_st]
  exact Rect.disjoint_of_axis _ _ 1 fun j₁ h₁ j₂ h₂ => by
    have : j₁ < 1 := h₁; have : j₂ < 1 := h₂
    show 0 + 1 * j₁ ≠ 1 + 1 * j₂; omega

theorem isStat_write (c : Dev nD) (f : Vec F S512x8 .f32) :
    isStat m c ((stM.access (rS 1)).write (Elt F) ((stM.access (rS 0)).write (Elt F) f (colV (mOwn m c)) Finset.univ) (colV (sOwn m c)) Finset.univ) := by
  refine ⟨?_, ?_⟩
  · refine Eq.trans (b := (stM.access (rS 0)).read (Elt F) ((stM.access (rS 1)).write (Elt F) ((stM.access (rS 0)).write (Elt F) f (colV (mOwn m c)) Finset.univ)
      (colV (sOwn m c)) Finset.univ)) rfl ?_
    exact (View.read_slice_write_slice_of_disjoint (v := stM.view) (rS 0) (rS 1) _ _ _ (disjS.mono_right (View.setOn_subset_set _ _))).trans (View.read_write_univ _ _)
  · exact Eq.trans (b := (stM.access (rS 1)).read (Elt F) ((stM.access (rS 1)).write (Elt F) ((stM.access (rS 0)).write (Elt F) f (colV (mOwn m c)) Finset.univ)
      (colV (sOwn m c)) Finset.univ)) rfl (View.read_write_univ _ _)

theorem wp_stStat (c : Dev nD) (j : Fin 2) (v : FVec F S512x1 .f32) (f : Vec F S512x8 .f32) {k : P (F := F)} {Q : PUnit → sProp 𝕄} :
    ((c : Thread nD τ).loc cc0_scratch4 ↦{fullShare} f : sProp 𝕄)
      ⊢ iprop((((c : Thread nD τ).loc cc0_scratch4 ↦{fullShare} (stM.access (rS j)).write (Elt F) f v Finset.univ) -∗ run c Q k)
          -∗ run c Q (stStat j v k)) := by
  unfold stStat
  iintro H Hk
  iapply (wp_load_rect (defs := defs₀ (F := F)) 𝒱₀ (c : Thread nD τ) none Set.univ (m := stM) (r := rS j) (hl := View.loadsAt_vmem h_S512x1)
    (S := Finset.univ) (q := fullShare) (f := f) (Finset.subset_univ _)) $$ H
  iintro H
  iapply (wp_store (defs := defs₀ (F := F)) 𝒱₀ (c : Thread nD τ) none Set.univ (m := stM) (r := rS j) (Mk := Finset.univ) (S := Finset.univ) (f := f)
    (Finset.subset_univ _)) $$ H
  iintro H
  iapply Hk
  iexact H

theorem wp_ldStats (c : Dev nD) {k : Vec F S512x1 .f32 → Vec F S512x1 .f32 → P (F := F)} {Q : PUnit → sProp 𝕄} :
    srAt m c ⊢ iprop((srAny c -∗ run c Q (k (colV (mOwn m (yp c))) (colV (sOwn m (yp c)))))
      -∗ run c Q (ldStat 0 fun mo => ldStat 1 fun so => k mo so)) := by
  unfold srAt srAny ldStat
  iintro ⟨%f, %hf, H⟩ Hk
  iapply (wp_load_rect (defs := defs₀ (F := F)) 𝒱₀ (c : Thread nD τ) none Set.univ (m := srM) (r := rS 0) (hl := View.loadsAt_vmem h_S512x1)
    (S := Finset.univ) (q := fullShare) (f := f) (Finset.subset_univ _)) $$ H
  iintro H
  rw [hf.1]
  iapply (wp_load_rect (defs := defs₀ (F := F)) 𝒱₀ (c : Thread nD τ) none Set.univ (m := srM) (r := rS 1) (hl := View.loadsAt_vmem h_S512x1)
    (S := Finset.univ) (q := fullShare) (f := f) (Finset.subset_univ _)) $$ H
  iintro H
  rw [hf.2]
  iapply Hk
  iexists f; iexact H

theorem step_st : ∀ (q : Fin 4),
    Finset.univ.filter (fun t => 180 ≤ timeT q t) = insert 16 (Finset.univ.filter (fun t => 181 ≤ timeT q t)) ∧ timeT q 16 < 181 := by decide +kernel
theorem owed_st (c : Dev nD) : owed c 180 = owed c 181 + tallyAt (dCell (yp c) 40 (by omega)) () NS := by
  have : ∀ c : Dev nD, peerT c 16 = yp c := by decide +kernel
  rw [owed_step c _ _ _ (step_st (qm c)), cellT_eq c 16 (yp c) 40 (by omega) (this c) rfl]; rfl

/-- What the statistics' exchange takes. -/
def stIn (c : Dev nD) : sProp 𝕄 := iprop(stAny c ∗ srAny (yp c) ∗ tokD c 39 (by omega) ∗ tokD (yp c) 40 (by omega))

/-- The statistics stored and sent. -/
theorem wp_stats (c : Dev nD) (T : ℕ) (h : owed c T = owed c 180) {k : P (F := F)} {Q : PUnit → sProp 𝕄} :
    iprop(ctx m K ∗ ow c T ∗ stIn c)
      ⊢ iprop(((ow c 181 ∗ crD c 39 (by omega)) -∗ run c Q k)
          -∗ run c Q (stStat 0 (colV (mOwn m c)) <| stStat 1 (colV (sOwn m c)) <|
            .op (.enqueueDma stM (.remote (Dev.tc (yp c)) srM (.dma ssS)) (.dma srS) (Memref.isWhole_whole _).wordExact (Memref.isWhole_whole _).wordExact
              ⟨⟨rfl, Or.inl rfl⟩, trivial⟩) fun _ => k)) := by
  unfold stIn stAny srAny
  iintro ⟨#Hc, Ho, ⟨%f, Hs⟩, ⟨%fd, Hd⟩, Ht⟩ Hk
  ihave Ho := (ow_same c h) $$ Ho
  iapply (wp_stStat c 0 (colV (mOwn m c)) f) $$ Hs
  iintro Hs
  iapply (wp_stStat c 1 (colV (sOwn m c)) _) $$ Hs
  iintro Hs
  iapply (wp_sendD m K c (yp c) 39 40 _ _ (by omega) (by omega) 180 181 NS rfl rfl rfl (owed_st c) (q := fullShare)
    (fs := (stM.access (rS 1)).write (Elt F) ((stM.access (rS 0)).write (Elt F) f (colV (mOwn m c)) Finset.univ) (colV (sOwn m c)) Finset.univ) (fd := fd)
    (by
      show _ ⊢ stAny c
      rw [show (stM : Memref sig .tc .vmem S512x8 .f32).view.set = Finset.univ from View.set_whole _]
      unfold stAny
      iintro H; iexists _; iexact H)
    (by
      show _ ⊢ srAt m (yp c)
      rw [show (srM : Memref sig .tc .vmem S512x8 .f32).view.set = Finset.univ from View.set_whole _, View.write_whole_univ]
      unfold srAt
      rw [yp_yp]
      iintro H
      iexists (stM.access (rS 1)).write (Elt F) ((stM.access (rS 0)).write (Elt F) f (colV (mOwn m c)) Finset.univ) (colV (sOwn m c)) Finset.univ
      isplitr
      · ipureintro; exact isStat_write m c f
      iexact H)) $$ [Hs Hd Ho Ht]
  · isplitr; · iexact Hc
    isplitl [Hs]
    · rw [show (stM : Memref sig .tc .vmem S512x8 .f32).view.set = Finset.univ from View.set_whole _]; iexact Hs
    isplitl [Hd]
    · rw [show (srM : Memref sig .tc .vmem S512x8 .f32).view.set = Finset.univ from View.set_whole _]; iexact Hd
    isplitl [Ho]; · iexact Ho
    iexact Ht
  iintro ⟨Hcr, Ho⟩
  iapply Hk
  unfold crD
  isplitl [Ho] <;> iassumption

end Cert.KernelIdeal.Body
end
-- ==== Proof.Tiles.lean ====
/- The rules of the second relays, of the results' tiles, and of the last waits. -/
module

public import proofs.«01_k».proof.Proof.Relays

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head bigSep_rangeSet_last)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

/-! ## The second relays -/

/-- What the second relay `j` along the first axis takes. -/
def rxIn (c : Dev nD) (j : Fin 2) : sProp 𝕄 :=
  iprop(rcv c (27 + j.val) (by omega) ∗ cmAny (xp c) (qs (qm (zp c)) ⟨j.val, by omega⟩) ∗ tokD c (31 + j.val) (by omega) ∗ tokD (xp c) (33 + j.val) (by omega))
/-- What it gives back. -/
def rxOut (c : Dev nD) (j : Fin 2) : sProp 𝕄 :=
  iprop(cmAt m c (qs (qm (zp c)) ⟨j.val, by omega⟩) fullShare.left ∗ zeroD c (27 + j.val) (by omega) ∗ crD c (31 + j.val) (by omega))
/-- What the second relay `j` along the last axis takes. -/
def rzIn (c : Dev nD) (j : Fin 2) : sProp 𝕄 :=
  iprop(rcv c (19 + (2 + j.val)) (by omega) ∗ cmAny (zp c) (qs (qm (xp c)) ⟨2 + j.val, by omega⟩) ∗ tokD c (35 + j.val) (by omega) ∗ tokD (zp c) (37 + j.val) (by omega))
/-- What it gives back. -/
def rzOut (c : Dev nD) (j : Fin 2) : sProp 𝕄 :=
  iprop(cmAt m c (qs (qm (xp c)) ⟨2 + j.val, by omega⟩) fullShare.left ∗ zeroD c (19 + (2 + j.val)) (by omega) ∗ crD c (35 + j.val) (by omega))

theorem wait_rz : ∀ (q : Fin 4) (j : Fin 2) (t : Fin 20), 190 + j.val ≤ timeT q t → lvD (27 + j.val) < lvS (semT t) := by decide +kernel
theorem wait_rx : ∀ (q : Fin 4) (j : Fin 2) (t : Fin 20), 192 + j.val ≤ timeT q t → lvD (19 + (2 + j.val)) < lvS (semT t) := by decide +kernel
theorem step_x2 : ∀ (q : Fin 4) (j : Fin 2),
    Finset.univ.filter (fun t => 190 + j.val ≤ timeT q t) = insert ⟨12 + j.val, by omega⟩ (Finset.univ.filter (fun t => 190 + (j.val + 1) ≤ timeT q t))
      ∧ timeT q ⟨12 + j.val, by omega⟩ < 190 + (j.val + 1) := by decide +kernel
theorem step_z2 : ∀ (q : Fin 4) (j : Fin 2),
    Finset.univ.filter (fun t => 192 + j.val ≤ timeT q t) = insert ⟨14 + j.val, by omega⟩ (Finset.univ.filter (fun t => 192 + (j.val + 1) ≤ timeT q t))
      ∧ timeT q ⟨14 + j.val, by omega⟩ < 192 + (j.val + 1) := by decide +kernel
theorem owed_x2 (c : Dev nD) (j : Fin 2) :
    owed c (190 + j.val) = owed c (190 + (j.val + 1)) + tallyAt (dCell (xp c) (33 + j.val) (by omega)) () NL := by
  have : ∀ (c : Dev nD) (j : Fin 2), peerT c ⟨12 + j.val, by omega⟩ = xp c ∧ semT ⟨12 + j.val, by omega⟩ = .dma (dsem (33 + j.val) (by omega)) := by decide +kernel
  rw [owed_step c _ _ _ (step_x2 (qm c) j), cellT_eq c _ _ _ _ (this c j).1 (this c j).2,
    show amtT ⟨12 + j.val, by omega⟩ = NL from if_pos (by show 12 + j.val < 16; omega)]
theorem owed_z2 (c : Dev nD) (j : Fin 2) :
    owed c (192 + j.val) = owed c (192 + (j.val + 1)) + tallyAt (dCell (zp c) (37 + j.val) (by omega)) () NL := by
  have : ∀ (c : Dev nD) (j : Fin 2), peerT c ⟨14 + j.val, by omega⟩ = zp c ∧ semT ⟨14 + j.val, by omega⟩ = .dma (dsem (37 + j.val) (by omega)) := by decide +kernel
  rw [owed_step c _ _ _ (step_z2 (qm c) j), cellT_eq c _ _ _ _ (this c j).1 (this c j).2,
    show amtT ⟨14 + j.val, by omega⟩ = NL from if_pos (by show 14 + j.val < 16; omega)]

theorem wp_relayX (c : Dev nD) (j : Fin 2) {k : P (F := F)} {Q : PUnit → sProp 𝕄} :
    iprop(ctx m K ∗ ow c (190 + j.val) ∗ rxIn c j)
      ⊢ iprop(((ow c (190 + (j.val + 1)) ∗ rxOut m c j) -∗ run c Q k) -∗ run c Q (relayX c j k)) := by
  have hp : payD m c (27 + j.val) = cmAt m c (qs (qm (zp c)) ⟨j.val, by omega⟩) fullShare := pay_rz1 m c ⟨j.val, by omega⟩
  unfold rxIn rxOut relayX waitSlot
  iintro ⟨#Hc, Ho, Hr, Hd, Hs₁, Hr₁⟩ Hk
  iapply (wp_waitD m K c (27 + j.val) _ (Nat.le_trans (by decide) (Nat.le_add_right 27 _)) (190 + j.val)
    ((credit_cm _).trans (amt_lo (by omega)).symm) (wait_rz (qm c) j)) $$ [Hr Ho]
  · isplitr; · iexact Hc
    isplitl [Hr] <;> iassumption
  iintro ⟨Ho, Hp, Hz⟩
  ihave Hp := (Entails.of_eq hp) $$ Hp
  ihave Hp := (cmAt_split m c _ fullShare).1 $$ Hp
  icases Hp with ⟨Hl, Hp⟩
  iapply (wp_sendC m K c (xp c) _ (31 + j.val) (33 + j.val) (by omega) (by omega) (Nat.le_trans (by decide) (Nat.le_add_right 31 _))
    (Nat.le_trans (by decide) (Nat.le_add_right 33 _)) fullShare.right (CM_xp m c) (pay_sx2 m c j)
    (by rw [pay_rx2, xp_zp, xp_xp]) _ _ (owed_x2 c j)) $$ [Hp Hd Ho Hs₁ Hr₁]
  · isplitr; · iexact Hc
    isplitl [Hp]; · iexact Hp
    isplitl [Hd]; · iexact Hd
    isplitl [Ho]; · iexact Ho
    isplitl [Hs₁] <;> iassumption
  iintro ⟨Hcx, Ho⟩
  iapply Hk
  unfold crD
  isplitl [Ho]; · iexact Ho
  isplitl [Hl]; · iexact Hl
  isplitl [Hz] <;> iassumption

theorem wp_relayZ (c : Dev nD) (j : Fin 2) {k : P (F := F)} {Q : PUnit → sProp 𝕄} :
    iprop(ctx m K ∗ ow c (192 + j.val) ∗ rzIn c j)
      ⊢ iprop(((ow c (192 + (j.val + 1)) ∗ rzOut m c j) -∗ run c Q k) -∗ run c Q (relayZ c j k)) := by
  have hp : payD m c (19 + (2 + j.val)) = cmAt m c (qs (qm (xp c)) ⟨2 + j.val, by omega⟩) fullShare := pay_rx1 m c ⟨2 + j.val, by omega⟩
  unfold rzIn rzOut relayZ waitSlot
  iintro ⟨#Hc, Ho, Hr, Hd, Hs₁, Hr₁⟩ Hk
  iapply (wp_waitD m K c (19 + (2 + j.val)) _ (Nat.le_trans (by decide) (Nat.le_add_right 19 _)) (192 + j.val)
    ((credit_cm _).trans (amt_lo (by omega)).symm) (wait_rx (qm c) j)) $$ [Hr Ho]
  · isplitr; · iexact Hc
    isplitl [Hr] <;> iassumption
  iintro ⟨Ho, Hp, Hz⟩
  ihave Hp := (Entails.of_eq hp) $$ Hp
  ihave Hp := (cmAt_split m c _ fullShare).1 $$ Hp
  icases Hp with ⟨Hl, Hp⟩
  iapply (wp_sendC m K c (zp c) _ (35 + j.val) (37 + j.val) (by omega) (by omega) (Nat.le_trans (by decide) (Nat.le_add_right 35 _))
    (Nat.le_trans (by decide) (Nat.le_add_right 37 _)) fullShare.right (CM_zp m c) (pay_sz2 m c j)
    (by rw [pay_rz2, zp_zp]) _ _ (owed_z2 c j)) $$ [Hp Hd Ho Hs₁ Hr₁]
  · isplitr; · iexact Hc
    isplitl [Hp]; · iexact Hp
    isplitl [Hd]; · iexact Hd
    isplitl [Ho]; · iexact Ho
    isplitl [Hs₁] <;> iassumption
  iintro ⟨Hcx, Ho⟩
  iapply Hk
  unfold crD
  isplitl [Ho]; · iexact Ho
  isplitl [Hl]; · iexact Hl
  isplitl [Hz] <;> iassumption

/-! ## Waits when nothing is owed -/

theorem time_end : ∀ (q : Fin 4) (t : Fin 20), ¬ 194 ≤ timeT q t := by decide +kernel

/-- A wait for a slot once everything owed is given. -/
theorem wp_waitEnd (c : Dev nD) (n : ℕ) (h : n < 39) (h7 : 7 ≤ n) {sp sp' : Space} {s s' : Shape} {e e' : EltTy}
    {src : Memref sig .tc sp' s' e'} {dst : Memref sig .tc sp s e} {hs : src.view.WordExact} {hd : dst.view.WordExact}
    (hN : dst.view.dmaCredit = NL) {Φ : sProp 𝕄} (hp : payD m c n = Φ) {k : PUnit → P (F := F)} {Q : PUnit → sProp 𝕄} :
    iprop(ctx m K ∗ rcv c n (by omega) ∗ ow c 194)
      ⊢ iprop(((ow c 194 ∗ Φ ∗ zeroD c n (by omega)) -∗ run c Q (k ⟨⟩)) -∗ run c Q (.op (.waitDma2 (dsem n (by omega)) src dst hs hd) k)) := by
  subst hp
  exact wp_waitD m K c n _ h7 194 (hN.trans (amt_lo h).symm) (fun t ht => absurd ht (time_end _ t))

/-! ## The last waits -/

def f1In (c : Dev nD) (j : Fin 4) : sProp 𝕄 :=
  iprop(rcv c (7 + j.val) (by omega) ∗ rcv c (15 + j.val) (by omega) ∗ rcv c (23 + j.val) (by omega))
def f1Out (c : Dev nD) (j : Fin 4) : sProp 𝕄 :=
  iprop((lgAt m c (qs (qm c) j) fullShare.right ∗ zeroD c (7 + j.val) (by omega))
    ∗ (cmAt m c (qs (qm c) j) fullShare.right.left ∗ zeroD c (15 + j.val) (by omega))
    ∗ cmAt m c (qs (qm c) j) fullShare.right.right ∗ zeroD c (23 + j.val) (by omega))
def f2In (c : Dev nD) (j : Fin 2) : sProp 𝕄 := iprop(rcv c (31 + j.val) (by omega) ∗ rcv c (35 + j.val) (by omega))
def f2Out (c : Dev nD) (j : Fin 2) : sProp 𝕄 :=
  iprop((cmAt m c (qs (qm (zp c)) ⟨j.val, by omega⟩) fullShare.right ∗ zeroD c (31 + j.val) (by omega))
    ∗ cmAt m c (qs (qm (xp c)) ⟨2 + j.val, by omega⟩) fullShare.right ∗ zeroD c (35 + j.val) (by omega))

theorem wp_finish1 (c : Dev nD) (j : Fin 4) {k : P (F := F)} {Q : PUnit → sProp 𝕄} :
    iprop(ctx m K ∗ ow c 194 ∗ f1In c j) ⊢ iprop(((ow c 194 ∗ f1Out m c j) -∗ run c Q k) -∗ run c Q (finish1 c j k)) := by
  unfold f1In f1Out finish1 waitSlot
  iintro ⟨#Hc, Ho, H₁, H₂, H₃⟩ Hk
  iapply (wp_waitEnd m K c (7 + j.val) (by omega) (Nat.le_add_right 7 _) (credit_lg _) (pay_sy m c j)) $$ [H₁ Ho]
  · isplitr; · iexact Hc
    isplitl [H₁] <;> iassumption
  iintro ⟨Ho, H₁⟩
  iapply (wp_waitEnd m K c (15 + j.val) (by omega) (Nat.le_trans (by decide) (Nat.le_add_right 15 _)) (credit_cm _) (pay_sx1 m c j)) $$ [H₂ Ho]
  · isplitr; · iexact Hc
    isplitl [H₂] <;> iassumption
  iintro ⟨Ho, H₂⟩
  iapply (wp_waitEnd m K c (23 + j.val) (by omega) (Nat.le_trans (by decide) (Nat.le_add_right 23 _)) (credit_cm _) (pay_sz1 m c j)) $$ [H₃ Ho]
  · isplitr; · iexact Hc
    isplitl [H₃] <;> iassumption
  iintro ⟨Ho, H₃⟩
  iapply Hk
  isplitl [Ho]; · iexact Ho
  isplitl [H₁]; · iexact H₁
  isplitl [H₂] <;> iassumption

theorem wp_finish2 (c : Dev nD) (j : Fin 2) {k : P (F := F)} {Q : PUnit → sProp 𝕄} :
    iprop(ctx m K ∗ ow c 194 ∗ f2In c j) ⊢ iprop(((ow c 194 ∗ f2Out m c j) -∗ run c Q k) -∗ run c Q (finish2 c j k)) := by
  unfold f2In f2Out finish2 waitSlot
  iintro ⟨#Hc, Ho, H₁, H₂⟩ Hk
  iapply (wp_waitEnd m K c (31 + j.val) (by omega) (Nat.le_trans (by decide) (Nat.le_add_right 31 _)) (credit_cm _) (pay_sx2 m c j)) $$ [H₁ Ho]
  · isplitr; · iexact Hc
    isplitl [H₁] <;> iassumption
  iintro ⟨Ho, H₁⟩
  iapply (wp_waitEnd m K c (35 + j.val) (by omega) (Nat.le_trans (by decide) (Nat.le_add_right 35 _)) (credit_cm _) (pay_sz2 m c j)) $$ [H₂ Ho]
  · isplitr; · iexact Hc
    isplitl [H₂] <;> iassumption
  iintro ⟨Ho, H₂⟩
  iapply Hk
  isplitl [Ho]; · iexact Ho
  isplitl [H₁] <;> iassumption

/-! ## The other half's chunks, by the device their quarter came to -/

/-- The quarter fetched by the device itself, by its neighbours along the first and the last axis, and by the one across both. -/
def qr (c : Dev nD) (r : Fin 4) : Fin 4 :=
  match r with
  | 0 => qm c
  | 1 => qm (xp c)
  | 2 => qm (zp c)
  | 3 => qm (xp (zp c))
/-- Place `j` of that quarter in the order of the chunks. -/
def idx (c : Dev nD) (r j : Fin 4) : Fin 16 := ⟨4 * j.val + (qr c r).val, by omega⟩
/-- Whose quarter chunk `i` lies in. -/
def rel (c : Dev nD) (i : Fin 16) : Fin 4 :=
  if qm c = ⟨i.val % 4, by omega⟩ then 0 else if qm (xp c) = ⟨i.val % 4, by omega⟩ then 1 else if qm (zp c) = ⟨i.val % 4, by omega⟩ then 2 else 3
theorem rel_idx : ∀ (c : Dev nD) (r j : Fin 4), rel c (idx c r j) = r := by decide +kernel
theorem idx_rel : ∀ (c : Dev nD) (i : Fin 16), idx c (rel c i) ⟨i.val / 4, by omega⟩ = i := by decide +kernel
theorem perm_idx (c : Dev nD) (r j : Fin 4) : perm (idx c r j) = qs (qr c r) j := by
  refine Fin.ext ?_
  show (4 * j.val + (qr c r).val) % 4 * 4 + (4 * j.val + (qr c r).val) / 4 = 4 * (qr c r).val + j.val
  omega
theorem idx_div (c : Dev nD) (r j : Fin 4) : (idx c r j).val / 4 = j.val := by
  show (4 * j.val + (qr c r).val) / 4 = j.val; omega
theorem idx_mod (c : Dev nD) (r j : Fin 4) : (idx c r j).val % 4 = (qr c r).val := by
  show (4 * j.val + (qr c r).val) % 4 = (qr c r).val; omega
theorem idx_div' (c : Dev nD) (r j : Fin 4) : (⟨(idx c r j).val / 4, by omega⟩ : Fin 4) = j := Fin.ext (idx_div c r j)
theorem idx_mod' (c : Dev nD) (r j : Fin 4) : (⟨(idx c r j).val % 4, by omega⟩ : Fin 4) = qr c r := Fin.ext (idx_mod c r j)

/-- What the waits for a chunk take. -/
def oInR (c : Dev nD) (r j : Fin 4) : sProp 𝕄 :=
  match r with
  | 0 => cmAt m c (qs (qm c) j) fullShare.left
  | 1 => if j.val < 2 then rcv c (19 + j.val) (by omega) else cmAt m c (qs (qm (xp c)) j) fullShare.left
  | 2 => if j.val < 2 then cmAt m c (qs (qm (zp c)) j) fullShare.left else rcv c (27 + j.val) (by omega)
  | 3 => if j.val < 2 then rcv c (33 + j.val) (by omega) else rcv c (37 + (j.val - 2)) (by omega)
/-- What they give back beside the share that is read. -/
def oExR (c : Dev nD) (r j : Fin 4) : sProp 𝕄 :=
  match r with
  | 0 => iprop(emp)
  | 1 => if j.val < 2 then iprop(cmAt m c (qs (qm (xp c)) j) fullShare.right ∗ zeroD c (19 + j.val) (by omega)) else iprop(emp)
  | 2 => if j.val < 2 then iprop(emp) else iprop(cmAt m c (qs (qm (zp c)) j) fullShare.right ∗ zeroD c (27 + j.val) (by omega))
  | 3 => iprop(cmAt m c (qs (qm (xp (zp c))) j) fullShare.right
      ∗ if j.val < 2 then zeroD c (33 + j.val) (by omega) else zeroD c (37 + (j.val - 2)) (by omega))
def oIn (c : Dev nD) (i : Fin 16) : sProp 𝕄 := oInR m c (rel c i) ⟨i.val / 4, by omega⟩
def oEx (c : Dev nD) (i : Fin 16) : sProp 𝕄 := oExR m c (rel c i) ⟨i.val / 4, by omega⟩

/-- A wait for an arrival, its slot's share to be read apart. -/
theorem wp_arrive (c : Dev nD) (n : ℕ) (h : n < 39) (h7 : 7 ≤ n) (s : Fin 16) (hp : payD m c n = cmAt m c s fullShare) {k : P (F := F)} {Q : PUnit → sProp 𝕄} :
    iprop(ctx m K ∗ ow c 194 ∗ rcv c n (by omega))
      ⊢ iprop(((ow c 194 ∗ cmAt m c s fullShare.left ∗ cmAt m c s fullShare.right ∗ zeroD c n (by omega)) -∗ run c Q k)
        -∗ run c Q (waitSlot cmM cmM (Memref.isWhole_whole _) (Memref.isWhole_whole _) s (dsem n (by omega)) k)) := by
  unfold waitSlot
  iintro ⟨#Hc, Ho, Hr⟩ Hk
  iapply (wp_waitEnd m K c n h h7 (credit_cm _) hp) $$ [Hr Ho]
  · isplitr; · iexact Hc
    isplitl [Hr] <;> iassumption
  iintro ⟨Ho, Hp, Hz⟩
  ihave Hp := (cmAt_split m c s fullShare).1 $$ Hp
  icases Hp with ⟨Hl, Hp⟩
  iapply Hk
  isplitl [Ho]; · iexact Ho
  isplitl [Hl]; · iexact Hl
  isplitl [Hp] <;> iassumption

theorem qr_ne : ∀ c : Dev nD, qm (xp c) ≠ qm c ∧ qm (xp (zp c)) ≠ qm c ∧ qm (zp c) ≠ qm c ∧ qm (xp (zp c)) ≠ qm (xp c)
    ∧ qm (zp c) ≠ qm (xp c) ∧ qm (xp c) ≠ qm (zp c) ∧ qm (xp (zp c)) ≠ qm (zp c) ∧ qm (xp c) ≠ qm (xp (zp c)) ∧ qm (zp c) ≠ qm (xp (zp c)) := by decide +kernel

theorem wp_otherWaits (c : Dev nD) (i : Fin 16) {k : P (F := F)} {Q : PUnit → sProp 𝕄} :
    iprop(ctx m K ∗ ow c 194 ∗ oIn m c i)
      ⊢ iprop(((ow c 194 ∗ cmAt m c (perm i) fullShare.left ∗ oEx m c i) -∗ run c Q k) -∗ run c Q (otherWaits c i k)) := by
  obtain ⟨r, j, rfl⟩ : ∃ r j, i = idx c r j := ⟨_, _, (idx_rel c i).symm⟩
  obtain ⟨h₁, h₂, h₃, h₄, h₅, h₆, h₇, h₈, h₉⟩ := qr_ne c
  unfold oIn oEx otherWaits waitIf
  simp only [idx_div, idx_mod, rel_idx, perm_idx, Fin.eta]
  have none : iprop(ctx m K ∗ ow c 194 ∗ cmAt m c (qs (qr c r) j) fullShare.left)
      ⊢ iprop(((ow c 194 ∗ cmAt m c (qs (qr c r) j) fullShare.left ∗ emp) -∗ run c Q k) -∗ run c Q k) := by
    iintro ⟨-, Ho, Hl⟩ Hk
    iapply Hk
    isplitl [Ho]; · iexact Ho
    isplitl [Hl]; · iexact Hl
    iempintro
  match r with
  | 0 =>
    have e : qr c 0 = qm c := rfl
    rw [e] at none ⊢
    simp only [oInR, oExR, if_neg h₁, if_neg h₂, if_neg h₃]
    by_cases hj : j.val < 2
    · rw [dif_pos hj]; exact none
    · rw [dif_neg hj]; exact none
  | 1 =>
    have e : qr c 1 = qm (xp c) := rfl
    rw [e] at none ⊢
    simp only [oInR, oExR]
    by_cases hj : j.val < 2
    · simp only [dif_pos hj, if_pos hj, if_true, if_neg h₄]
      exact wp_arrive m K c (19 + j.val) (by omega) (Nat.le_trans (by decide) (Nat.le_add_right 19 _)) _ (pay_rx1 m c j)
    · simp only [dif_neg hj, if_neg hj, if_neg h₄, if_neg h₅]
      exact none
  | 2 =>
    have e : qr c 2 = qm (zp c) := rfl
    rw [e] at none ⊢
    simp only [oInR, oExR]
    by_cases hj : j.val < 2
    · simp only [dif_pos hj, if_pos hj, if_neg h₆, if_neg h₇]
      exact none
    · simp only [dif_neg hj, if_neg hj, if_true, if_neg h₇]
      exact wp_arrive m K c (27 + j.val) (by omega) (Nat.le_trans (by decide) (Nat.le_add_right 27 _)) _ (pay_rz1 m c j)
  | 3 =>
    have e : qr c 3 = qm (xp (zp c)) := rfl
    rw [e] at none ⊢
    simp only [oInR, oExR]
    by_cases hj : j.val < 2
    · simp only [dif_pos hj, if_pos hj, if_true, if_neg h₈]
      exact wp_arrive m K c (33 + j.val) (by omega) (Nat.le_trans (by decide) (Nat.le_add_right 33 _)) _ (pay_rx2 m c ⟨j.val, hj⟩)
    · simp only [dif_neg hj, if_neg hj, if_true, if_neg h₉]
      refine wp_arrive m K c (37 + (j.val - 2)) (by omega) (Nat.le_trans (by decide) (Nat.le_add_right 37 _)) _ ((pay_rz2 m c ⟨j.val - 2, by omega⟩).trans ?_)
      congr 2
      exact Fin.ext (by show 2 + (j.val - 2) = j.val; omega)

/-! ## The results' tiles -/

/-- Slot `k % 4` of the staging ring before its tile `k`: free, or with the tile four before on its way out. -/
def st (c : Dev nD) (k : ℕ) : sProp 𝕄 :=
  if k < 4 then oFree c ⟨k % 4, by omega⟩ else oFl m c ⟨k % 4, by omega⟩ (tileCol c ⟨(k - 4) % 32, by omega⟩)
/-- The tiles that have been waited for before tile `n`. -/
def done (c : Dev nD) (n : ℕ) : sProp 𝕄 := bigSep (rangeSet 32 0 (n - 4)) fun k => oAt m c (tileCol c k)
/-- The state before tile `n`. -/
def tI (c : Dev nD) (n : ℕ) : sProp 𝕄 := iprop((st m c n ∗ st m c (n + 1) ∗ st m c (n + 2) ∗ st m c (n + 3)) ∗ done m c n ∗ ow c 194)

theorem wp_tile (c : Dev nD) (n : Fin 32) (src : Memref sig .tc .vmem S16x512x512 .bf16) (s : Fin 16) (l : Vec F S1x512x512 .bf16) (X : sProp 𝕄)
    (hv : outV (mTot m c) (rTot m c) l = outT m c (tileCol c n)) {Q : PUnit → sProp 𝕄}
    (hld : ∀ k : Vec F S1x512x512 .bf16 → P (F := F), X ⊢ iprop((X -∗ run c Q (k l)) -∗ run c Q (ld16 src s k)))
    {k : P (F := F)} :
    iprop(ctx m K ∗ tI m c n.val ∗ X ∗ oAny c (tileCol c n))
      ⊢ iprop(((tI m c (n.val + 1) ∗ X) -∗ run c Q k) -∗ run c Q (tile c (mTot m c) (rTot m c) n src s k)) := by
  have e₄ : st m c (n.val + 1 + 3) = oFl m c ⟨n.val % 4, by omega⟩ (tileCol c n) := by
    unfold st
    rw [if_neg (by omega)]
    have a : (⟨(n.val + 1 + 3) % 4, by omega⟩ : Fin 4) = ⟨n.val % 4, by omega⟩ := Fin.ext (by show (n.val + 1 + 3) % 4 = n.val % 4; omega)
    have b : (⟨(n.val + 1 + 3 - 4) % 32, by omega⟩ : Fin 32) = n := Fin.ext (by show (n.val + 1 + 3 - 4) % 32 = n.val; omega)
    rw [a, b]
  unfold tI tile
  rw [e₄, show n.val + 1 + 1 = n.val + 2 from rfl, show n.val + 1 + 2 = n.val + 3 from rfl]
  by_cases h : 4 ≤ n.val
  · have e₀ : st m c n.val = oFl m c ⟨n.val % 4, by omega⟩ (tileCol c ⟨n.val - 4, by omega⟩) := by
      unfold st
      rw [if_neg (by omega)]
      congr 2
      exact Fin.ext (by show (n.val - 4) % 32 = n.val - 4; omega)
    have ed : done m c (n.val + 1) = iprop(oAt m c (tileCol c ⟨n.val - 4, by omega⟩) ∗ done m c n.val) := by
      unfold done
      rw [show n.val + 1 - 4 = n.val - 4 + 1 by omega, bigSep_rangeSet_last (by omega) (by omega)]
      rfl
    rw [e₀, ed]
    iintro ⟨#Hc, ⟨⟨Hf, H1, H2, H3⟩, Hd, Ho⟩, Hx, Ha⟩ Hk
    iapply (hld _) $$ Hx
    iintro Hx
    rw [dif_pos h, hv]
    iapply (wp_waitOut m K c _ _ 194) $$ [Hf Ho]
    · isplitr; · iexact Hc
      isplitl [Hf] <;> iassumption
    iintro ⟨Hat, He, Ho⟩
    iapply (wp_putOut m c _ _ (tileCol c n) rfl) $$ [He Ha]
    · isplitl [He] <;> iassumption
    iintro Hf
    iapply Hk
    isplitr [Hx]
    · isplitl [H1 H2 H3 Hf]
      · isplitl [H1]; · iexact H1
        isplitl [H2]; · iexact H2
        isplitl [H3] <;> iassumption
      isplitr [Ho]
      · isplitl [Hat] <;> iassumption
      iexact Ho
    iexact Hx
  · have e₀ : st m c n.val = oFree c ⟨n.val % 4, by omega⟩ := by
      unfold st
      rw [if_pos (by omega)]
    have ed : done m c (n.val + 1) = done m c n.val := by
      unfold done
      rw [show n.val + 1 - 4 = n.val - 4 by omega]
    rw [e₀, ed]
    iintro ⟨#Hc, ⟨⟨Hf, H1, H2, H3⟩, Hd, Ho⟩, Hx, Ha⟩ Hk
    iapply (hld _) $$ Hx
    iintro Hx
    rw [dif_neg h, hv]
    iapply (wp_putOut m c _ _ (tileCol c n) rfl) $$ [Hf Ha]
    · isplitl [Hf] <;> iassumption
    iintro Hf
    iapply Hk
    isplitr [Hx]
    · isplitl [H1 H2 H3 Hf]
      · isplitl [H1]; · iexact H1
        isplitl [H2]; · iexact H2
        isplitl [H3] <;> iassumption
      isplitl [Hd] <;> iassumption
    iexact Hx

theorem half_le : ∀ c : Dev nD, half c < 2 ∧ half (yp c) < 2 ∧ half (yp c) ≠ half c := by decide

theorem out_own (c : Dev nD) (i : Fin 16) : outV (mTot m c) (rTot m c) (LGv m c i) = outT m c (tileCol c ⟨i.val, by omega⟩) := by
  have hh := half_le c
  have e : tileCol c ⟨i.val, by omega⟩ = colOf (half c) i := dif_pos i.isLt
  unfold outT
  rw [e, if_pos (by show (16 * (half c % 2) + i.val) / 16 = half c; omega)]
  congr 2
  exact Fin.ext (by show i.val = (16 * (half c % 2) + i.val) % 16; omega)
theorem out_other (c : Dev nD) (i : Fin 16) : outV (mTot m c) (rTot m c) (CMv m c (perm i)) = outT m c (tileCol c ⟨16 + i.val, by omega⟩) := by
  have hh := half_le c
  have e : tileCol c ⟨16 + i.val, by omega⟩ = colOf (half (yp c)) (perm i) := by
    unfold tileCol
    rw [dif_neg (by show ¬ (16 + i.val < 16); omega)]
    congr 2
    exact Fin.ext (by show 16 + i.val - 16 = i.val; omega)
  unfold outT
  have hp := (perm i).isLt
  rw [e, if_neg (by show ¬ ((16 * (half (yp c) % 2) + (perm i).val) / 16 = half c); omega)]
  congr 2
  exact Fin.ext (by show (perm i).val = (16 * (half (yp c) % 2) + (perm i).val) % 16; omega)

theorem wp_ownTile (c : Dev nD) (i : Fin 16) {k : P (F := F)} {Q : PUnit → sProp 𝕄} :
    iprop(ctx m K ∗ tI m c i.val ∗ lgAt m c i fullShare.left ∗ oAny c (tileCol c ⟨i.val, by omega⟩))
      ⊢ iprop(((tI m c (i.val + 1) ∗ lgAt m c i fullShare.left) -∗ run c Q k) -∗ run c Q (ownTile c (mTot m c) (rTot m c) i k)) :=
  wp_tile m K c ⟨i.val, by omega⟩ lgM i (LGv m c i) _ (out_own m c i) fun _ => wp_ldLg m c i fullShare.left

theorem wp_otherTile (c : Dev nD) (i : Fin 16) {k : P (F := F)} {Q : PUnit → sProp 𝕄} :
    iprop(ctx m K ∗ tI m c (16 + i.val) ∗ oIn m c i ∗ oAny c (tileCol c ⟨16 + i.val, by omega⟩))
      ⊢ iprop(((tI m c (16 + (i.val + 1)) ∗ cmAt m c (perm i) fullShare.left ∗ oEx m c i) -∗ run c Q k) -∗ run c Q (otherTile c (mTot m c) (rTot m c) i k)) := by
  have ht := wp_tile m K c ⟨16 + i.val, by omega⟩ cmM (perm i) (CMv m c (perm i)) _ (out_other m c i) (fun _ => wp_ldCm m c (perm i) fullShare.left) (k := k) (Q := Q)
  rw [show tI m c (16 + (i.val + 1)) = tI m c (16 + i.val + 1) from rfl]
  unfold otherTile
  iintro ⟨#Hc, Ht, Hi, Ha⟩ Hk
  unfold tI
  icases Ht with ⟨Hs, Hd, Ho⟩
  iapply (wp_otherWaits m K c i) $$ [Ho Hi]
  · isplitr; · iexact Hc
    isplitl [Ho] <;> iassumption
  iintro ⟨Ho, Hl, He⟩
  unfold tI at ht
  iapply ht $$ [Hs Hd Ho Hl Ha]
  · isplitr; · iexact Hc
    isplitl [Hs Hd Ho]
    · isplitl [Hs]; · iexact Hs
      isplitl [Hd] <;> iassumption
    isplitl [Hl] <;> iassumption
  iintro ⟨Ht, Hl⟩
  iapply Hk
  isplitl [Ht]; · iexact Ht
  isplitl [Hl] <;> iassumption

end Cert.KernelIdeal.Body
end
-- ==== Proof.Regroup.lean ====
/- Families of resources regrouped: by order of the chunks, by quarters, by runs. -/
module

public import proofs.«01_k».proof.Proof.Tiles

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head)
open Cert.KernelIdeal Cert.KernelIdeal.Gen

variable {F : FTy → Type} [FloatOps F]

local notation "𝕄" => MT nD τ sig Unit (Elt F) ℕ UU ℕ

section
variable {M : Type} [URA M]

theorem sep_first {n : ℕ} (Φ : Fin (n + 1) → sProp M) : bigSep Finset.univ Φ = iprop(Φ 0 ∗ bigSep Finset.univ fun i : Fin n => Φ i.succ) := by
  rw [Fin.univ_succ, Finset.cons_eq_insert, bigSep_insert (by simp [Fin.succ_ne_zero]), bigSep_map]
  rfl
theorem sep_last {n : ℕ} (Φ : Fin (n + 1) → sProp M) : bigSep Finset.univ Φ = iprop(Φ (Fin.last n) ∗ bigSep Finset.univ fun i : Fin n => Φ i.castSucc) := by
  rw [Fin.univ_castSuccEmb, Finset.cons_eq_insert, bigSep_insert (by simp [Fin.castSucc_ne_last]), bigSep_map]
  rfl
/-- A family of `a + b` members is that of the first `a` and that of the last `b`. -/
theorem sep_add (a b : ℕ) (Φ : ℕ → sProp M) :
    (bigSep Finset.univ fun i : Fin (a + b) => Φ i.val) = iprop((bigSep Finset.univ fun i : Fin a => Φ i.val) ∗ bigSep Finset.univ fun i : Fin b => Φ (a + i.val)) := by
  rw [bigSep_univ_equiv (finSumFinEquiv (m := a) (n := b)), bigSep_univ_sum]
  rfl

def permE : Fin 16 ≃ Fin 16 := ⟨perm, perm, by decide, by decide⟩
theorem sep_perm (Φ : Fin 16 → sProp M) : (bigSep Finset.univ fun i => Φ (perm i)) = bigSep Finset.univ Φ := (bigSep_univ_equiv permE Φ).symm

def idxE (c : Dev nD) : Fin 4 × Fin 4 ≃ Fin 16 :=
  ⟨fun p => idx c p.1 p.2, fun i => (rel c i, ⟨i.val / 4, by omega⟩), fun p => Prod.ext (rel_idx c p.1 p.2) (idx_div' c p.1 p.2), fun i => idx_rel c i⟩
theorem sep_four (Φ : Fin 4 → sProp M) : bigSep Finset.univ Φ = iprop(Φ 0 ∗ Φ 1 ∗ Φ 2 ∗ Φ 3) := by
  rw [bigSep_univ_eq_bigSepL [0, 1, 2, 3] (by decide) (by decide)]; rfl
/-- The chunks, quarter by quarter. -/
theorem sep_idx (c : Dev nD) (Φ : Fin 16 → sProp M) :
    bigSep Finset.univ Φ = iprop((bigSep Finset.univ fun j => Φ (idx c 0 j)) ∗ (bigSep Finset.univ fun j => Φ (idx c 1 j))
      ∗ (bigSep Finset.univ fun j => Φ (idx c 2 j)) ∗ bigSep Finset.univ fun j => Φ (idx c 3 j)) := by
  rw [bigSep_univ_equiv (idxE c), bigSep_univ_prod, sep_four]
  rfl
/-- The slots, quarter by quarter. -/
theorem sep_quarters (c : Dev nD) (Φ : Fin 16 → sProp M) :
    bigSep Finset.univ Φ = iprop((bigSep Finset.univ fun j => Φ (qs (qm c) j)) ∗ (bigSep Finset.univ fun j => Φ (qs (qm (xp c)) j))
      ∗ (bigSep Finset.univ fun j => Φ (qs (qm (zp c)) j)) ∗ bigSep Finset.univ fun j => Φ (qs (qm (xp (zp c))) j)) := by
  rw [← sep_perm, sep_idx c]
  simp only [perm_idx]
  rfl
theorem sep_halves (Φ : Fin 4 → sProp M) :
    bigSep Finset.univ Φ = iprop((bigSep Finset.univ fun j : Fin 2 => Φ ⟨j.val, by omega⟩) ∗ bigSep Finset.univ fun j : Fin 2 => Φ ⟨2 + j.val, by omega⟩) := by
  rw [bigSep_univ_equiv (finSumFinEquiv (m := 2) (n := 2)), bigSep_univ_sum]
  rfl

/-- The chunks of the device's own quarter taken apart from a family. -/
theorem sep_sel (c : Dev nD) (X : Fin 4 → sProp M) (Y : Fin 16 → sProp M) :
    (bigSep Finset.univ fun i : Fin 16 => if qm c = ⟨i.val % 4, by omega⟩ then X ⟨i.val / 4, by omega⟩ else Y i)
      = iprop((bigSep Finset.univ X) ∗ bigSep Finset.univ fun i : Fin 16 => if qm c = ⟨i.val % 4, by omega⟩ then iprop(emp) else Y i) := by
  obtain ⟨h₁, h₂, h₃, -⟩ := qr_ne c
  rw [sep_idx c, sep_idx c (fun i : Fin 16 => if qm c = ⟨i.val % 4, by omega⟩ then iprop(emp) else Y i)]
  have e0 : qm c = qr c 0 := rfl
  have e1 : ¬ qm c = qr c 1 := fun h => h₁ h.symm
  have e2 : ¬ qm c = qr c 2 := fun h => h₃ h.symm
  have e3 : ¬ qm c = qr c 3 := fun h => h₂ h.symm
  simp only [idx_div', idx_mod', if_pos e0, if_neg e1, if_neg e2, if_neg e3]
  have he : (bigSep Finset.univ fun _ : Fin 4 => iprop(emp) : sProp M) = iprop(emp) := bigSep_emp_const _
  rw [he]
  exact congrArg (fun Z => iprop((bigSep Finset.univ X) ∗ Z)) (equiv_iff.mp Idealize.SL.BI.emp_sep).symm
end

end Cert.KernelIdeal.Body
end
-- ==== Proof.Phases.lean ====
/- The three parts of the body, each from what it takes to what it gives back. -/
module

public import proofs.«01_k».proof.Proof.Regroup

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head bigSep_rangeSet_last rangeSet_univ bigSep_rangeSet_split)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

/-! ## The matrix products, the first relays and the sums -/

/-- When the chunks of the three runs are waited for. -/
def tA (i : ℕ) : ℕ := if i = 0 then 3 else 10 + 10 * i
def tB (i : ℕ) : ℕ := if i = 9 then 102 else 10 + 10 * i
def tC (i : ℕ) : ℕ := if i = 13 then 142 else 10 + 10 * i

theorem gap_A : ∀ (q : Fin 4) (i : Fin 9), Finset.univ.filter (fun t => tA i.val ≤ timeT q t) = Finset.univ.filter (fun t => 15 + 10 * i.val ≤ timeT q t)
    ∧ Finset.univ.filter (fun t => 16 + 10 * i.val ≤ timeT q t) = Finset.univ.filter (fun t => tA (i.val + 1) ≤ timeT q t) := by decide +kernel
theorem gap_B : ∀ (q : Fin 4) (i : Fin 4), Finset.univ.filter (fun t => tB (9 + i.val) ≤ timeT q t) = Finset.univ.filter (fun t => 15 + 10 * (9 + i.val) ≤ timeT q t)
    ∧ Finset.univ.filter (fun t => 16 + 10 * (9 + i.val) ≤ timeT q t) = Finset.univ.filter (fun t => tB (9 + i.val + 1) ≤ timeT q t) := by decide +kernel
theorem gap_C : ∀ (q : Fin 4) (i : Fin 2), Finset.univ.filter (fun t => tC (13 + i.val) ≤ timeT q t) = Finset.univ.filter (fun t => 15 + 10 * (13 + i.val) ≤ timeT q t)
    ∧ Finset.univ.filter (fun t => 16 + 10 * (13 + i.val) ≤ timeT q t) = Finset.univ.filter (fun t => tC (13 + i.val + 1) ≤ timeT q t) := by decide +kernel
theorem gaps : ∀ q : Fin 4, Finset.univ.filter (fun t => tC 15 ≤ timeT q t) = Finset.univ.filter (fun t => 15 + 10 * 15 ≤ timeT q t)
    ∧ Finset.univ.filter (fun t => 16 + 10 * 15 ≤ timeT q t) = Finset.univ.filter (fun t => 166 ≤ timeT q t)
    ∧ Finset.univ.filter (fun t => 166 ≤ timeT q t) = Finset.univ.filter (fun t => tR 2 ≤ timeT q t)
    ∧ Finset.univ.filter (fun t => tR 2 + 2 ≤ timeT q t) = Finset.univ.filter (fun t => tR 3 ≤ timeT q t)
    ∧ Finset.univ.filter (fun t => tR 3 + 2 ≤ timeT q t) = Finset.univ.filter (fun t => 180 ≤ timeT q t)
    ∧ Finset.univ.filter (fun t => 181 ≤ timeT q t) = Finset.univ.filter (fun t => 190 ≤ timeT q t) := by decide +kernel

/-- A relay between two runs of chunks. -/
theorem wp_relayI (τ₁ τ₂ : ℕ → ℕ) (c : Dev nD) (i : ℕ) (j : Fin 4) (h : τ₁ i = tR j) (h' : τ₂ i = tR j + 2) {k : P (F := F)} {Q : PUnit → sProp 𝕄} :
    iprop(ctx m K ∗ chI m τ₁ c i ∗ relIn c j) ⊢ iprop(((chI m τ₂ c i ∗ relOut m c j) -∗ run c Q k) -∗ run c Q (relay c j k)) := by
  unfold chI
  rw [h']
  iintro ⟨#Hc, ⟨Hf, He, Ho⟩, Hr⟩ Hk
  iapply (wp_relay m K c j (τ₁ i) (by rw [h])) $$ [Ho Hr]
  · isplitr; · iexact Hc
    isplitl [Ho] <;> iassumption
  iintro ⟨Ho, Hr⟩
  iapply Hk
  isplitr [Hr]
  · isplitl [Hf]; · iexact Hf
    isplitl [He] <;> iassumption
  iexact Hr

/-- What the first part takes: the chunks' columns and slots, the two halves of the double buffer, the relays' needs. -/
def p1In (c : Dev nD) : sProp 𝕄 :=
  iprop((bigSep Finset.univ fun i => wcAt m c i) ∗ (wFree c 0 ∗ wFree c 1) ∗ (bigSep Finset.univ fun i => chIn c i) ∗ bigSep Finset.univ fun j => relIn c j)
/-- What it gives back. -/
def p1Out (c : Dev nD) : sProp 𝕄 :=
  iprop((bigSep Finset.univ fun i => wcAt m c i) ∗ (wFree c 0 ∗ wFree c 1)
    ∗ (bigSep Finset.univ fun i => lgAt m c i fullShare.left)
    ∗ (bigSep Finset.univ fun i : Fin 16 => if qm c = ⟨i.val % 4, by omega⟩ then crD c (7 + i.val / 4) (by omega) else lgAt m c (perm i) fullShare.right)
    ∗ bigSep Finset.univ fun j => relOut m c j)

/-- The fifteen steps of chunks in three runs and the one before them. -/
theorem sep_runs {M : Type} [URA M] (Φ : Fin 15 → sProp M) :
    bigSep Finset.univ Φ = iprop(Φ 0 ∗ bigSep (rangeSet 15 1 (1 + 8)) Φ ∗ bigSep (rangeSet 15 9 (9 + 4)) Φ ∗ bigSep (rangeSet 15 13 (13 + 2)) Φ) := by
  rw [← rangeSet_univ, bigSep_rangeSet_head (by omega) (by omega), bigSep_rangeSet_split (a := 0 + 1) (b := 9) (d := 15) (by omega) (by omega),
    bigSep_rangeSet_split (a := 9) (b := 13) (d := 15) (by omega) (by omega)]
  rfl
/-- The sixteen exponentials: the first, and the two runs. -/
theorem sep_exps {M : Type} [URA M] (Φ : Fin 16 → sProp M) :
    bigSep Finset.univ Φ = iprop(Φ 0 ∗ bigSep (rangeSet 16 1 (1 + 7)) Φ ∗ bigSep (rangeSet 16 8 (8 + 8)) Φ) := by
  rw [← rangeSet_univ, bigSep_rangeSet_head (by omega) (by omega), bigSep_rangeSet_split (a := 0 + 1) (b := 8) (d := 16) (by omega) (by omega)]
  rfl

theorem wp_exp (c : Dev nD) {Q : PUnit → sProp 𝕄} :
    iprop(ctx m K ∗ ow c (tR 2 + 2) ∗ (bigSep Finset.univ fun i => lgAt m c i fullShare.left) ∗ relIn c 3)
      ⊢ iprop(((ow c 180 ∗ (bigSep Finset.univ fun i => lgAt m c i fullShare.left) ∗ relOut m c 3) -∗ run c Q (statsB c (mOwn m c) (sOwn m c)))
        -∗ run c Q (expB c (mOwn m c))) := by
  obtain ⟨-, -, -, g₁, g₂, -⟩ := gaps (qm c)
  rw [sep_exps]
  unfold expB
  iintro ⟨#Hc, Ho, ⟨H0, H1, H2⟩, Hr⟩ Hk
  iapply (wp_ldLg m c 0 fullShare.left) $$ H0
  iintro H0
  have e₁ := wp_exps m K c 1 7 (by omega) (by omega) (k := fun s => relay c 3 <|
    iterV (fun n a => addExp (mOwn m c) a n) 8 8 (by omega) s fun s => statsB c (mOwn m c) s) (Q := Q)
  iapply e₁ $$ [H1]
  · isplitr; · iexact Hc
    iexact H1
  iintro H1
  iapply (wp_relay m K c 3 _ (owed_same c _ _ g₁)) $$ [Ho Hr]
  · isplitr; · iexact Hc
    isplitl [Ho] <;> iassumption
  iintro ⟨Ho, Hr⟩
  have e₂ := wp_exps m K c 8 8 (by omega) (by omega) (k := fun s => statsB c (mOwn m c) s) (Q := Q)
  iapply e₂ $$ [H2]
  · isplitr; · iexact Hc
    iexact H2
  iintro H2
  iapply Hk
  isplitl [Ho]; · iapply (ow_same c (owed_same c _ _ g₂)) $$ Ho
  isplitr [Hr]
  · isplitl [H0]; · iexact H0
    isplitl [H1] <;> iassumption
  iexact Hr

theorem wp_prod (c : Dev nD) {Q : PUnit → sProp 𝕄} :
    iprop(ctx m K ∗ ow c 3 ∗ p1In m c)
      ⊢ iprop(((ow c 180 ∗ p1Out m c) -∗ run c Q (statsB c (mOwn m c) (sOwn m c))) -∗ run c Q (prodB c (xb m c))) := by
  obtain ⟨g₁, g₂, g₃, -⟩ := gaps (qm c)
  have hA : iprop((bigSep Finset.univ fun i : Fin 15 => wcAt m c (perm i.succ)) ∗ bigSep Finset.univ fun i : Fin 15 => chIn c i.castSucc)
      = (bigSep Finset.univ (chA m c) : sProp 𝕄) := (bigSep_sep' _ _ _).symm
  have hB : (bigSep Finset.univ (chB m c) : sProp 𝕄) = iprop((bigSep Finset.univ fun i : Fin 15 => wcAt m c (perm i.castSucc))
      ∗ bigSep Finset.univ fun i : Fin 15 => chOut m c i.castSucc) := bigSep_sep' _ _ _
  have hO : (bigSep Finset.univ fun i => chOut m c i : sProp 𝕄) = iprop((bigSep Finset.univ fun i => lgAt m c i fullShare.left)
      ∗ (bigSep Finset.univ fun i : Fin 16 => if qm c = ⟨i.val % 4, by omega⟩ then crD c (7 + i.val / 4) (by omega) else lgAt m c (perm i) fullShare.right)) := by
    rw [← sep_perm (fun i => lgAt m c i fullShare.left)]
    exact bigSep_sep' _ _ _
  have start : iprop(p1In m c) ⊢ iprop((wcAt m c (perm 0) ∗ wFree c 0) ∗ wFree c 1
      ∗ (chA m c 0 ∗ bigSep (rangeSet 15 1 (1 + 8)) (chA m c) ∗ bigSep (rangeSet 15 9 (9 + 4)) (chA m c) ∗ bigSep (rangeSet 15 13 (13 + 2)) (chA m c))
      ∗ chIn c 15 ∗ (relIn c 0 ∗ relIn c 1 ∗ relIn c 2 ∗ relIn c 3)) := by
    unfold p1In
    rw [← sep_runs, ← hA, ← sep_four (fun j => relIn c j), ← sep_perm (fun i => wcAt m c i), sep_first (fun i => wcAt m c (perm i)), sep_last (fun i => chIn c i)]
    iintro ⟨⟨Hw0, Hw⟩, ⟨H0, H1⟩, ⟨Hl, Hx⟩, Hr⟩
    isplitl [Hw0 H0]; · isplitl [Hw0] <;> iassumption
    isplitl [H1]; · iexact H1
    isplitl [Hw Hx]; · isplitl [Hw] <;> iassumption
    isplitl [Hl]; · iexact Hl
    iexact Hr
  have fin : iprop((wFree c 0 ∗ wFree c 1)
      ∗ (chB m c 0 ∗ bigSep (rangeSet 15 1 (1 + 8)) (chB m c) ∗ bigSep (rangeSet 15 9 (9 + 4)) (chB m c) ∗ bigSep (rangeSet 15 13 (13 + 2)) (chB m c))
      ∗ wcAt m c (perm 15) ∗ chOut m c 15)
      ⊢ iprop((bigSep Finset.univ fun i => wcAt m c i) ∗ (wFree c 0 ∗ wFree c 1)
        ∗ (bigSep Finset.univ fun i => lgAt m c i fullShare.left)
        ∗ (bigSep Finset.univ fun i : Fin 16 => if qm c = ⟨i.val % 4, by omega⟩ then crD c (7 + i.val / 4) (by omega) else lgAt m c (perm i) fullShare.right)) := by
    rw [← sep_runs, hB, ← hO, sep_last (fun i => chOut m c i), ← sep_perm (fun i => wcAt m c i), sep_last (fun i => wcAt m c (perm i))]
    iintro ⟨He, ⟨Hw, Hx⟩, Hw', Hx'⟩
    isplitl [Hw Hw']
    · isplitl [Hw']; · iexact Hw'
      iexact Hw
    isplitl [He]; · iexact He
    isplitl [Hx']; · iexact Hx'
    iexact Hx
  unfold p1Out
  iintro ⟨#Hc, Ho, H⟩ Hk
  ihave H := start $$ H
  icases H with ⟨H0, He, ⟨Ha0, Ha1, Ha2, Ha3⟩, Hx, ⟨Hr0, Hr1, Hr2, Hr3⟩⟩
  unfold prodB
  iapply (wp_wCopy m c (perm 0) 0) $$ H0
  iintro Hf
  have e₀ := wp_chunkN m K tA c 0 (owed_same c _ _ (gap_A (qm c) 0).1) (owed_same c _ _ (gap_A (qm c) 0).2) (Q := Q)
    (k := fun v => iterV (chunkMax c (xb m c)) 1 8 (by omega) v fun v =>
      relay c 0 <| iterV (chunkMax c (xb m c)) 9 4 (by omega) v fun v =>
      relay c 1 <| iterV (chunkMax c (xb m c)) 13 2 (by omega) v fun v =>
      chunk c (xb m c) 15 fun v' => relay c 2 <| expB c (maximumf v v'))
  iapply e₀ $$ [Hf He Ho Ha0]
  · isplitr; · iexact Hc
    isplitr [Ha0]
    · unfold chI
      isplitl [Hf]; · iexact Hf
      isplitl [He]; · iexact He
      iexact Ho
    iexact Ha0
  iintro ⟨Hi, Hb0⟩
  have e₁ := wp_chunks m K tA c 1 8 (by omega) (by omega) (fun i h h' => owed_same c _ _ (gap_A (qm c) ⟨i, by omega⟩).1)
    (fun i h h' => owed_same c _ _ (gap_A (qm c) ⟨i, by omega⟩).2) (Q := Q)
    (k := fun v => relay c 0 <| iterV (chunkMax c (xb m c)) 9 4 (by omega) v fun v =>
      relay c 1 <| iterV (chunkMax c (xb m c)) 13 2 (by omega) v fun v =>
      chunk c (xb m c) 15 fun v' => relay c 2 <| expB c (maximumf v v'))
  iapply e₁ $$ [Hi Ha1]
  · isplitr; · iexact Hc
    isplitl [Hi]; · iexact Hi
    iexact Ha1
  iintro ⟨Hi, Hb1⟩
  iapply (wp_relayI m K tA tB c 9 0 rfl rfl) $$ [Hi Hr0]
  · isplitr; · iexact Hc
    isplitl [Hi] <;> iassumption
  iintro ⟨Hi, Hr0⟩
  have e₂ := wp_chunks m K tB c 9 4 (by omega) (by omega)
    (fun i h h' => by
      obtain ⟨j, rfl⟩ : ∃ j, i = 9 + j := ⟨i - 9, by omega⟩
      exact owed_same c _ _ (gap_B (qm c) ⟨j, by omega⟩).1)
    (fun i h h' => by
      obtain ⟨j, rfl⟩ : ∃ j, i = 9 + j := ⟨i - 9, by omega⟩
      exact owed_same c _ _ (gap_B (qm c) ⟨j, by omega⟩).2) (Q := Q)
    (k := fun v => relay c 1 <| iterV (chunkMax c (xb m c)) 13 2 (by omega) v fun v =>
      chunk c (xb m c) 15 fun v' => relay c 2 <| expB c (maximumf v v'))
  iapply e₂ $$ [Hi Ha2]
  · isplitr; · iexact Hc
    isplitl [Hi] <;> iassumption
  iintro ⟨Hi, Hb2⟩
  iapply (wp_relayI m K tB tC c 13 1 rfl rfl) $$ [Hi Hr1]
  · isplitr; · iexact Hc
    isplitl [Hi] <;> iassumption
  iintro ⟨Hi, Hr1⟩
  have e₃ := wp_chunks m K tC c 13 2 (by omega) (by omega)
    (fun i h h' => by
      obtain ⟨j, rfl⟩ : ∃ j, i = 13 + j := ⟨i - 13, by omega⟩
      exact owed_same c _ _ (gap_C (qm c) ⟨j, by omega⟩).1)
    (fun i h h' => by
      obtain ⟨j, rfl⟩ : ∃ j, i = 13 + j := ⟨i - 13, by omega⟩
      exact owed_same c _ _ (gap_C (qm c) ⟨j, by omega⟩).2) (Q := Q)
    (k := fun v => chunk c (xb m c) 15 fun v' => relay c 2 <| expB c (maximumf v v'))
  iapply e₃ $$ [Hi Ha3]
  · isplitr; · iexact Hc
    isplitl [Hi] <;> iassumption
  iintro ⟨Hi, Hb3⟩
  unfold chI
  icases Hi with ⟨Hf, He, Ho⟩
  iapply (wp_chunk m K c 15 (tC 15) 166 (owed_same c _ _ g₁) (owed_same c _ _ g₂)) $$ [Hf Ho Hx]
  · isplitr; · iexact Hc
    isplitl [Hf]; · iexact Hf
    isplitl [Ho] <;> iassumption
  iintro ⟨He', Ho, Hw, Hx⟩
  iapply (wp_relay m K c 2 166 (owed_same c _ _ g₃)) $$ [Ho Hr2]
  · isplitr; · iexact Hc
    isplitl [Ho] <;> iassumption
  iintro ⟨Ho, Hr2⟩
  ihave H := fin $$ [He He' Hb0 Hb1 Hb2 Hb3 Hw Hx]
  · isplitl [He He']
    · isplitl [He]; · iexact He
      iexact He'
    isplitl [Hb0 Hb1 Hb2 Hb3]
    · isplitl [Hb0]; · iexact Hb0
      isplitl [Hb1]; · iexact Hb1
      isplitl [Hb2] <;> iassumption
    isplitl [Hw] <;> iassumption
  icases H with ⟨Hw, He, Hl, Hx⟩
  iapply (wp_exp m K c) $$ [Ho Hl Hr3]
  · isplitr; · iexact Hc
    isplitl [Ho]; · iexact Ho
    isplitl [Hl] <;> iassumption
  iintro ⟨Ho, Hl, Hr3⟩
  iapply Hk
  isplitl [Ho]; · iexact Ho
  isplitl [Hw]; · iexact Hw
  isplitl [He]; · iexact He
  isplitl [Hl]; · iexact Hl
  isplitl [Hx]; · iexact Hx
  rw [sep_four (fun j => relOut m c j)]
  isplitl [Hr0]; · iexact Hr0
  isplitl [Hr1]; · iexact Hr1
  isplitl [Hr2] <;> iassumption

/-! ## The statistics and the second relays -/

def p2In (c : Dev nD) : sProp 𝕄 :=
  iprop(stIn c ∗ (bigSep Finset.univ fun j => rxIn c j) ∗ (bigSep Finset.univ fun j => rzIn c j) ∗ rcv c 40 (by omega))
def p2Out (c : Dev nD) : sProp 𝕄 :=
  iprop(crD c 39 (by omega) ∗ (bigSep Finset.univ fun j => rxOut m c j) ∗ (bigSep Finset.univ fun j => rzOut m c j) ∗ srAny c ∗ zeroD c 40 (by omega))

theorem sep_run {M : Type} [URA M] (n : ℕ) (Φ : Fin n → sProp M) : bigSep Finset.univ Φ = bigSep (rangeSet n 0 (0 + n)) Φ := by
  rw [Nat.zero_add, rangeSet_univ]

theorem wp_statsB (c : Dev nD) {Q : PUnit → sProp 𝕄} :
    iprop(ctx m K ∗ ow c 180 ∗ p2In c)
      ⊢ iprop(((ow c 194 ∗ p2Out m c) -∗ run c Q (tailB c (mTot m c) (rTot m c))) -∗ run c Q (statsB c (mOwn m c) (sOwn m c))) := by
  obtain ⟨-, -, -, -, -, g⟩ := gaps (qm c)
  unfold p2In p2Out statsB
  rw [sep_run 2 (fun j => rxIn c j), sep_run 2 (fun j => rzIn c j), sep_run 2 (fun j => rxOut m c j), sep_run 2 (fun j => rzOut m c j)]
  iintro ⟨#Hc, Ho, Hs, Hx, Hz, Hr⟩ Hk
  iapply (wp_stats m K c 180 rfl) $$ [Ho Hs]
  · isplitr; · iexact Hc
    isplitl [Ho] <;> iassumption
  iintro ⟨Ho, Hcr⟩
  ihave Ho := (ow_same c (owed_same c _ _ g)) $$ Ho
  have e₁ := wp_iter m K (relayX c) c (fun i => ow c (190 + i)) (fun j => rxIn c j) (fun j => rxOut m c j) (Q := Q) 0 2 (by omega)
    (fun i _ _ k => wp_relayX m K c i)
  iapply (e₁ _) $$ [Ho Hx]
  · isplitr; · iexact Hc
    isplitl [Ho] <;> iassumption
  iintro ⟨Ho, Hx⟩
  have e₂ := wp_iter m K (relayZ c) c (fun i => ow c (192 + i)) (fun j => rzIn c j) (fun j => rzOut m c j) (Q := Q) 0 2 (by omega)
    (fun i _ _ k => wp_relayZ m K c i)
  iapply (e₂ _) $$ [Ho Hz]
  · isplitr; · iexact Hc
    isplitl [Ho] <;> iassumption
  iintro ⟨Ho, Hz⟩
  iapply (wp_waitD m K c 40 _ (by omega) 194 rfl (fun t ht => absurd ht (time_end _ t))) $$ [Hr Ho]
  · isplitr; · iexact Hc
    isplitl [Hr] <;> iassumption
  iintro ⟨Ho, Hp, Hzz⟩
  have hp : payD m c 40 = srAt m c := rfl
  ihave Hp := (Entails.of_eq hp) $$ Hp
  iapply (wp_ldStats m c (k := fun mo so => tailB c (maximumf (mOwn m c) mo) (rcV (sumV (mOwn m c) (sOwn m c) mo so)))) $$ Hp
  iintro Hp
  iapply Hk
  isplitl [Ho]; · iexact Ho
  isplitl [Hcr]; · iexact Hcr
  isplitl [Hx]; · iexact Hx
  isplitl [Hz]; · iexact Hz
  isplitl [Hp] <;> iassumption

/-! ## The tiles and the last waits -/

def p3In (c : Dev nD) : sProp 𝕄 :=
  iprop((bigSep Finset.univ fun i => lgAt m c i fullShare.left) ∗ (bigSep Finset.univ fun i => oIn m c i) ∗ (bigSep Finset.univ fun k => oAny c k)
    ∗ (bigSep Finset.univ fun b => oFree c b) ∗ rcv c 39 (by omega) ∗ (bigSep Finset.univ fun j => f1In c j) ∗ bigSep Finset.univ fun j => f2In c j)
def p3Out (c : Dev nD) : sProp 𝕄 :=
  iprop((bigSep Finset.univ fun i => lgAt m c i fullShare.left)
    ∗ ((bigSep Finset.univ fun i => cmAt m c i fullShare.left) ∗ bigSep Finset.univ fun i => oEx m c i) ∗ (bigSep Finset.univ fun k => oAt m c k)
    ∗ (bigSep Finset.univ fun b => oFree c b) ∗ (stAny c ∗ zeroD c 39 (by omega)) ∗ (bigSep Finset.univ fun j => f1Out m c j) ∗ bigSep Finset.univ fun j => f2Out m c j)

theorem tileCol_bij : ∀ c : Dev nD, Function.Injective (tileCol c) := by decide +kernel
def tileE (c : Dev nD) : Fin 32 ≃ Fin 32 := Equiv.ofBijective (tileCol c) (Finite.injective_iff_bijective.mp (tileCol_bij c))
/-- The result's column chunks, in the order of the tiles. -/
theorem sep_cols {M : Type} [URA M] (c : Dev nD) (Φ : Fin 32 → sProp M) : bigSep Finset.univ Φ = bigSep Finset.univ fun n => Φ (tileCol c n) :=
  bigSep_univ_equiv (tileE c) Φ
/-- The tiles: the own half's and the other's. -/
theorem sep_tiles {M : Type} [URA M] (Φ : Fin 32 → sProp M) :
    bigSep Finset.univ Φ = iprop((bigSep Finset.univ fun i : Fin 16 => Φ ⟨i.val, by omega⟩) ∗ bigSep Finset.univ fun i : Fin 16 => Φ ⟨16 + i.val, by omega⟩) := by
  rw [bigSep_univ_equiv (finSumFinEquiv (m := 16) (n := 16)), bigSep_univ_sum]
  rfl
/-- The tiles: the first twenty-eight and the last four. -/
theorem sep_last4 {M : Type} [URA M] (Φ : Fin 32 → sProp M) :
    bigSep Finset.univ Φ = iprop(bigSep (rangeSet 32 0 28) Φ ∗ bigSep Finset.univ fun i : Fin 4 => Φ ⟨28 + i.val, by omega⟩) := by
  rw [← rangeSet_univ, bigSep_rangeSet_split (a := 0) (b := 28) (d := 32) (by omega) (by omega), sep_four,
    bigSep_rangeSet_head (lo := 28) (by omega) (by omega), bigSep_rangeSet_head (lo := 29) (by omega) (by omega), bigSep_rangeSet_head (lo := 30) (by omega) (by omega),
    bigSep_rangeSet_head (lo := 31) (by omega) (by omega), bigSep_rangeSet_empty (lo := 31 + 1) (hi := 32) (by omega)]
  exact congrArg (fun Z => iprop(bigSep (rangeSet 32 0 28) Φ ∗ Φ ⟨28, by omega⟩ ∗ Φ ⟨29, by omega⟩ ∗ Φ ⟨30, by omega⟩ ∗ Z)) (equiv_iff.mp Idealize.SL.BI.sep_emp)

omit m in
/-- The program that is done. -/
theorem run_ret (c : Dev nD) {Q : PUnit → sProp 𝕄} : Q ⟨⟩ ⊢ run (F := F) c Q (.ret ⟨⟩) := by
  show _ ⊢ wp frame _ Set.univ _ _
  rw [wp_ret]; exact fupd_intro
theorem hst₀ (c : Dev nD) : iprop(oFree c 0 ∗ oFree c 1 ∗ oFree c 2 ∗ oFree c 3) = (iprop(st m c 0 ∗ st m c (0 + 1) ∗ st m c (0 + 2) ∗ st m c (0 + 3)) : sProp 𝕄) := rfl
theorem hdone (c : Dev nD) : done m c (16 + (0 + 16)) = bigSep (rangeSet 32 0 28) fun k => oAt m c (tileCol c k) := rfl
theorem hst₁ (c : Dev nD) : iprop(st m c (16 + (0 + 16)) ∗ st m c (16 + (0 + 16) + 1) ∗ st m c (16 + (0 + 16) + 2) ∗ st m c (16 + (0 + 16) + 3))
    = (iprop(oFl m c 0 (tileCol c ⟨28 + (0 : Fin 4).val, by omega⟩) ∗ oFl m c 1 (tileCol c ⟨28 + (1 : Fin 4).val, by omega⟩)
      ∗ oFl m c 2 (tileCol c ⟨28 + (2 : Fin 4).val, by omega⟩) ∗ oFl m c 3 (tileCol c ⟨28 + (3 : Fin 4).val, by omega⟩)) : sProp 𝕄) := rfl

set_option maxHeartbeats 1000000 in
/-- The thirty-two tiles, the last copies of the result, and the waits for what was sent. -/
theorem wp_tailB (c : Dev nD) {Q : PUnit → sProp 𝕄} :
    iprop(ctx m K ∗ ow c 194 ∗ p3In m c)
      ⊢ iprop(((ow c 194 ∗ p3Out m c) -∗ Q ⟨⟩) -∗ run c Q (tailB c (mTot m c) (rTot m c))) := by
  have ownA : iprop((bigSep Finset.univ fun i => lgAt m c i fullShare.left) ∗ bigSep Finset.univ fun i : Fin 16 => oAny c (tileCol c ⟨i.val, by omega⟩))
      = (bigSep (rangeSet 16 0 (0 + 16)) fun i => iprop(lgAt m c i fullShare.left ∗ oAny c (tileCol c ⟨i.val, by omega⟩)) : sProp 𝕄) := by
    rw [← sep_run]; exact (bigSep_sep' _ _ _).symm
  have othA : iprop((bigSep Finset.univ fun i => oIn m c i) ∗ bigSep Finset.univ fun i : Fin 16 => oAny c (tileCol c ⟨16 + i.val, by omega⟩))
      = (bigSep (rangeSet 16 0 (0 + 16)) fun i => iprop(oIn m c i ∗ oAny c (tileCol c ⟨16 + i.val, by omega⟩)) : sProp 𝕄) := by
    rw [← sep_run]; exact (bigSep_sep' _ _ _).symm
  have othB : (bigSep (rangeSet 16 0 (0 + 16)) fun i => iprop(cmAt m c (perm i) fullShare.left ∗ oEx m c i) : sProp 𝕄)
      = iprop((bigSep Finset.univ fun i => cmAt m c i fullShare.left) ∗ bigSep Finset.univ fun i => oEx m c i) := by
    rw [← sep_run, bigSep_sep', sep_perm (fun i => cmAt m c i fullShare.left)]
  have lastB : (bigSep (rangeSet 4 0 (0 + 4)) fun b => iprop(oAt m c (tileCol c ⟨28 + b.val, by omega⟩) ∗ oFree c b) : sProp 𝕄)
      = iprop((bigSep Finset.univ fun b : Fin 4 => oAt m c (tileCol c ⟨28 + b.val, by omega⟩)) ∗ bigSep Finset.univ fun b => oFree c b) := by
    rw [← sep_run, bigSep_sep']
  unfold p3In p3Out tailB
  rw [sep_cols c (fun k => oAny c k), sep_tiles, sep_cols c (fun k => oAt m c k), sep_last4]
  iintro ⟨#Hc, Ho, Hl, Hi, ⟨Ha, Hb⟩, Hf, Hs, H1, H2⟩ Hk
  have e₁ := wp_iter m K (ownTile c (mTot m c) (rTot m c)) c (tI m c) (fun i => iprop(lgAt m c i fullShare.left ∗ oAny c (tileCol c ⟨i.val, by omega⟩)))
    (fun i => lgAt m c i fullShare.left) (Q := Q) 0 16 (by omega) (fun i _ _ k => wp_ownTile m K c i)
  iapply (e₁ _) $$ [Ho Hf Hl Ha]
  · isplitr; · iexact Hc
    isplitl [Ho Hf]
    · unfold tI done
      ihave Hf := (Entails.of_eq ((sep_four (fun b => oFree c b)).trans (hst₀ m c))) $$ Hf
      isplitl [Hf]; · iexact Hf
      isplitr; · rw [bigSep_rangeSet_empty (by omega)]; iempintro
      iexact Ho
    iapply (Entails.of_eq ownA) $$ [Hl Ha]
    isplitl [Hl] <;> iassumption
  iintro ⟨Ht, Hl⟩
  have e₂ := wp_iter m K (otherTile c (mTot m c) (rTot m c)) c (fun i => tI m c (16 + i)) (fun i => iprop(oIn m c i ∗ oAny c (tileCol c ⟨16 + i.val, by omega⟩)))
    (fun i => iprop(cmAt m c (perm i) fullShare.left ∗ oEx m c i)) (Q := Q) 0 16 (by omega) (fun i _ _ k => wp_otherTile m K c i)
  iapply (e₂ _) $$ [Ht Hi Hb]
  · isplitr; · iexact Hc
    isplitl [Ht]; · iexact Ht
    iapply (Entails.of_eq othA) $$ [Hi Hb]
    isplitl [Hi] <;> iassumption
  iintro ⟨Ht, Hi⟩
  ihave Hi := (Entails.of_eq othB) $$ Hi
  unfold tI
  icases Ht with ⟨Hst, Hd, Ho⟩
  have e₃ := wp_iter m K (fun b K => waitOut b (tileCol c ⟨28 + b.val, by omega⟩) K) c (fun _ => ow c 194)
    (fun b => oFl m c b (tileCol c ⟨28 + b.val, by omega⟩)) (fun b => iprop(oAt m c (tileCol c ⟨28 + b.val, by omega⟩) ∗ oFree c b)) (Q := Q) 0 4 (by omega)
    (fun b _ _ k => by
      iintro ⟨#Hc, Ho, Hf⟩ Hk
      iapply (wp_waitOut m K c b _ 194) $$ [Ho Hf]
      · isplitr; · iexact Hc
        isplitl [Hf] <;> iassumption
      iintro ⟨Ha, Hf, Ho⟩
      iapply Hk
      isplitl [Ho]; · iexact Ho
      isplitl [Ha] <;> iassumption)
  iapply (e₃ _) $$ [Ho Hst]
  · isplitr; · iexact Hc
    isplitl [Ho]; · iexact Ho
    rw [← sep_run, sep_four]
    iapply (Entails.of_eq (hst₁ m c)) $$ Hst
  iintro ⟨Ho, Hf⟩
  ihave Hf := (Entails.of_eq lastB) $$ Hf
  icases Hf with ⟨Ha, Hf⟩
  iapply (wp_waitD m K c 39 _ (by omega) (dst := stM) 194 rfl (fun t ht => absurd ht (time_end _ t))) $$ [Hs Ho]
  · isplitr; · iexact Hc
    isplitl [Hs] <;> iassumption
  iintro ⟨Ho, Hp, Hz⟩
  have hp : payD m c 39 = stAny c := rfl
  ihave Hp := (Entails.of_eq hp) $$ Hp
  have e₄ := wp_iter m K (finish1 c) c (fun _ => ow c 194) (fun j => f1In c j) (fun j => f1Out m c j) (Q := Q) 0 4 (by omega) (fun i _ _ k => wp_finish1 m K c i)
  iapply (e₄ _) $$ [Ho H1]
  · isplitr; · iexact Hc
    isplitl [Ho]; · iexact Ho
    rw [← sep_run]; iexact H1
  iintro ⟨Ho, H1⟩
  have e₅ := wp_iter m K (finish2 c) c (fun _ => ow c 194) (fun j => f2In c j) (fun j => f2Out m c j) (Q := Q) 0 2 (by omega) (fun i _ _ k => wp_finish2 m K c i)
  iapply (e₅ _) $$ [Ho H2]
  · isplitr; · iexact Hc
    isplitl [Ho]; · iexact Ho
    rw [← sep_run]; iexact H2
  iintro ⟨Ho, H2⟩
  ihave Hl := (Entails.of_eq (sep_run 16 (fun i => lgAt m c i fullShare.left)).symm) $$ Hl
  ihave H1 := (Entails.of_eq (sep_run 4 (fun j => f1Out m c j)).symm) $$ H1
  ihave H2 := (Entails.of_eq (sep_run 2 (fun j => f2Out m c j)).symm) $$ H2
  iapply (run_ret c)
  iapply Hk
  isplitl [Ho]; · iexact Ho
  isplitl [Hl]; · iexact Hl
  isplitl [Hi]; · iexact Hi
  isplitl [Hd Ha]
  · isplitl [Hd]; · iapply (Entails.of_eq (hdone m c)) $$ Hd
    iexact Ha
  isplitl [Hf]; · iexact Hf
  isplitl [Hp Hz]
  · isplitl [Hp] <;> iassumption
  isplitl [H1]; · iexact H1
  iexact H2

end Cert.KernelIdeal.Body
end
-- ==== Proof.Gather.lean ====
/- What the body's parts take and give back, gathered from what the launch deals a device and into what it is to return. -/
module

public import proofs.«01_k».proof.Proof.Phases

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head bigSep_rangeSet_last rangeSet_univ bigSep_rangeSet_split)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

section Families
variable {M : Type} [URA M]

/-- A family over the remote copies' semaphores, kind by kind. -/
def semFams (Φ : (n : ℕ) → n < 41 → sProp M) : sProp M :=
  iprop((bigSep Finset.univ fun j : Fin 4 => Φ (7 + j.val) (by omega)) ∗ (bigSep Finset.univ fun j : Fin 4 => Φ (11 + j.val) (by omega))
    ∗ (bigSep Finset.univ fun j : Fin 4 => Φ (15 + j.val) (by omega)) ∗ (bigSep Finset.univ fun j : Fin 4 => Φ (19 + j.val) (by omega))
    ∗ (bigSep Finset.univ fun j : Fin 4 => Φ (23 + j.val) (by omega)) ∗ (bigSep Finset.univ fun j : Fin 4 => Φ (27 + j.val) (by omega))
    ∗ (bigSep Finset.univ fun j : Fin 2 => Φ (31 + j.val) (by omega)) ∗ (bigSep Finset.univ fun j : Fin 2 => Φ (33 + j.val) (by omega))
    ∗ (bigSep Finset.univ fun j : Fin 2 => Φ (35 + j.val) (by omega)) ∗ (bigSep Finset.univ fun j : Fin 2 => Φ (37 + j.val) (by omega))
    ∗ Φ 39 (by omega) ∗ Φ 40 (by omega))

/-- A family of `a + b` members, bounds and all. -/
theorem sep_cut (a b : ℕ) (Φ : Fin (a + b) → sProp M) :
    bigSep Finset.univ Φ = iprop((bigSep Finset.univ fun i : Fin a => Φ ⟨i.val, by omega⟩) ∗ bigSep Finset.univ fun i : Fin b => Φ ⟨a + i.val, by omega⟩) := by
  rw [bigSep_univ_equiv (finSumFinEquiv (m := a) (n := b)), bigSep_univ_sum]
  rfl
theorem sep_one (Φ : Fin 1 → sProp M) : bigSep Finset.univ Φ = Φ 0 := bigSep_univ_eq_bigSepL [0] (by decide) (by decide) Φ

theorem sep_step (Φ : (n : ℕ) → n < 41 → sProp M) (n a b : ℕ) (h : n + (a + b) ≤ 41) :
    (bigSep Finset.univ fun k : Fin (a + b) => Φ (n + k.val) (by omega))
      = iprop((bigSep Finset.univ fun k : Fin a => Φ (n + k.val) (by omega)) ∗ bigSep Finset.univ fun k : Fin b => Φ (n + a + k.val) (by omega)) := by
  rw [sep_cut a b]
  simp only [Nat.add_assoc]

theorem sep_sems (Φ : (n : ℕ) → n < 41 → sProp M) : (bigSep Finset.univ fun k : Fin 34 => Φ (7 + k.val) (by omega)) = semFams Φ := by
  unfold semFams
  exact (sep_step Φ 7 4 30 (by omega)).trans <| congrArg (BIBase.sep _) <|
    (sep_step Φ 11 4 26 (by omega)).trans <| congrArg (BIBase.sep _) <|
    (sep_step Φ 15 4 22 (by omega)).trans <| congrArg (BIBase.sep _) <|
    (sep_step Φ 19 4 18 (by omega)).trans <| congrArg (BIBase.sep _) <|
    (sep_step Φ 23 4 14 (by omega)).trans <| congrArg (BIBase.sep _) <|
    (sep_step Φ 27 4 10 (by omega)).trans <| congrArg (BIBase.sep _) <|
    (sep_step Φ 31 2 8 (by omega)).trans <| congrArg (BIBase.sep _) <|
    (sep_step Φ 33 2 6 (by omega)).trans <| congrArg (BIBase.sep _) <|
    (sep_step Φ 35 2 4 (by omega)).trans <| congrArg (BIBase.sep _) <|
    (sep_step Φ 37 2 2 (by omega)).trans <| congrArg (BIBase.sep _) <|
    (sep_step Φ 39 1 1 (by omega)).trans <| congrArg₂ BIBase.sep (sep_one _) (sep_one _)
end Families

/-- The tokens of what device `c` pays: the neighbours' barriers, its copies' own ends and their far ends. -/
def tokIn (c : Dev nD) : sProp 𝕄 :=
  iprop((dutyTok ER (barCell (yp c)) 0 0 ∗ dutyTok ER (barCell (xp c)) 0 1 ∗ dutyTok ER (barCell (zp c)) 0 2)
    ∗ (bigSep Finset.univ fun j : Fin 4 => tokD c (7 + j.val) (by omega)) ∗ (bigSep Finset.univ fun j : Fin 4 => tokD (yp c) (11 + j.val) (by omega))
    ∗ (bigSep Finset.univ fun j : Fin 4 => tokD c (15 + j.val) (by omega)) ∗ (bigSep Finset.univ fun j : Fin 4 => tokD (xp c) (19 + j.val) (by omega))
    ∗ (bigSep Finset.univ fun j : Fin 4 => tokD c (23 + j.val) (by omega)) ∗ (bigSep Finset.univ fun j : Fin 4 => tokD (zp c) (27 + j.val) (by omega))
    ∗ (bigSep Finset.univ fun j : Fin 2 => tokD c (31 + j.val) (by omega)) ∗ (bigSep Finset.univ fun j : Fin 2 => tokD (xp c) (33 + j.val) (by omega))
    ∗ (bigSep Finset.univ fun j : Fin 2 => tokD c (35 + j.val) (by omega)) ∗ (bigSep Finset.univ fun j : Fin 2 => tokD (zp c) (37 + j.val) (by omega))
    ∗ tokD c 39 (by omega) ∗ tokD (yp c) 40 (by omega))
/-- The credits of what it is to receive. -/
def crIn (c : Dev nD) : sProp 𝕄 :=
  iprop((bigSep Finset.univ fun j : Fin 4 => crD c (11 + j.val) (by omega)) ∗ (bigSep Finset.univ fun j : Fin 4 => crD c (19 + j.val) (by omega))
    ∗ (bigSep Finset.univ fun j : Fin 4 => crD c (27 + j.val) (by omega)) ∗ (bigSep Finset.univ fun j : Fin 2 => crD c (33 + j.val) (by omega))
    ∗ (bigSep Finset.univ fun j : Fin 2 => crD c (37 + j.val) (by omega)) ∗ crD c 40 (by omega))

/-- A credit and the place at its cell are the right to wait there. -/
theorem rcv_intro (k : ℕ) (c : Dev nD) (n : ℕ) (h : n + k ≤ 41) :
    iprop((bigSep Finset.univ fun j : Fin k => crD (F := F) c (n + j.val) (by omega)) ∗ bigSep Finset.univ fun j : Fin k => posD c (n + j.val) (by omega))
      ⊢ (bigSep Finset.univ fun j : Fin k => rcv c (n + j.val) (by omega) : sProp 𝕄) :=
  Entails.of_eq (bigSep_sep' _ _ _).symm

theorem rcv_one (c : Dev nD) (n : ℕ) (h : n < 41) : iprop(crD (F := F) c n h ∗ posD c n h) ⊢ (rcv c n h : sProp 𝕄) := Entails.refl _
theorem rcv_halves (c : Dev nD) (n : ℕ) (h : n + 4 ≤ 41) : (bigSep Finset.univ fun j : Fin 4 => rcv (F := F) c (n + j.val) (by omega) : sProp 𝕄)
    ⊢ iprop((bigSep Finset.univ fun j : Fin 2 => rcv c (n + j.val) (by omega)) ∗ bigSep Finset.univ fun j : Fin 2 => rcv c (n + (2 + j.val)) (by omega)) :=
  Entails.of_eq (sep_halves _)
theorem zero_halves (c : Dev nD) (n : ℕ) (h : n + 4 ≤ 41) :
    iprop((bigSep Finset.univ fun j : Fin 2 => zeroD (F := F) c (n + j.val) (by omega)) ∗ bigSep Finset.univ fun j : Fin 2 => zeroD c (n + (2 + j.val)) (by omega))
      ⊢ (bigSep Finset.univ fun j : Fin 4 => zeroD c (n + j.val) (by omega) : sProp 𝕄) :=
  Entails.of_eq (sep_halves (fun j : Fin 4 => zeroD (F := F) c (n + j.val) (by omega))).symm

/-! ## The barrier's hand-over -/

omit [FloatOps F] in
theorem bar_give (c : Dev nD) :
    iprop((bigSep Finset.univ fun i => cmAny (F := F) c i) ∗ srAny c) ⊢ (iprop(barPay (yp c) 0 ∗ barPay (xp c) 1 ∗ barPay (zp c) 2) : sProp 𝕄) := by
  have h0 : (barPay (F := F) (yp c) 0 : sProp 𝕄) = iprop(srAny c ∗ bigSep Finset.univ fun j : Fin 4 => cmAny c (qs (qm c) j)) := by
    unfold barPay; dsimp only; rw [yp_yp, qm_yp]
  have h1 : (barPay (F := F) (xp c) 1 : sProp 𝕄) = iprop((bigSep Finset.univ fun j : Fin 4 => cmAny c (qs (qm (xp c)) j))
      ∗ bigSep Finset.univ fun j : Fin 2 => cmAny c (qs (qm (xp (zp c))) ⟨j.val, by omega⟩)) := by
    unfold barPay; dsimp only; rw [xp_xp, xp_zp]
  have h2 : (barPay (F := F) (zp c) 2 : sProp 𝕄) = iprop((bigSep Finset.univ fun j : Fin 4 => cmAny c (qs (qm (zp c)) j))
      ∗ bigSep Finset.univ fun j : Fin 2 => cmAny c (qs (qm (xp (zp c))) ⟨2 + j.val, by omega⟩)) := by
    unfold barPay; dsimp only; rw [zp_zp]
  rw [h0, h1, h2, sep_quarters c (fun i => cmAny (F := F) c i), sep_halves (fun j => cmAny (F := F) c (qs (qm (xp (zp c))) j))]
  iintro ⟨⟨H0, H1, H2, H3, H4⟩, Hs⟩
  isplitl [Hs H0]; · isplitl [Hs] <;> iassumption
  isplitl [H1 H3]
  · isplitl [H1] <;> iassumption
  isplitl [H2] <;> iassumption

/-! ## The chunks' needs -/

theorem sel_emp {M : Type} [URA M] (p : Fin 16 → Prop) [DecidablePred p] : (bigSep Finset.univ fun i : Fin 16 => if p i then iprop(emp) else iprop(emp) : sProp M) = iprop(emp) := by
  simp only [ite_self]
  exact bigSep_emp_const _

omit [FloatOps F] in
theorem ch_intro (c : Dev nD) :
    iprop((bigSep Finset.univ fun i => lgAny (F := F) c i) ∗ (bigSep Finset.univ fun j : Fin 4 => cmAny (yp c) (qs (qm c) j))
      ∗ (bigSep Finset.univ fun j : Fin 4 => tokD c (7 + j.val) (by omega)) ∗ (bigSep Finset.univ fun j : Fin 4 => tokD (yp c) (11 + j.val) (by omega)))
      ⊢ (bigSep Finset.univ fun i => chIn c i : sProp 𝕄) := by
  have h : (bigSep Finset.univ fun i => chIn (F := F) c i : sProp 𝕄) = iprop((bigSep Finset.univ fun i => lgAny c i)
      ∗ ((bigSep Finset.univ fun j : Fin 4 => cmAny (yp c) (qs (qm c) j))
      ∗ (bigSep Finset.univ fun j : Fin 4 => tokD c (7 + j.val) (by omega)) ∗ (bigSep Finset.univ fun j : Fin 4 => tokD (yp c) (11 + j.val) (by omega))) ∗ emp) := by
    unfold chIn
    rw [bigSep_sep', sep_perm (fun i => lgAny (F := F) c i)]
    have e := sep_sel c (fun j => syIn (F := F) c j) (fun _ => iprop(emp))
    rw [sel_emp] at e
    have e' : (bigSep Finset.univ fun j => syIn (F := F) c j : sProp 𝕄) = iprop((bigSep Finset.univ fun j : Fin 4 => cmAny (yp c) (qs (qm c) j))
        ∗ (bigSep Finset.univ fun j : Fin 4 => tokD c (7 + j.val) (by omega)) ∗ (bigSep Finset.univ fun j : Fin 4 => tokD (yp c) (11 + j.val) (by omega))) := by
      unfold syIn; simp only [bigSep_sep']
    rw [e'] at e
    exact congrArg (fun Z => iprop((bigSep Finset.univ fun i => lgAny (F := F) c i) ∗ Z)) e
  rw [h]
  iintro ⟨H, H'⟩
  isplitl [H]; · iexact H
  isplitl [H']; · iexact H'
  iempintro

/-! ## The other half's slots -/

theorem oIn_eq (c : Dev nD) : (bigSep Finset.univ fun i => oIn m c i) = iprop((bigSep Finset.univ fun j : Fin 4 => cmAt m c (qs (qm c) j) fullShare.left)
      ∗ ((bigSep Finset.univ fun j : Fin 2 => rcv c (19 + j.val) (by omega)) ∗ bigSep Finset.univ fun j : Fin 2 => cmAt m c (qs (qm (xp c)) ⟨2 + j.val, by omega⟩) fullShare.left)
      ∗ ((bigSep Finset.univ fun j : Fin 2 => cmAt m c (qs (qm (zp c)) ⟨j.val, by omega⟩) fullShare.left) ∗ bigSep Finset.univ fun j : Fin 2 => rcv c (27 + (2 + j.val)) (by omega))
      ∗ ((bigSep Finset.univ fun j : Fin 2 => rcv c (33 + j.val) (by omega)) ∗ bigSep Finset.univ fun j : Fin 2 => rcv c (37 + j.val) (by omega))) := by
  unfold oIn
  rw [sep_idx c]
  simp only [rel_idx, idx_div']
  rw [sep_halves (fun j => oInR m c 1 j), sep_halves (fun j => oInR m c 2 j), sep_halves (fun j => oInR m c 3 j)]
  have n2 (j : Fin 2) : ¬ (2 + j.val < 2) := by omega
  have a1 : (bigSep Finset.univ fun j : Fin 2 => oInR m c 1 ⟨j.val, by omega⟩) = bigSep Finset.univ fun j : Fin 2 => rcv c (19 + j.val) (by omega) :=
    bigSep_congr fun j _ => if_pos j.isLt
  have b1 : (bigSep Finset.univ fun j : Fin 2 => oInR m c 1 ⟨2 + j.val, by omega⟩)
      = bigSep Finset.univ fun j : Fin 2 => cmAt m c (qs (qm (xp c)) ⟨2 + j.val, by omega⟩) fullShare.left := bigSep_congr fun j _ => if_neg (n2 j)
  have a2 : (bigSep Finset.univ fun j : Fin 2 => oInR m c 2 ⟨j.val, by omega⟩)
      = bigSep Finset.univ fun j : Fin 2 => cmAt m c (qs (qm (zp c)) ⟨j.val, by omega⟩) fullShare.left := bigSep_congr fun j _ => if_pos j.isLt
  have b2 : (bigSep Finset.univ fun j : Fin 2 => oInR m c 2 ⟨2 + j.val, by omega⟩) = bigSep Finset.univ fun j : Fin 2 => rcv c (27 + (2 + j.val)) (by omega) :=
    bigSep_congr fun j _ => if_neg (n2 j)
  have a3 : (bigSep Finset.univ fun j : Fin 2 => oInR m c 3 ⟨j.val, by omega⟩) = bigSep Finset.univ fun j : Fin 2 => rcv c (33 + j.val) (by omega) :=
    bigSep_congr fun j _ => if_pos j.isLt
  have b3 : (bigSep Finset.univ fun j : Fin 2 => oInR m c 3 ⟨2 + j.val, by omega⟩) = bigSep Finset.univ fun j : Fin 2 => rcv c (37 + j.val) (by omega) :=
    bigSep_congr fun j _ => (if_neg (n2 j)).trans (by simp only [Nat.add_sub_cancel_left])
  rw [a1, b1, a2, b2, a3, b3]
  rfl

theorem oEx_elim (c : Dev nD) : (bigSep Finset.univ fun i => oEx m c i) ⊢ iprop(
      ((bigSep Finset.univ fun j : Fin 2 => cmAt m c (qs (qm (xp c)) ⟨j.val, by omega⟩) fullShare.right) ∗ bigSep Finset.univ fun j : Fin 2 => zeroD c (19 + j.val) (by omega))
      ∗ ((bigSep Finset.univ fun j : Fin 2 => cmAt m c (qs (qm (zp c)) ⟨2 + j.val, by omega⟩) fullShare.right) ∗ bigSep Finset.univ fun j : Fin 2 => zeroD c (27 + (2 + j.val)) (by omega))
      ∗ (bigSep Finset.univ fun j : Fin 4 => cmAt m c (qs (qm (xp (zp c))) j) fullShare.right)
      ∗ (bigSep Finset.univ fun j : Fin 2 => zeroD c (33 + j.val) (by omega)) ∗ bigSep Finset.univ fun j : Fin 2 => zeroD c (37 + j.val) (by omega)) := by
  unfold oEx
  rw [sep_idx c]
  simp only [rel_idx, idx_div']
  have n2 (j : Fin 2) : ¬ (2 + j.val < 2) := by omega
  have a1 : (bigSep Finset.univ fun j : Fin 2 => oExR m c 1 ⟨j.val, by omega⟩)
      = iprop((bigSep Finset.univ fun j : Fin 2 => cmAt m c (qs (qm (xp c)) ⟨j.val, by omega⟩) fullShare.right) ∗ bigSep Finset.univ fun j : Fin 2 => zeroD c (19 + j.val) (by omega)) := by
    rw [← bigSep_sep']; exact bigSep_congr fun j _ => if_pos j.isLt
  have b2 : (bigSep Finset.univ fun j : Fin 2 => oExR m c 2 ⟨2 + j.val, by omega⟩)
      = iprop((bigSep Finset.univ fun j : Fin 2 => cmAt m c (qs (qm (zp c)) ⟨2 + j.val, by omega⟩) fullShare.right) ∗ bigSep Finset.univ fun j : Fin 2 => zeroD c (27 + (2 + j.val)) (by omega)) := by
    rw [← bigSep_sep']; exact bigSep_congr fun j _ => if_neg (n2 j)
  have c3 : (bigSep Finset.univ fun j => oExR m c 3 j) = iprop((bigSep Finset.univ fun j : Fin 4 => cmAt m c (qs (qm (xp (zp c))) j) fullShare.right)
      ∗ bigSep Finset.univ fun j : Fin 4 => if j.val < 2 then zeroD c (33 + j.val) (by omega) else zeroD c (37 + (j.val - 2)) (by omega)) := by
    rw [← bigSep_sep']; rfl
  have a3 : (bigSep Finset.univ fun j : Fin 4 => if j.val < 2 then zeroD (F := F) c (33 + j.val) (by omega) else zeroD c (37 + (j.val - 2)) (by omega) : sProp 𝕄)
      = iprop((bigSep Finset.univ fun j : Fin 2 => zeroD c (33 + j.val) (by omega)) ∗ bigSep Finset.univ fun j : Fin 2 => zeroD c (37 + j.val) (by omega)) := by
    rw [sep_halves]
    congr 1
  rw [sep_halves (fun j => oExR m c 1 j), sep_halves (fun j => oExR m c 2 j), a1, b2, c3, a3]
  iintro ⟨-, ⟨H1, -⟩, ⟨-, H2⟩, H3⟩
  isplitl [H1]; · iexact H1
  isplitl [H2] <;> iassumption

/-! ## The buffers whole again -/

theorem cmAt_lr (c : Dev nD) (n : Fin 16) (q : PosShare TreeShare) : cmAt m c n q = iprop(cmAt m c n q.left ∗ cmAt m c n q.right) :=
  equiv_iff.mp ⟨(cmAt_split m c n q).1, (cmAt_split m c n q).2⟩
theorem lgAt_lr (c : Dev nD) (n : Fin 16) : lgAt m c n fullShare = iprop(lgAt m c n fullShare.left ∗ lgAt m c n fullShare.right) :=
  equiv_iff.mp ⟨(lgAt_split m c n).1, (lgAt_split m c n).2⟩

theorem cm_back (c : Dev nD) :
    iprop((bigSep Finset.univ fun i => cmAt m c i fullShare.left)
      ∗ ((bigSep Finset.univ fun j : Fin 4 => cmAt m c (qs (qm c) j) fullShare.right.left) ∗ bigSep Finset.univ fun j : Fin 4 => cmAt m c (qs (qm c) j) fullShare.right.right)
      ∗ ((bigSep Finset.univ fun j : Fin 2 => cmAt m c (qs (qm (xp c)) ⟨j.val, by omega⟩) fullShare.right)
        ∗ bigSep Finset.univ fun j : Fin 2 => cmAt m c (qs (qm (xp c)) ⟨2 + j.val, by omega⟩) fullShare.right)
      ∗ ((bigSep Finset.univ fun j : Fin 2 => cmAt m c (qs (qm (zp c)) ⟨j.val, by omega⟩) fullShare.right)
        ∗ bigSep Finset.univ fun j : Fin 2 => cmAt m c (qs (qm (zp c)) ⟨2 + j.val, by omega⟩) fullShare.right)
      ∗ bigSep Finset.univ fun j : Fin 4 => cmAt m c (qs (qm (xp (zp c))) j) fullShare.right)
      ⊢ iprop(∃ f, (c : Thread nD τ).loc cc0_scratch1 ↦{fullShare} f) := by
  have e0 : iprop((bigSep Finset.univ fun j : Fin 4 => cmAt m c (qs (qm c) j) fullShare.right.left) ∗ bigSep Finset.univ fun j : Fin 4 => cmAt m c (qs (qm c) j) fullShare.right.right)
      = bigSep Finset.univ fun j : Fin 4 => cmAt m c (qs (qm c) j) fullShare.right := by
    rw [← bigSep_sep']; exact bigSep_congr fun j _ => (cmAt_lr m c _ _).symm
  rw [e0, ← sep_halves (fun j => cmAt m c (qs (qm (xp c)) j) fullShare.right), ← sep_halves (fun j => cmAt m c (qs (qm (zp c)) j) fullShare.right),
    ← sep_quarters c (fun i => cmAt m c i fullShare.right), ← bigSep_sep']
  exact (bigSep_mono fun i _ => (Entails.of_eq (cmAt_lr m c i fullShare).symm).trans (cmAt_any m c i)).trans (cm_join m c)

theorem lg_back (c : Dev nD) :
    iprop((bigSep Finset.univ fun i => lgAt m c i fullShare.left)
      ∗ (bigSep Finset.univ fun j : Fin 4 => lgAt m c (qs (qm c) j) fullShare.right)
      ∗ bigSep Finset.univ fun i : Fin 16 => if qm c = ⟨i.val % 4, by omega⟩ then iprop(emp) else lgAt m c (perm i) fullShare.right)
      ⊢ iprop(∃ f, (c : Thread nD τ).loc cc0_scratch0 ↦{fullShare} f) := by
  have e : (bigSep Finset.univ fun i : Fin 16 => if qm c = ⟨i.val % 4, by omega⟩ then lgAt m c (qs (qm c) ⟨i.val / 4, by omega⟩) fullShare.right else lgAt m c (perm i) fullShare.right)
      = bigSep Finset.univ fun i => lgAt m c i fullShare.right := by
    rw [← sep_perm (fun i => lgAt m c i fullShare.right)]
    have hp : ∀ (q : Fin 4) (i : Fin 16), q = ⟨i.val % 4, by omega⟩ → qs q ⟨i.val / 4, by omega⟩ = perm i := by decide +kernel
    exact bigSep_congr fun i _ => by
      by_cases h : qm c = ⟨i.val % 4, by omega⟩
      · rw [if_pos h, hp _ i h]
      · rw [if_neg h]
  rw [← sep_sel c (fun j => lgAt m c (qs (qm c) j) fullShare.right) (fun i => lgAt m c (perm i) fullShare.right), e, ← bigSep_sep']
  exact (bigSep_mono fun i _ => (Entails.of_eq (lgAt_lr m c i).symm).trans (lgAt_any m c i)).trans (lg_join m c)

end Cert.KernelIdeal.Body
end
-- ==== Proof.Whole.lean ====
/- The body on a device, from what the launch deals it to what it returns. -/
module

public import proofs.«01_k».proof.Proof.Gather

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head bigSep_rangeSet_last rangeSet_univ bigSep_rangeSet_split)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

/-- The input block on device `c`, staged. -/
def xAt (c : Dev nD) : sProp 𝕄 := (c : Thread nD τ).loc cc0_stg0_0 ↦{fullShare} xstg m c
/-- The body's own buffers, each at some contents. -/
def bufs (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f))
/-- The local copies' semaphores at zero. -/
def locZ (c : Dev nD) : sProp 𝕄 :=
  iprop((bigSep Finset.univ fun b : Fin 2 => zeroD c (1 + b.val) (by omega)) ∗ bigSep Finset.univ fun b : Fin 4 => zeroD c (3 + b.val) (by omega))
/-- What device `c`'s body starts from. -/
def bodyIn (c : Dev nD) : sProp 𝕄 :=
  iprop(tokIn c ∗ crIn c ∗ semFams (fun n h => posD c n h) ∗ (cred (tallyAt (barCell c) () 3) ∗ atPos ER (barCell c) 0 ∅ 0) ∗ ow c 0
    ∗ locZ c ∗ bufs c ∗ xAt m c ∗ ((c : Thread nD τ).loc main_arg1 ↦{fullShare} wAll m c) ∗ (∃ f, (c : Thread nD τ).loc main_v1 ↦{fullShare} f))
/-- What it ends with: the weights as they were, the result computed, every semaphore at zero. -/
def bodyOut (c : Dev nD) : sProp 𝕄 :=
  iprop(semFams (fun n h => zeroD c n h) ∗ semVal (barCell c) 0 ∗ ow c 194
    ∗ locZ c ∗ bufs c ∗ xAt m c ∗ ((c : Thread nD τ).loc main_arg1 ↦{fullShare} wAll m c) ∗ ((c : Thread nD τ).loc main_v1 ↦{fullShare} OUT m c))

/-- The first part's needs. -/
theorem p1_intro (c : Dev nD) :
    iprop(((c : Thread nD τ).loc main_arg1 ↦{fullShare} wAll m c) ∗ ((bigSep Finset.univ fun b => wbAny c b) ∗ bigSep Finset.univ fun b : Fin 2 => zeroD c (1 + b.val) (by omega))
      ∗ (bigSep Finset.univ fun i => chIn c i)
      ∗ (bigSep Finset.univ fun j : Fin 4 => rcv c (11 + j.val) (by omega))
      ∗ ((bigSep Finset.univ fun j : Fin 4 => cmAny (xp c) (qs (qm c) j)) ∗ (bigSep Finset.univ fun j : Fin 4 => tokD c (15 + j.val) (by omega))
        ∗ bigSep Finset.univ fun j : Fin 4 => tokD (xp c) (19 + j.val) (by omega))
      ∗ ((bigSep Finset.univ fun j : Fin 4 => cmAny (zp c) (qs (qm c) j)) ∗ (bigSep Finset.univ fun j : Fin 4 => tokD c (23 + j.val) (by omega))
        ∗ bigSep Finset.univ fun j : Fin 4 => tokD (zp c) (27 + j.val) (by omega))) ⊢ p1In m c := by
  have e : (bigSep Finset.univ fun j => relIn (F := F) c j : sProp 𝕄) = iprop((bigSep Finset.univ fun j : Fin 4 => rcv c (11 + j.val) (by omega))
      ∗ ((bigSep Finset.univ fun j : Fin 4 => cmAny (xp c) (qs (qm c) j)) ∗ (bigSep Finset.univ fun j : Fin 4 => tokD c (15 + j.val) (by omega))
        ∗ bigSep Finset.univ fun j : Fin 4 => tokD (xp c) (19 + j.val) (by omega))
      ∗ ((bigSep Finset.univ fun j : Fin 4 => cmAny (zp c) (qs (qm c) j)) ∗ (bigSep Finset.univ fun j : Fin 4 => tokD c (23 + j.val) (by omega))
        ∗ bigSep Finset.univ fun j : Fin 4 => tokD (zp c) (27 + j.val) (by omega))) := by
    unfold relIn; simp only [bigSep_sep']
  have w : iprop((bigSep Finset.univ fun b => wbAny (F := F) c b) ∗ bigSep Finset.univ fun b : Fin 2 => zeroD c (1 + b.val) (by omega))
      = (iprop(wFree c 0 ∗ wFree c 1) : sProp 𝕄) := by
    rw [← bigSep_sep', bigSep_fin_two]; rfl
  unfold p1In
  rw [e, wc_eq, w]
/-- What the first part gives back. -/
theorem p1_elim (c : Dev nD) : p1Out m c ⊢ iprop(((c : Thread nD τ).loc main_arg1 ↦{fullShare} wAll m c)
      ∗ ((bigSep Finset.univ fun b => wbAny c b) ∗ bigSep Finset.univ fun b : Fin 2 => zeroD c (1 + b.val) (by omega))
      ∗ (bigSep Finset.univ fun i => lgAt m c i fullShare.left)
      ∗ ((bigSep Finset.univ fun j : Fin 4 => crD c (7 + j.val) (by omega))
        ∗ bigSep Finset.univ fun i : Fin 16 => if qm c = ⟨i.val % 4, by omega⟩ then iprop(emp) else lgAt m c (perm i) fullShare.right)
      ∗ (bigSep Finset.univ fun j : Fin 4 => cmAt m c (qs (qm c) j) fullShare.left) ∗ (bigSep Finset.univ fun j : Fin 4 => zeroD c (11 + j.val) (by omega))
      ∗ (bigSep Finset.univ fun j : Fin 4 => crD c (15 + j.val) (by omega)) ∗ bigSep Finset.univ fun j : Fin 4 => crD c (23 + j.val) (by omega)) := by
  have e : (bigSep Finset.univ fun j => relOut m c j) = iprop((bigSep Finset.univ fun j : Fin 4 => cmAt m c (qs (qm c) j) fullShare.left)
      ∗ (bigSep Finset.univ fun j : Fin 4 => zeroD c (11 + j.val) (by omega))
      ∗ (bigSep Finset.univ fun j : Fin 4 => crD c (15 + j.val) (by omega)) ∗ bigSep Finset.univ fun j : Fin 4 => crD c (23 + j.val) (by omega)) := by
    unfold relOut; simp only [bigSep_sep']
  have w : iprop((bigSep Finset.univ fun b => wbAny (F := F) c b) ∗ bigSep Finset.univ fun b : Fin 2 => zeroD c (1 + b.val) (by omega))
      = (iprop(wFree c 0 ∗ wFree c 1) : sProp 𝕄) := by
    rw [← bigSep_sep', bigSep_fin_two]; rfl
  unfold p1Out
  rw [e, wc_eq, w, sep_sel c (fun j => crD c (7 + j.val) (by omega)) (fun i => lgAt m c (perm i) fullShare.right)]

/-- The second part's needs. -/
theorem p2_intro (c : Dev nD) :
    iprop((stAny c ∗ srAny (yp c) ∗ tokD c 39 (by omega) ∗ tokD (yp c) 40 (by omega))
      ∗ ((bigSep Finset.univ fun j : Fin 2 => rcv c (27 + j.val) (by omega)) ∗ (bigSep Finset.univ fun j : Fin 2 => cmAny (xp c) (qs (qm (zp c)) ⟨j.val, by omega⟩))
        ∗ (bigSep Finset.univ fun j : Fin 2 => tokD c (31 + j.val) (by omega)) ∗ bigSep Finset.univ fun j : Fin 2 => tokD (xp c) (33 + j.val) (by omega))
      ∗ ((bigSep Finset.univ fun j : Fin 2 => rcv c (19 + (2 + j.val)) (by omega)) ∗ (bigSep Finset.univ fun j : Fin 2 => cmAny (zp c) (qs (qm (xp c)) ⟨2 + j.val, by omega⟩))
        ∗ (bigSep Finset.univ fun j : Fin 2 => tokD c (35 + j.val) (by omega)) ∗ bigSep Finset.univ fun j : Fin 2 => tokD (zp c) (37 + j.val) (by omega))
      ∗ rcv c 40 (by omega)) ⊢ (p2In c : sProp 𝕄) := by
  unfold p2In stIn rxIn rzIn
  simp only [bigSep_sep']
  exact Entails.refl _
theorem p2_elim (c : Dev nD) : p2Out m c ⊢ iprop(crD c 39 (by omega)
      ∗ ((bigSep Finset.univ fun j : Fin 2 => cmAt m c (qs (qm (zp c)) ⟨j.val, by omega⟩) fullShare.left) ∗ (bigSep Finset.univ fun j : Fin 2 => zeroD c (27 + j.val) (by omega))
        ∗ bigSep Finset.univ fun j : Fin 2 => crD c (31 + j.val) (by omega))
      ∗ ((bigSep Finset.univ fun j : Fin 2 => cmAt m c (qs (qm (xp c)) ⟨2 + j.val, by omega⟩) fullShare.left) ∗ (bigSep Finset.univ fun j : Fin 2 => zeroD c (19 + (2 + j.val)) (by omega))
        ∗ bigSep Finset.univ fun j : Fin 2 => crD c (35 + j.val) (by omega))
      ∗ srAny c ∗ zeroD c 40 (by omega)) := by
  unfold p2Out rxOut rzOut
  simp only [bigSep_sep']
  exact Entails.refl _

/-- The third part's waits. -/
theorem f_intro (c : Dev nD) :
    iprop(((bigSep Finset.univ fun j : Fin 4 => rcv (F := F) c (7 + j.val) (by omega)) ∗ (bigSep Finset.univ fun j : Fin 4 => rcv c (15 + j.val) (by omega))
        ∗ bigSep Finset.univ fun j : Fin 4 => rcv c (23 + j.val) (by omega))
      ∗ (bigSep Finset.univ fun j : Fin 2 => rcv c (31 + j.val) (by omega)) ∗ bigSep Finset.univ fun j : Fin 2 => rcv c (35 + j.val) (by omega))
      ⊢ (iprop((bigSep Finset.univ fun j => f1In c j) ∗ bigSep Finset.univ fun j => f2In c j) : sProp 𝕄) := by
  unfold f1In f2In
  simp only [bigSep_sep']
  exact Entails.refl _
theorem f_elim (c : Dev nD) : iprop((bigSep Finset.univ fun j => f1Out m c j) ∗ bigSep Finset.univ fun j => f2Out m c j)
      ⊢ iprop((((bigSep Finset.univ fun j : Fin 4 => lgAt m c (qs (qm c) j) fullShare.right) ∗ bigSep Finset.univ fun j : Fin 4 => zeroD c (7 + j.val) (by omega))
        ∗ ((bigSep Finset.univ fun j : Fin 4 => cmAt m c (qs (qm c) j) fullShare.right.left) ∗ bigSep Finset.univ fun j : Fin 4 => zeroD c (15 + j.val) (by omega))
        ∗ (bigSep Finset.univ fun j : Fin 4 => cmAt m c (qs (qm c) j) fullShare.right.right) ∗ bigSep Finset.univ fun j : Fin 4 => zeroD c (23 + j.val) (by omega))
      ∗ ((bigSep Finset.univ fun j : Fin 2 => cmAt m c (qs (qm (zp c)) ⟨j.val, by omega⟩) fullShare.right) ∗ bigSep Finset.univ fun j : Fin 2 => zeroD c (31 + j.val) (by omega))
      ∗ (bigSep Finset.univ fun j : Fin 2 => cmAt m c (qs (qm (xp c)) ⟨2 + j.val, by omega⟩) fullShare.right) ∗ bigSep Finset.univ fun j : Fin 2 => zeroD c (35 + j.val) (by omega)) := by
  unfold f1Out f2Out
  simp only [bigSep_sep']
  exact Entails.refl _

theorem oFree_eq (c : Dev nD) : iprop((bigSep Finset.univ fun b => osAny (F := F) c b) ∗ bigSep Finset.univ fun b : Fin 4 => zeroD c (3 + b.val) (by omega))
    = (bigSep Finset.univ fun b => oFree c b : sProp 𝕄) := (bigSep_sep' _ _ _).symm

theorem owed_bar0 : ∀ c : Dev nD, owed c 0 = owed c 1 + tallyAt (barCell (yp c)) () 1 ∧ owed c 1 = owed c 2 + tallyAt (barCell (xp c)) () 1
    ∧ owed c 2 = owed c 3 + tallyAt (barCell (zp c)) () 1 := by
  have s0 : ∀ q : Fin 4, Finset.univ.filter (fun t => 0 ≤ timeT q t) = insert 17 (Finset.univ.filter (fun t => 1 ≤ timeT q t)) ∧ timeT q 17 < 1 := by decide +kernel
  have s1 : ∀ q : Fin 4, Finset.univ.filter (fun t => 1 ≤ timeT q t) = insert 18 (Finset.univ.filter (fun t => 2 ≤ timeT q t)) ∧ timeT q 18 < 2 := by decide +kernel
  have s2 : ∀ q : Fin 4, Finset.univ.filter (fun t => 2 ≤ timeT q t) = insert 19 (Finset.univ.filter (fun t => 3 ≤ timeT q t)) ∧ timeT q 19 < 3 := by decide +kernel
  intro c
  exact ⟨owed_step c 0 1 17 (s0 _), owed_step c 1 2 18 (s1 _), owed_step c 2 3 19 (s2 _)⟩

theorem bar_late : ∀ (q : Fin 4) (t : Fin 20), 3 ≤ timeT q t → 1 < lvS (semT t) := by decide +kernel

theorem read_xM (f : Vec F S512x1024 .f32) :
    (xM : Memref sig .tc .vmem S512x1024 .f32).view.readAt (Elt F) (Rect.unit (s := S512x1024) ![0, 0] S512x1024.size inb_S512x1024_S512x1024_0_0).toLoadRect f = f :=
  Memref.readAt_unit_zero (Elt F) cc0_stg0_0 (funext fun a => by fin_cases a <;> rfl) _ f

set_option maxHeartbeats 2000000 in
/-- The body, from what it starts from to what it ends with. -/
theorem wp_body (c : Dev nD) {Q : PUnit → sProp 𝕄} :
    iprop(ctx m K ∗ bodyIn m c) ⊢ iprop((bodyOut m c -∗ Q ⟨⟩) -∗ run c Q (bodyB c)) := by
  obtain ⟨o1, o2, o3⟩ := owed_bar0 c
  unfold bodyIn bodyB tokIn crIn semFams locZ bufs xAt
  iintro ⟨#Hc, ⟨⟨B0, B1, B2⟩, T7, T11, T15, T19, T23, T27, T31, T33, T35, T37, T39, T40⟩, ⟨C11, C19, C27, C33, C37, C40⟩,
    ⟨P7, P11, P15, P19, P23, P27, P31, P33, P35, P37, P39, P40⟩, ⟨Cb, Pb⟩, Ho, ⟨Zw, Zo⟩, ⟨Lg, Cm, Wb, Os, St, Sr⟩, Hx, Hw, Hr⟩ Hk
  ihave Cm := (cm_cut c) $$ Cm
  ihave Bp := (bar_give (F := F) c) $$ [Cm Sr]
  · isplitl [Cm]; · iexact Cm
    unfold srAny; iexact Sr
  icases Bp with ⟨Q0, Q1, Q2⟩
  iapply (wp_sigBar m K c (yp c) 0 0 1 o1) $$ [Ho B0 Q0]
  · isplitr; · iexact Hc
    isplitl [Ho]; · iexact Ho
    isplitl [B0] <;> iassumption
  iintro Ho
  iapply (wp_sigBar m K c (xp c) 1 1 2 o2) $$ [Ho B1 Q1]
  · isplitr; · iexact Hc
    isplitl [Ho]; · iexact Ho
    isplitl [B1] <;> iassumption
  iintro Ho
  iapply (wp_sigBar m K c (zp c) 2 2 3 o3) $$ [Ho B2 Q2]
  · isplitr; · iexact Hc
    isplitl [Ho]; · iexact Ho
    isplitl [B2] <;> iassumption
  iintro Ho
  iapply (wp_waitBar m K c 3 (bar_late (qm c))) $$ [Cb Pb Ho]
  · isplitr; · iexact Hc
    isplitl [Cb]; · iexact Cb
    isplitl [Pb] <;> iassumption
  unfold barPay
  iintro ⟨Ho, ⟨⟨Sr, Gy⟩, ⟨Gx, Gx'⟩, ⟨Gz, Gz'⟩⟩, Zb⟩
  iapply (wp_load 𝒱₀ (c : Thread nD τ) none Set.univ (m := xM) (Finset.subset_univ _)) $$ Hx; iintro Hx
  rw [read_xM]
  ihave Lg := (lg_cut c) $$ Lg
  ihave Wb := (wb_cut c) $$ Wb
  ihave Os := (os_cut c) $$ Os
  ihave Hr := (o_cut c) $$ Hr
  ihave Hch := (ch_intro (F := F) c) $$ [Lg Gy T7 T11]
  · isplitl [Lg]; · iexact Lg
    isplitl [Gy]; · iexact Gy
    isplitl [T7]; · iexact T7
    iexact T11
  ihave R11 := (rcv_intro (F := F) 4 c 11 (by omega)) $$ [C11 P11]
  · isplitl [C11] <;> iassumption
  ihave R19 := (rcv_intro (F := F) 4 c 19 (by omega)) $$ [C19 P19]
  · isplitl [C19] <;> iassumption
  ihave R27 := (rcv_intro (F := F) 4 c 27 (by omega)) $$ [C27 P27]
  · isplitl [C27] <;> iassumption
  ihave R33 := (rcv_intro (F := F) 2 c 33 (by omega)) $$ [C33 P33]
  · isplitl [C33] <;> iassumption
  ihave R37 := (rcv_intro (F := F) 2 c 37 (by omega)) $$ [C37 P37]
  · isplitl [C37] <;> iassumption
  ihave R19 := (rcv_halves (F := F) c 19 (by omega)) $$ R19
  ihave R27 := (rcv_halves (F := F) c 27 (by omega)) $$ R27
  icases R19 with ⟨R19, R19'⟩
  icases R27 with ⟨R27, R27'⟩
  ihave H1 := (p1_intro m c) $$ [Hw Wb Zw Hch R11 Gx T15 T19 Gz T23 T27]
  · isplitl [Hw]; · iexact Hw
    isplitl [Wb Zw]
    · isplitl [Wb]; · iexact Wb
      iexact Zw
    isplitl [Hch]; · iexact Hch
    isplitl [R11]; · iexact R11
    isplitl [Gx T15 T19]
    · isplitl [Gx]; · iexact Gx
      isplitl [T15]; · iexact T15
      iexact T19
    isplitl [Gz]; · iexact Gz
    isplitl [T23]; · iexact T23
    iexact T27
  iapply (wp_prod m K c) $$ [Ho H1]
  · isplitr; · iexact Hc
    isplitl [Ho] <;> iassumption
  iintro ⟨Ho, H1⟩
  ihave H1 := (p1_elim m c) $$ H1
  icases H1 with ⟨Hw, ⟨Wb, Zw⟩, Lg, ⟨C7, Lgr⟩, M0, Z11, C15, C23⟩
  ihave H2 := (p2_intro (F := F) c) $$ [St Sr T39 T40 R27 Gx' T31 T33 R19' Gz' T35 T37 C40 P40]
  · isplitl [St Sr T39 T40]
    · isplitl [St]; · unfold stAny; iexact St
      isplitl [Sr]; · iexact Sr
      isplitl [T39]; · iexact T39
      iexact T40
    isplitl [R27 Gx' T31 T33]
    · isplitl [R27]; · iexact R27
      isplitl [Gx']; · iexact Gx'
      isplitl [T31]; · iexact T31
      iexact T33
    isplitl [R19' Gz' T35 T37]
    · isplitl [R19']; · iexact R19'
      isplitl [Gz']; · iexact Gz'
      isplitl [T35]; · iexact T35
      iexact T37
    iapply (rcv_one (F := F) c 40 _) $$ [C40 P40]
    isplitl [C40] <;> iassumption
  iapply (wp_statsB m K c) $$ [Ho H2]
  · isplitr; · iexact Hc
    isplitl [Ho] <;> iassumption
  iintro ⟨Ho, H2⟩
  ihave H2 := (p2_elim m c) $$ H2
  icases H2 with ⟨C39, ⟨M2, Z27, C31⟩, ⟨M1, Z19', C35⟩, Sr, Z40⟩
  ihave R7 := (rcv_intro (F := F) 4 c 7 (by omega)) $$ [C7 P7]
  · isplitl [C7] <;> iassumption
  ihave R15 := (rcv_intro (F := F) 4 c 15 (by omega)) $$ [C15 P15]
  · isplitl [C15] <;> iassumption
  ihave R23 := (rcv_intro (F := F) 4 c 23 (by omega)) $$ [C23 P23]
  · isplitl [C23] <;> iassumption
  ihave R31 := (rcv_intro (F := F) 2 c 31 (by omega)) $$ [C31 P31]
  · isplitl [C31] <;> iassumption
  ihave R35 := (rcv_intro (F := F) 2 c 35 (by omega)) $$ [C35 P35]
  · isplitl [C35] <;> iassumption
  ihave Hf := (f_intro (F := F) c) $$ [R7 R15 R23 R31 R35]
  · isplitl [R7 R15 R23]
    · isplitl [R7]; · iexact R7
      isplitl [R15]; · iexact R15
      iexact R23
    isplitl [R31]; · iexact R31
    iexact R35
  icases Hf with ⟨Hf1, Hf2⟩
  ihave Hi := (Entails.of_eq (oIn_eq m c).symm) $$ [M0 R19 M1 M2 R27' R33 R37]
  · isplitl [M0]; · iexact M0
    isplitl [R19 M1]
    · isplitl [R19]; · iexact R19
      iexact M1
    isplitl [M2 R27']
    · isplitl [M2]; · iexact M2
      iexact R27'
    isplitl [R33]; · iexact R33
    iexact R37
  iapply (wp_tailB m K c) $$ [Ho Lg Hi Hr Os Zo C39 P39 Hf1 Hf2]
  · isplitr; · iexact Hc
    isplitl [Ho]; · iexact Ho
    unfold p3In
    isplitl [Lg]; · iexact Lg
    isplitl [Hi]; · iexact Hi
    isplitl [Hr]; · iexact Hr
    isplitl [Os Zo]
    · iapply (Entails.of_eq (oFree_eq (F := F) c)) $$ [Os Zo]
      isplitl [Os] <;> iassumption
    isplitl [C39 P39]
    · iapply (rcv_one (F := F) c 39 _) $$ [C39 P39]
      isplitl [C39] <;> iassumption
    isplitl [Hf1]; · iexact Hf1
    iexact Hf2
  unfold p3Out
  iintro ⟨Ho, Lg, ⟨M, Hi⟩, Hr, Hf, ⟨St, Z39⟩, Hf1, Hf2⟩
  ihave Hf := (Entails.of_eq (oFree_eq (F := F) c).symm) $$ Hf
  icases Hf with ⟨Os, Zo⟩
  ihave Hff := (f_elim m c) $$ [Hf1 Hf2]
  · isplitl [Hf1] <;> iassumption
  icases Hff with ⟨⟨⟨Lq, Z7⟩, ⟨Ma, Z15⟩, Mb, Z23⟩, ⟨M2, Z31⟩, M1', Z35⟩
  ihave Hi := (oEx_elim m c) $$ Hi
  icases Hi with ⟨⟨M1, Z19⟩, ⟨M2', Z27'⟩, M3, Z33, Z37⟩
  ihave Cm := (cm_back m c) $$ [M Ma Mb M1 M1' M2 M2' M3]
  · isplitl [M]; · iexact M
    isplitl [Ma Mb]
    · isplitl [Ma]; · iexact Ma
      iexact Mb
    isplitl [M1 M1']
    · isplitl [M1]; · iexact M1
      iexact M1'
    isplitl [M2 M2']
    · isplitl [M2]; · iexact M2
      iexact M2'
    iexact M3
  ihave Lg := (lg_back m c) $$ [Lg Lq Lgr]
  · isplitl [Lg]; · iexact Lg
    isplitl [Lq]; · iexact Lq
    iexact Lgr
  ihave Wb := (wb_join m c) $$ Wb
  ihave Os := (os_join m c) $$ Os
  ihave Hr := (Entails.of_eq (o_eq m c).symm) $$ Hr
  iapply Hk
  unfold bodyOut semFams locZ bufs xAt
  isplitl [Z7 Z11 Z15 Z19 Z19' Z23 Z27 Z27' Z31 Z33 Z35 Z37 Z39 Z40]
  · isplitl [Z7]; · iexact Z7
    isplitl [Z11]; · iexact Z11
    isplitl [Z15]; · iexact Z15
    isplitl [Z19 Z19']
    · iapply (zero_halves (F := F) c 19 (by omega)) $$ [Z19 Z19']
      isplitl [Z19] <;> iassumption
    isplitl [Z23]; · iexact Z23
    isplitl [Z27 Z27']
    · iapply (zero_halves (F := F) c 27 (by omega)) $$ [Z27 Z27']
      isplitl [Z27] <;> iassumption
    isplitl [Z31]; · iexact Z31
    isplitl [Z33]; · iexact Z33
    isplitl [Z35]; · iexact Z35
    isplitl [Z37]; · iexact Z37
    isplitl [Z39]; · iexact Z39
    iexact Z40
  isplitl [Zb]; · iexact Zb
  isplitl [Ho]; · iexact Ho
  isplitl [Zw Zo]
  · isplitl [Zw]; · iexact Zw
    iexact Zo
  isplitl [Lg Cm Wb Os St Sr]
  · isplitl [Lg]; · iexact Lg
    isplitl [Cm]; · iexact Cm
    isplitl [Wb]; · iexact Wb
    isplitl [Os]; · iexact Os
    isplitl [St]; · unfold stAny; iexact St
    unfold srAny; iexact Sr
  isplitl [Hx]; · iexact Hx
  isplitl [Hw]; · iexact Hw
  iexact Hr

end Cert.KernelIdeal.Body
end
-- ==== Proof.Grant.lean ====
/- The ghost state and the credits each device starts from, made from what the launch provides. -/
module

public import proofs.«01_k».proof.Proof.Whole

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head bigSep_rangeSet_last rangeSet_univ bigSep_rangeSet_split)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

/-! ## The cells and the duties -/

omit [FloatOps F] in
theorem csem_injective : Function.Injective csem := by decide
omit [FloatOps F] in
theorem kcell_injective : Function.Injective (kcell : Dev nD × Fin 35 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the cells. -/
def allCells : Finset (GSem nD τ sig) := Finset.univ.map ⟨kcell, kcell_injective⟩

/-- The semaphore and the duty of a device's tokens: the barrier's three, and one of each remote copy's semaphore. -/
def dutyOf : Fin 3 ⊕ Fin 34 → SemLoc sig × Fin 3
  | .inl d => (.reg barS, d)
  | .inr k => (.dma (dsem (7 + k.val) (by omega)), 0)
omit [FloatOps F] in
theorem dutyOf_injective : Function.Injective dutyOf := by decide
abbrev tokOf (ck : Dev nD × (Fin 3 ⊕ Fin 34)) : GSem nD τ sig × ℕ × Fin 3 := (((ck.1 : Thread nD τ), (dutyOf ck.2).1), 0, (dutyOf ck.2).2)
omit [FloatOps F] in
theorem tokOf_injective : Function.Injective tokOf := by
  rintro ⟨c, k⟩ ⟨c', k'⟩ h
  have h1 : c = c' := congrArg (fun x : GSem nD τ sig × ℕ × Fin 3 => x.1.1.1) h
  have h2 : k = k' := dutyOf_injective (Prod.ext (congrArg (fun x : GSem nD τ sig × ℕ × Fin 3 => x.1.2) h) (congrArg (fun x : GSem nD τ sig × ℕ × Fin 3 => x.2.2) h))
  rw [h1, h2]
/-- All the duties' tokens. -/
def allToks : Finset (GSem nD τ sig × ℕ × Fin 3) := Finset.univ.map ⟨tokOf, tokOf_injective⟩

/-- The tokens of device `c`'s own cells. -/
def toks (c : Dev nD) : sProp 𝕄 :=
  iprop((bigSep Finset.univ fun d : Fin 3 => dutyTok ER (barCell c) 0 d) ∗ bigSep Finset.univ fun k : Fin 34 => tokD c (7 + k.val) (by omega))

/-- What the launch's element deals device `c`. -/
def dealt (c : Dev nD) : sProp 𝕄 :=
  iprop((bigSep Finset.univ fun k : Fin 35 => roundState ER (Rd m) (kcell (c, k)) 0)
    ∗ (bigSep Finset.univ fun k : Fin 35 => atPos ER (kcell (c, k)) 0 ∅ 0) ∗ (bigSep Finset.univ fun k : Fin 35 => reached ER (kcell (c, k)) 0) ∗ toks c)

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Fin 35 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

/-! ## One thing per cell of a device -/

omit [FloatOps F] in
theorem sep_assoc_eq (A B C : sProp 𝕄) : iprop(A ∗ B ∗ C) = iprop((A ∗ B) ∗ C) :=
  (equiv_iff.mp ⟨(Idealize.SL.BI.Laws.sep_assoc (P := A) (Q := B) (R := C)).1, (Idealize.SL.BI.Laws.sep_assoc (P := A) (Q := B) (R := C)).2⟩).symm
omit [FloatOps F] in
theorem csem_succ (k : Fin 34) : csem ⟨1 + k.val, by omega⟩ = .dma (dsem (7 + k.val) (by omega)) := by revert k; decide

omit [FloatOps F] in
/-- The barrier's, and the families of the copies' semaphores. -/
theorem sep_cells (c : Dev nD) (Φ : GSem nD τ sig → sProp 𝕄) :
    (bigSep Finset.univ fun k : Fin 35 => Φ (kcell (c, k))) = iprop(Φ (barCell c) ∗ semFams fun n h => Φ (dCell c n h)) := by
  refine (sep_cut 1 34 fun k => Φ (kcell (c, k))).trans (congrArg₂ BIBase.sep (sep_one _) ?_)
  refine Eq.trans (bigSep_congr fun k _ => ?_) (sep_sems fun n h => Φ (dCell c n h))
  show Φ ((c : Thread nD τ), csem ⟨1 + k.val, _⟩) = _
  rw [csem_succ]

omit [FloatOps F] in
/-- The kernel's own semaphores: the local copies', and the remote copies'. -/
theorem own_sems (c : Dev nD) :
    (Pipeline.ownSems0 (Ix := Unit) (Name := ℕ) (U := UU) (Lvl := ℕ) (Val := Elt F) (τ := τ) osem c : sProp 𝕄)
      = iprop(((bigSep Finset.univ fun b : Fin 2 => zeroD c (1 + b.val) (by omega)) ∗ bigSep Finset.univ fun b : Fin 4 => zeroD c (3 + b.val) (by omega))
          ∗ semFams fun n h => zeroD c n h) := by
  have h1 : (Pipeline.ownSems0 (Ix := Unit) (Name := ℕ) (U := UU) (Lvl := ℕ) (Val := Elt F) (τ := τ) osem c : sProp 𝕄)
      = bigSep Finset.univ fun k : Fin 40 => zeroD c (1 + k.val) (by omega) := rfl
  rw [h1, ← sep_sems]
  refine (sep_step (fun n h => zeroD c n h) 1 2 38 (by omega)).trans ?_
  refine (congrArg (BIBase.sep _) (sep_step (fun n h => zeroD c n h) 3 4 34 (by omega))).trans ?_
  exact sep_assoc_eq _ _ _
omit [FloatOps F] in
theorem unscoped_sems (c : Dev nD) : (unscopedSems0 c : sProp 𝕄) = semVal (barCell c) 0 := by
  unfold unscopedSems0; rw [bigSep_eq_bigSepL_of_eq [SemLoc.reg barS] (by decide) (by decide)]; rfl

/-! ## The tokens where they are spent -/

/-- What stays with device `c`: its positions, the tokens it pays with, and its local copies' semaphores. -/
def mine (c : Dev nD) : sProp 𝕄 :=
  iprop((bigSep Finset.univ fun k : Fin 35 => atPos ER (kcell (c, k)) 0 ∅ 0) ∗ tokIn c ∗ locZ c)

omit [FloatOps F] in
/-- Every token to the device that pays it. -/
theorem toks_around : (bigSep Finset.univ fun c : Dev nD => (toks c : sProp 𝕄)) = bigSep Finset.univ fun c : Dev nD => tokIn c := by
  have h (c : Dev nD) : (toks c : sProp 𝕄) = iprop((dutyTok ER (barCell c) 0 0 ∗ dutyTok ER (barCell c) 0 1 ∗ dutyTok ER (barCell c) 0 2) ∗ semFams fun n h => tokD c n h) := by
    unfold toks
    rw [bigSep_univ_eq_bigSepL [0, 1, 2] (by decide) (by decide)]
    exact congrArg (BIBase.sep _) (sep_sems fun n h => tokD c n h)
  rw [bigSep_congr fun c _ => h c]
  unfold tokIn semFams
  simp only [bigSep_sep']
  rw [bigSep_univ_equiv yE (fun c : Dev nD => (dutyTok ER (barCell c) 0 0 : sProp 𝕄)),
    bigSep_univ_equiv xE (fun c : Dev nD => (dutyTok ER (barCell c) 0 1 : sProp 𝕄)),
    bigSep_univ_equiv zE (fun c : Dev nD => (dutyTok ER (barCell c) 0 2 : sProp 𝕄)),
    bigSep_univ_equiv yE (fun c : Dev nD => (bigSep Finset.univ fun j : Fin 4 => tokD c (11 + j.val) (by omega) : sProp 𝕄)),
    bigSep_univ_equiv xE (fun c : Dev nD => (bigSep Finset.univ fun j : Fin 4 => tokD c (19 + j.val) (by omega) : sProp 𝕄)),
    bigSep_univ_equiv zE (fun c : Dev nD => (bigSep Finset.univ fun j : Fin 4 => tokD c (27 + j.val) (by omega) : sProp 𝕄)),
    bigSep_univ_equiv xE (fun c : Dev nD => (bigSep Finset.univ fun j : Fin 2 => tokD c (33 + j.val) (by omega) : sProp 𝕄)),
    bigSep_univ_equiv zE (fun c : Dev nD => (bigSep Finset.univ fun j : Fin 2 => tokD c (37 + j.val) (by omega) : sProp 𝕄)),
    bigSep_univ_equiv yE (fun c : Dev nD => (tokD c 40 (by omega) : sProp 𝕄))]
  rfl

/-! ## The invariants -/

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 35 => iprop(∃ κ : ℕ, cellInv ER (Rd m) κ (kcell (c, k))))
          ∗ (bigSep Finset.univ fun k : Fin 35 => reached ER (kcell (c, k)) 0)
          ∗ (bigSep Finset.univ fun k : Fin 35 => atPos ER (kcell (c, k)) 0 ∅ 0) ∗ toks c ∗ locZ c) := by
  rw [own_sems, unscoped_sems]
  unfold dealt
  iintro ⟨⟨HL, HF⟩, HB, Hst, Hat, Hr, Htok⟩
  ihave Hv := (Entails.of_eq (sep_cells c fun g => semVal g 0).symm) $$ [HF HB]
  · isplitl [HB]; · iexact HB
    iexact HF
  imod (show iprop((bigSep Finset.univ fun k : Fin 35 => semVal (kcell (c, k)) 0) ∗ bigSep Finset.univ fun k : Fin 35 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  unfold locZ; iexact HL

/-- What the global step makes of it. -/
def granted (c : Dev nD) : sProp 𝕄 := iprop(∃ K, records m K ∗ mine c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 35 => iprop(∃ κ : ℕ, cellInv ER (Rd m) κ (kcell (c, k))))
          ∗ (bigSep Finset.univ fun k : Fin 35 => reached ER (kcell (c, k)) 0)
          ∗ (bigSep Finset.univ fun k : Fin 35 => atPos ER (kcell (c, k)) 0 ∅ 0) ∗ toks c ∗ locZ c) : sProp 𝕄)
      ⊢ bigSep Finset.univ (granted m) := by
  rw [bigSep_sep', bigSep_sep', ← bigSep_univ_prod (fun ck : Dev nD × Fin 35 => iprop(∃ κ : ℕ, cellInv ER (Rd m) κ (kcell ck))),
    ← bigSep_univ_prod (fun ck : Dev nD × Fin 35 => (reached ER (kcell ck) 0 : sProp 𝕄))]
  have hm : (bigSep Finset.univ fun c : Dev nD => iprop((bigSep Finset.univ fun k : Fin 35 => atPos ER (kcell (c, k)) 0 ∅ 0) ∗ toks c ∗ locZ c) : sProp 𝕄)
      = bigSep Finset.univ fun c : Dev nD => mine c := by
    unfold mine
    simp only [bigSep_sep']
    rw [toks_around]
  rw [hm]
  iintro ⟨HI, #HR, Hm⟩
  ihave HK := (BI.bigSep_exists_pi Finset.univ (fun (ck : Dev nD × Fin 35) (κ : ℕ) => (cellInv ER (Rd m) κ (kcell ck) : sProp 𝕄))) $$ HI
  icases HK with ⟨%K, #HI⟩
  iapply (bigSep_with_persistent (R := records m K) (Φ := fun c => mine c) fun c _ => by
    unfold granted; iintro ⟨H1, H2⟩; iexists K; isplitl [H1] <;> iassumption)
  isplitr
  · unfold records; isplitl; · iexact HI
    iexact HR
  · iexact Hm

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (granted m) :=
  ((bigSep_mono fun c _ => core_alloc m c).trans (bigSep_fupd _ _)).trans (BI.fupd_mono (regroup m))

/-! ## The credits -/

omit [FloatOps F] in
theorem peerT_comm : ∀ (t : Fin 20) (d c : Dev nD), peerT d t = c ↔ d = peerT c t := by decide +kernel
omit [FloatOps F] in
theorem timeT_all (q : Fin 4) (t : Fin 20) : 0 ≤ timeT q t := Nat.zero_le _

omit [FloatOps F] in
/-- What all devices together owe a cell of device `c` at the start: the amounts of the credits given on its semaphore. -/
theorem owed_all (c : Dev nD) (sm : SemLoc sig) :
    (∑ d : Dev nD, owed d 0 ((c : Thread nD τ), sm) ()) = ∑ t ∈ Finset.univ.filter (fun t => semT t = sm), amtT t := by
  have h1 (d : Dev nD) : owed d 0 ((c : Thread nD τ), sm) () = ∑ t : Fin 20, if d = peerT c t ∧ semT t = sm then amtT t else 0 := by
    unfold owed
    rw [Finset.filter_true_of_mem fun t _ => Nat.zero_le _, Finset.sum_apply, Finsupp.finset_sum_apply]
    refine Finset.sum_congr rfl fun t _ => ?_
    rw [tallyAt_apply]
    refine if_congr ⟨fun h => ?_, fun h => ?_⟩ rfl rfl
    · have h2 := h.1
      exact ⟨(peerT_comm t d c).mp (congrArg (fun g : GSem nD τ sig => g.1.1) h2).symm, (congrArg Prod.snd h2).symm⟩
    · refine ⟨?_, rfl⟩
      unfold cellT
      rw [(peerT_comm t d c).mpr h.1, h.2]
  rw [Finset.sum_congr rfl fun d _ => h1 d, Finset.sum_comm, Finset.sum_filter]
  refine Finset.sum_congr rfl fun t _ => ?_
  by_cases h : semT t = sm
  · simp only [h, and_true, if_true]; rw [Finset.sum_ite_eq' Finset.univ (peerT c t) fun _ => amtT t, if_pos (Finset.mem_univ _)]
  · simp only [h, and_false, if_false, Finset.sum_const_zero]

omit [FloatOps F] in
theorem launch_at (c : Dev nD) (sm : SemLoc sig) (N : ℕ) (h : (∑ t ∈ Finset.univ.filter (fun t => semT t = sm), amtT t) = N) :
    tallyOn ((c : Thread nD τ), sm) (launchCredit (Pipeline.owing fun d => owed d 0) 0 ((c : Thread nD τ), sm))
      = (tallyAt ((c : Thread nD τ), sm) () N : CellTallies nD τ sig Unit) := by
  unfold tallyAt; refine congrArg _ (Finsupp.ext fun u => ?_); cases u
  rw [Pipeline.launchCredit_owing, Finsupp.single_eq_same, owed_all, h]

omit [FloatOps F] in
theorem launch_bar (c : Dev nD) :
    tallyOn (barCell c) (launchCredit (Pipeline.owing fun d => owed d 0) 0 (barCell c)) = (tallyAt (barCell c) () 3 : CellTallies nD τ sig Unit) :=
  launch_at c _ 3 (by
    have h : Finset.univ.filter (fun t : Fin 20 => semT t = .reg barS) = {17, 18, 19} := by decide +kernel
    rw [h]; rfl)

/-- The semaphores on which a device receives. -/
def recvs (n : ℕ) : Bool := (11 ≤ n && n < 15) || (19 ≤ n && n < 23) || (27 ≤ n && n < 31) || (33 ≤ n && n < 35) || (37 ≤ n && n < 39) || n == 40
/-- Which credit is given on it. -/
def giveT (n : ℕ) : Fin 20 :=
  if n < 15 then ⟨(n - 11) % 20, by omega⟩ else if n < 23 then ⟨(n - 15) % 20, by omega⟩ else if n < 31 then ⟨(n - 19) % 20, by omega⟩
  else if n < 35 then ⟨(n - 21) % 20, by omega⟩ else if n < 39 then ⟨(n - 23) % 20, by omega⟩ else 16
omit [FloatOps F] in
theorem launch_d (c : Dev nD) (n : ℕ) (hn : n < 41) (hr : recvs n = true) :
    tallyOn (dCell c n hn) (launchCredit (Pipeline.owing fun d => owed d 0) 0 (dCell c n hn)) = (tallyAt (dCell c n hn) () (amtD n) : CellTallies nD τ sig Unit) :=
  launch_at c _ _ (by
    have h : ∀ n : Fin 41, recvs n.val = true → Finset.univ.filter (fun t : Fin 20 => semT t = .dma (dsem n.val n.isLt)) = {giveT n.val} := by decide +kernel
    have h2 : ∀ n : Fin 41, recvs n.val = true → ((giveT n.val).val < 16 ↔ n.val < 39) ∧ (giveT n.val).val < 17 := by decide +kernel
    rw [h ⟨n, hn⟩ hr, Finset.sum_singleton]
    have h3 := h2 ⟨n, hn⟩ hr
    unfold amtT amtD
    by_cases h4 : n < 39
    · rw [if_pos (h3.1.mpr h4), if_pos h4]
    · rw [if_neg fun h5 => h4 (h3.1.mp h5), if_pos h3.2, if_neg h4])

/-- A cell's launch credit. -/
def lCred (g : GSem nD τ sig) : sProp 𝕄 := cred (tallyOn g (launchCredit (Pipeline.owing fun d => owed d 0) 0 g))
omit [FloatOps F] in
theorem lCred_bar (c : Dev nD) : (lCred (barCell c) : sProp 𝕄) = cred (tallyAt (barCell c) () 3) := by unfold lCred; rw [launch_bar]
omit [FloatOps F] in
theorem lCred_d (c : Dev nD) (n : ℕ) (hn : n < 41) (hr : recvs n = true) : (lCred (dCell c n hn) : sProp 𝕄) = crD c n hn := by
  unfold lCred crD; rw [launch_d c n hn hr]
omit [FloatOps F] in
theorem lCred_cells (c : Dev nD) : (Pipeline.launchCred (fun d => owed d 0) c : sProp 𝕄) ⊢ bigSep Finset.univ fun k : Fin 35 => lCred (kcell (c, k)) := by
  have h := bigSep_subset (Φ := fun sm : SemLoc sig => (lCred ((c : Thread nD τ), sm) : sProp 𝕄)) (Finset.subset_univ (Finset.univ.map ⟨csem, csem_injective⟩))
  rw [bigSep_map] at h
  exact h
omit [FloatOps F] in
theorem lCred_fam (c : Dev nD) (k a : ℕ) (h : ∀ j : Fin k, a + j.val < 41) (hr : ∀ j : Fin k, recvs (a + j.val) = true) :
    (bigSep Finset.univ fun j : Fin k => (lCred (dCell c (a + j.val) (h j)) : sProp 𝕄)) = bigSep Finset.univ fun j : Fin k => crD c (a + j.val) (h j) :=
  bigSep_congr fun j _ => lCred_d c _ (h j) (hr j)

omit [FloatOps F] in
theorem creds (c : Dev nD) :
    (Pipeline.launchCred (fun d => owed d 0) c : sProp 𝕄) ⊢ iprop(cred (tallyAt (barCell c) () 3) ∗ crIn c) := by
  refine (lCred_cells c).trans ?_
  rw [sep_cells c lCred, lCred_bar]
  unfold semFams crIn
  rw [lCred_fam c 4 11 (fun j => by omega) (by decide), lCred_fam c 4 19 (fun j => by omega) (by decide), lCred_fam c 4 27 (fun j => by omega) (by decide),
    lCred_fam c 2 33 (fun j => by omega) (by decide), lCred_fam c 2 37 (fun j => by omega) (by decide)]
  iintro ⟨HB, -, H11, -, H19, -, H27, -, H33, -, H37, -, H40⟩
  isplitl [HB]; · iexact HB
  isplitl [H11]; · iexact H11
  isplitl [H19]; · iexact H19
  isplitl [H27]; · iexact H27
  isplitl [H33]; · iexact H33
  isplitl [H37]; · iexact H37
  iapply (Entails.of_eq (lCred_d c 40 _ rfl)) $$ H40

end Cert.KernelIdeal.Body
end
-- ==== Proof.BodyEq.lean ====
/- The printed body is the structured one. -/
module

public import proofs.«01_k».proof.Proof.Structured
public import proofs.«01_k».proof.Proof.Gen.KernelIdeal.Launch
public import proofs.«01_k».proof.Proof.Gen.KernelIdeal.Points

@[expose] public section

set_option synthInstance.maxSize 4096
set_option maxRecDepth 65536

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F]

/-- What a program does after it has read that the device is `c`. -/
def afterId (c : Dev nD) : P (F := F) → P (F := F)
  | .op .deviceId k => k c
  | p => p

/-- The printed body. -/
def printed : P (F := F) := bodyAt0 (F := F) t0_0

theorem printed_op : printed (F := F) = .op .deviceId fun c => afterId c (printed (F := F)) := by chain_rfl

theorem printed_at (c : Dev nD) : afterId c (printed (F := F)) = bodyB c := by
  have h : c = 0 ∨ c = 1 ∨ c = 2 ∨ c = 3 ∨ c = 4 ∨ c = 5 ∨ c = 6 ∨ c = 7 := by revert c; decide
  rcases h with rfl | rfl | rfl | rfl | rfl | rfl | rfl | rfl
  all_goals (show _ = _; chain_rfl)

/-- The printed body is the structured one. -/
theorem body_eq : printed (F := F) = body := by
  rw [printed_op]; unfold body; congr 1; funext c; exact printed_at c

end Cert.KernelIdeal.Body

end
-- ==== Proof.Run.lean ====
/- The kernel's run: on every device it ends with the result computed, the arguments as they were and every semaphore at zero. -/
module

public import proofs.«01_k».proof.Proof.Grant
public import proofs.«01_k».proof.Proof.BodyEq
public import Idealize.ShloMosaic.Lib.Pipeline.CollectiveSegs

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty bigSep_rangeSet_head bigSep_rangeSet_last rangeSet_univ bigSep_rangeSet_split)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Fin 35 → ℕ)

/-! ## The pipeline's data -/

/-- What a device starts from, its scoped buffers aside. -/
def atStart (c : Dev nD) : sProp 𝕄 :=
  iprop((∃ K, ctx m K) ∗ tokIn c ∗ crIn c ∗ semFams (fun n h => posD c n h) ∗ (cred (tallyAt (barCell c) () 3) ∗ atPos ER (barCell c) 0 ∅ 0)
    ∗ locZ c ∗ ((c : Thread nD τ).loc main_arg1 ↦{fullShare} wAll m c) ∗ (∃ f, (c : Thread nD τ).loc main_v1 ↦{fullShare} f))
/-- What it ends with outside the kernel's own semaphores and buffers. -/
def atEnd (c : Dev nD) : sProp 𝕄 :=
  iprop(unscopedSems0 c ∗ ((c : Thread nD τ).loc main_arg1 ↦{fullShare} wAll m c) ∗ ((c : Thread nD τ).loc main_v1 ↦{fullShare} OUT m c))
/-- The body's state after its one point. -/
def after₁ (c : Dev nD) : sProp 𝕄 :=
  iprop(semFams (fun n h => zeroD c n h) ∗ semVal (barCell c) 0 ∗ locZ c ∗ bufs c
    ∗ ((c : Thread nD τ).loc main_arg1 ↦{fullShare} wAll m c) ∗ ((c : Thread nD τ).loc main_v1 ↦{fullShare} OUT m c))

def dats (_ : Fin 1) (c : Dev nD) : Pipeline.Dat τ (Elt F) Unit ℕ UU ℕ cfg0 c where
  A w := m ((cfg0.win w).arr.view.loc (c : Thread nD τ))
  after w _ := match w with
    | ⟨0, _⟩ => xstg m c
  Φ t := match t with
    | ⟨0, _⟩ => iprop(atStart m c ∗ bufs c)
    | ⟨_ + 1, _⟩ => after₁ m c
  q _ := fullShare
  owed t := match t with
    | ⟨0, _⟩ => owed c 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
def bodyPre (c : Dev nD) : sProp 𝕄 :=
  iprop((atStart m c ∗ bufs c) ∗ (dats m 0 c).owesAt () t0_0.castSucc ∗ (∃ d, stg c cc0_stg0_0 ((dats m 0 c).before (0 : Fin 1) t0_0 d)))
def bodyPost (c : Dev nD) : sProp 𝕄 :=
  iprop(after₁ m c ∗ (dats m 0 c).owesAt () t0_0.succ ∗ stg c cc0_stg0_0 (xstg m c))

theorem owes_in (c : Dev nD) : (dats m 0 c).owesAt () t0_0.castSucc ⊢ ow c 0 := by
  unfold Pipeline.Dat.owesAt Pipeline.owesWithin ow
  rw [show (dats m 0 c).owed t0_0.castSucc = owed c 0 from rfl]
  iintro ⟨%W, -, HO⟩
  iexists W; iexact HO
theorem owes_out (c : Dev nD) : ow c 194 ⊢ (dats m 0 c).owesAt () t0_0.succ := by
  unfold Pipeline.Dat.owesAt Pipeline.owesWithin ow
  rw [show (dats m 0 c).owed t0_0.succ = 0 from rfl, owed_end]
  iintro ⟨%W, HO⟩
  iexists W
  isplitr; · ipureintro; exact fun _ _ => Or.inl trivial
  iexact HO
theorem stg_in (c : Dev nD) : iprop(∃ d, stg c cc0_stg0_0 ((dats m 0 c).before (0 : Fin 1) t0_0 d)) ⊢ xAt m c := by
  iintro ⟨%d, %g, %hg, Hx⟩
  have hx : g = xstg m c := by rw [hg]; unfold Pipeline.Dat.before; rw [if_pos (fetch0_0 t0_0)]; rfl
  subst hx
  unfold xAt; iexact Hx

theorem sound_body (c : Dev nD) : bodyPre m c ⊢ run c (fun _ => bodyPost m c) (printed (F := F)) := by
  have hr : run c (fun _ => bodyPost m c) (printed (F := F)) = run c (fun _ => bodyPost m c) (bodyB c) := by
    rw [body_eq]; unfold body run; rw [wp_deviceId]
  rw [hr]
  unfold bodyPre atStart
  iintro ⟨⟨⟨⟨%K, Hc⟩, Ht, Hcr, Hp, Hb, HL, Hw, Ho⟩, Hbuf⟩, HO, Hx⟩
  ihave HO := (owes_in m c) $$ HO
  ihave Hx := (stg_in m c) $$ Hx
  iapply (wp_body m K c (Q := fun _ => bodyPost m c)) $$ [Hc Ht Hcr Hp Hb HL Hw Ho Hbuf HO Hx]
  · isplitl [Hc]; · iexact Hc
    unfold bodyIn
    isplitl [Ht]; · iexact Ht
    isplitl [Hcr]; · iexact Hcr
    isplitl [Hp]; · iexact Hp
    isplitl [Hb]; · iexact Hb
    isplitl [HO]; · iexact HO
    isplitl [HL]; · iexact HL
    isplitl [Hbuf]; · iexact Hbuf
    isplitl [Hx]; · iexact Hx
    isplitl [Hw]; · iexact Hw
    iexact Ho
  · unfold bodyOut bodyPost after₁
    iintro ⟨Hz, Hzb, HO, HL, Hbuf, Hx, Hw, Ho⟩
    ihave HO := (owes_out m c) $$ HO
    isplitl [Hz Hzb HL Hbuf Hw Ho]
    · isplitl [Hz]; · iexact Hz
      isplitl [Hzb]; · iexact Hzb
      isplitl [HL]; · iexact HL
      isplitl [Hbuf]; · iexact Hbuf
      isplitl [Hw]; · iexact Hw
      iexact Ho
    isplitl [HO]; · iexact HO
    unfold xAt
    iexists _; isplitr; · ipureintro; rfl
    iexact Hx

/-- The library's body obligation on device `c`. -/
theorem body_obligation (c : Dev nD) : Pipeline.BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (bodyAt0 (F := F) t0_0) (fun _ => bodyPost m c)
  exact sound_body m c

/-! ## The launch -/

omit [FloatOps F] in
theorem ownSemFacts : Pipeline.OwnSemFacts cfg0.spec osem := by decide
theorem share_eq (c : Dev nD) (w : Fin cfg0.W) : (dats m 0 c).share w = fullShare := by unfold Pipeline.Dat.share; split <;> rfl

def u₀ : UU :=
  (initOf (Pipeline.cells cfgs cellOf_inj) (Pipeline.launchToks cfgs cellOf_inj), (initOf allCells allToks, 1))

theorem start_intro (c : Dev nD) (ρ : Dev nD → PrngReg) :
    iprop(Pipeline.unscopedRestP Pipeline.Prefetch.none cfg0.spec c (fun b => m ((c : Thread nD τ).loc b)) ∗ levAts L lv
        ∗ Pipeline.launchCred (fun d => owed d 0) c ∗ prngReg c (ρ c) ∗ granted m c)
      ⊢ |={Set.univ}=> iprop(atStart m c ∗ emp) := by
  rw [Pipeline.unscopedRestP_none, unscopedRest0_eq]
  unfold granted mine
  rw [sep_cells c fun g => atPos ER g 0 ∅ 0]
  iintro ⟨⟨Hw, Ho⟩, Hlev, Hcr, -, ⟨%K, HR, ⟨HB, Hp⟩, Ht, HL⟩⟩
  ihave Hc := (creds (F := F) c) $$ Hcr
  icases Hc with ⟨HcB, Hcr⟩
  imodintro
  unfold atStart
  isplitl
  · isplitl [HR Hlev]
    · iexists K; unfold ctx; isplitl [HR] <;> iassumption
    isplitl [Ht]; · iexact Ht
    isplitl [Hcr]; · iexact Hcr
    isplitl [Hp]; · iexact Hp
    isplitl [HB HcB]
    · isplitl [HcB]; · iexact HcB
      iexact HB
    isplitl [HL]; · iexact HL
    isplitl [Hw]; · iexact Hw
    iexists _; iexact Ho
  · iempintro

theorem phi0_intro (c : Dev nD) :
    iprop(atStart m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(atStart m c ∗ bufs c) from rfl, scopedRest0_eq]
  iintro ⟨Hs, -, Hb⟩
  isplitl [Hs]; · iexact Hs
  unfold bufs; iexact Hb

theorem phi1_exit (c : Dev nD) :
    (dats m 0 c).Φ (Fin.last cfg0.N) ⊢ iprop(atEnd m c ∗ Pipeline.ownSems0 osem c ∗ Pipeline.scopedRest cfg0.spec c) := by
  rw [show (dats m 0 c).Φ (Fin.last cfg0.N) = after₁ m c from rfl, scopedRest0_eq, own_sems]
  unfold after₁ atEnd
  rw [unscoped_sems]
  iintro ⟨Hz, Hzb, HL, Hbuf, Hw, Ho⟩
  isplitl [Hzb Hw Ho]
  · isplitl [Hzb]; · iexact Hzb
    isplitl [Hw] <;> iassumption
  isplitl [HL Hz]
  · isplitl [HL]; · unfold locZ; iexact HL
    iexact Hz
  unfold bufs; iexact Hbuf

theorem waits (c : Dev nD) : (levAts L lv : sProp 𝕄) ⊢ Pipeline.cellsWaits cfgs (dats m) () 0 c :=
  Pipeline.cellsWaits_intro cfgs (dats m) () 0 c fun w s t => by
    have hs : ∃ n, ∃ hn : n < 41, ((cfgs 0).win w).sem s = dsem n hn ∧ lvD n = 0 := ⟨0, by omega, by fin_cases w; fin_cases s; rfl, rfl⟩
    obtain ⟨n, hn, h1, h2⟩ := hs
    rw [h1]
    rcases t with ⟨_ | _, ht⟩
    · exact mayWait_low c n hn 0 h2
    · show _ ⊢ MayWait _ _ () 0
      rw [MayWait_zero]; iintro -; iempintro

/-- What is read of a device's memory at the end. -/
def ends (c : Dev nD) (s : MemSt nD τ sig (Elt F)) : Prop :=
  (s.mem ((c : Thread nD τ).loc main_arg1) = wAll m c ∧ s.mem ((c : Thread nD τ).loc main_v1) = OUT m c)
    ∧ ∀ sm : SemLoc sig, sm.isScoped .tc = false → s.sem ((c.tc : Thread nD τ), sm) = 0

theorem read_end (c : Dev nD) (s' : Phys nD τ sig (Elt F)) :
    iprop(atEnd m c ∗ emp ∗ SI s') ⊢ |={Set.univ}=> iprop(⌜ends m c s'.mem⌝ ∗ SI s') := by
  unfold atEnd
  iintro ⟨⟨Hu, Hw, Ho⟩, -, HSI⟩
  icombine HSI Hw gives %hw
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨⟨Buf.eq_of_forall_mem_univ hw, Buf.eq_of_forall_mem_univ ho⟩, hs⟩
  iexact HSI

set_option maxRecDepth 8000 in
/-- From any memory with zero counters, for any float values: every weakly fair execution of the eight devices ends, with the
    arguments as they were, the result at `OUT m c` on every device `c`, and every semaphore at zero. -/
theorem run_main (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = OUT m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => block_pos0 w) (harr := arr_whole0) (hstage := stage_whole0) (hshare := share_eq m)
    (hdistinct := winFacts0.arr_inj)
    (O₀ := fun d => owed d 0) (howed₀ := fun _ => rfl) (howedN := fun _ => rfl)
    (L := L) (lv := lv) (hL := L_of_ne) (hwaits := waits m)
    (G := dealt m) (G' := granted m) (u₀ := u₀)
    (hu₀ := by
      unfold u₀
      iintro Hu
      ihave H := (ownU_pair _ _) $$ Hu
      icases H with ⟨HP, HX⟩
      ihave H := (own_pair_emb (embR : Emb UX 𝕄) _ _) $$ HX
      icases H with ⟨HX, -⟩
      imod (fund_all m) $$ HX with HG
      imodintro
      isplitl [HP] <;> iassumption)
    (hglob := glob m)
    (hA := fun _ _ => rfl) (hpf := fun _ k => k.elim0)
    (X := atStart m) (Y := atEnd m) (Z := fun _ => iprop(emp))
    (hX := fun c => start_intro m c ρ) (hin := phi0_intro m) (hout := phi1_exit m)
    (QY := ends m)
    (hY := fun c s' => read_end m c s')
    (hQ := fun _ h hs => ⟨fun c => ⟨((h c).1 0).trans ((dats m 0 c).arrAt_in 0 rfl _), (h c).2.2.1.1, (h c).2.2.1.2⟩, sem_eq_zero hs fun c => (h c).2.2.2⟩)

end Cert.KernelIdeal.Body
end
-- ==== Proof.Frames.lean ====
/- Every program's frame: it ends, with its arguments as they were and every semaphore at zero. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Frames

open Idealize.ShloMosaic Idealize.ShloMosaic.TcCoe Idealize.SL.Sem

/-- The kernel over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Body.run_main (F := Ideal) m ρ)

/-- The two programs have the same text, so over machine words they are the same program. -/
theorem defs_same : Cert.Kernel.defs (F := Bits) = Cert.KernelIdeal.defs (F := Bits) := by chain_rfl

/-- The kernel over the extended reals, under the value claim's precondition, which it doesn't need. -/
theorem frame_kernelIdeal_pre [Cert.Pre_finite_inputs_KernelIdeal.Facts] : Cert.quiescent_KernelIdeal_pre_finite_inputs_KernelIdeal :=
  fun m ρ _ => frame_kernelIdeal m ρ trivial

/-- The kernel, by the same run over machine words. -/
theorem frame_kernel : Cert.quiescent_Kernel := fun m ρ _ => by
  rw [defs_same]
  exact (θ_run (Cert.KernelIdeal.defs (F := Bits)) (onTc (τ := Cert.KernelIdeal.τ) (Cert.KernelIdeal.main (F := Bits))) ⟨m, fun _ => 0, ρ⟩).mono
    (fun _ h => ⟨fun c => ⟨(h.1 c).1, (h.1 c).2.1⟩, h.2⟩) (Cert.KernelIdeal.Body.run_main (F := Bits) m ρ)

/-- The reference, a straight-line host program that declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference under the value claim's precondition, which it doesn't need. -/
theorem frame_referenceIdeal_pre [Cert.Pre_finite_inputs_ReferenceIdeal.Facts] : Cert.quiescent_ReferenceIdeal_pre_finite_inputs_ReferenceIdeal :=
  fun m ρ _ => frame_referenceIdeal m ρ trivial

end Cert.Frames
end
-- ==== Proof.Softmax.lean ====
/- The softmax over the extended reals: moving a sum of exponentials from one maximum to a larger one, and dividing by multiplying with the reciprocal. -/
module

public import Idealize.ShloMosaic.PureOps.Ideal.Laws

@[expose] public section

noncomputable section

namespace Cert.Softmax

open Idealize.ShloMosaic

/-- No exponential is negative. -/
theorem exp_nonneg (x : EReal) : 0 ≤ Ideal.exp x := by
  induction x with
  | bot => exact le_refl _
  | top => exact le_top
  | coe r => exact EReal.coe_nonneg.2 (Real.exp_pos r).le

/-- An exponential against one maximum, moved to a larger one. -/
theorem exp_rescale {a b c : EReal} (hab : a ≤ b) (hbc : b ≤ c) : Ideal.exp (a - b) * Ideal.exp (b - c) = Ideal.exp (a - c) := by
  induction c with
  | top => rw [EReal.sub_top, EReal.sub_top]; exact mul_zero _
  | bot =>
    obtain rfl := le_bot_iff.1 hbc
    obtain rfl := le_bot_iff.1 hab
    rw [EReal.bot_sub]; exact mul_zero _
  | coe z =>
    induction b with
    | top => exact absurd hbc (by simp)
    | bot => obtain rfl := le_bot_iff.1 hab; rw [EReal.bot_sub, EReal.bot_sub]; exact mul_zero _
    | coe y =>
      induction a with
      | top => exact absurd hab (by simp)
      | bot => rw [EReal.bot_sub, EReal.bot_sub]; exact zero_mul _
      | coe x =>
        rw [← EReal.coe_sub, ← EReal.coe_sub, ← EReal.coe_sub]
        show ((Real.exp (x - y) : ℝ) : EReal) * ((Real.exp (y - z) : ℝ) : EReal) = ((Real.exp (x - z) : ℝ) : EReal)
        rw [← EReal.coe_mul, ← Real.exp_add]
        congr 2; ring

/-- A sum of nonnegative terms times a factor, term by term. -/
theorem sum_mul_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- A sum of exponentials against one maximum, moved to a larger one. -/
theorem sum_rescale {ι : Type} [Fintype ι] (f : ι → EReal) {b c : EReal} (hb : ∀ i, f i ≤ b) (hbc : b ≤ c) :
    (∑ i, Ideal.exp (f i - b)) * Ideal.exp (b - c) = ∑ i, Ideal.exp (f i - c) := by
  rw [sum_mul_nonneg _ _ (fun i => exp_nonneg _)]
  exact Finset.sum_congr rfl fun i _ => exp_rescale (hb i) hbc

/-- The sum of the exponentials of finite values against their maximum is not zero: the largest value's term is one. -/
theorem sum_exp_ne_zero {ι : Type} [Fintype ι] (f : ι → EReal) (c : EReal) (i₀ : ι) (hf : ∀ i, ∃ r : ℝ, f i = r)
    (hc : ∀ z, c ≤ z ↔ ∀ i, f i ≤ z) : ∑ i, Ideal.exp (f i - c) ≠ 0 := by
  intro h0
  obtain ⟨j, -, hj⟩ := Finset.exists_max_image Finset.univ f ⟨i₀, Finset.mem_univ _⟩
  have hcj : c = f j := le_antisymm ((hc _).2 fun i => hj i (Finset.mem_univ _)) ((hc c).1 le_rfl j)
  obtain ⟨r, hr⟩ := hf j
  have h1 : Ideal.exp (f j - c) = 1 := by
    rw [hcj, hr, ← EReal.coe_sub, sub_self]
    show ((Real.exp 0 : ℝ) : EReal) = 1
    rw [Real.exp_zero]; rfl
  have h2 := Finset.single_le_sum (f := fun i => Ideal.exp (f i - c)) (fun i _ => exp_nonneg _) (Finset.mem_univ j)
  rw [h0] at h2
  exact absurd (h1 ▸ h2) (not_le.2 zero_lt_one)

/-- Multiplying with the reciprocal of a number that is not zero divides by it. -/
theorem mul_recip (x : EReal) {s : EReal} (hs : s ≠ 0) : x * Ideal.div 1 s = Ideal.div x s := by
  rw [Ideal.div, Ideal.div, if_neg hs, if_neg hs, one_mul]

/-- A sum of products of finite numbers is finite. -/
theorem sum_prod_finite {ι : Type} (s : Finset ι) (f g : ι → EReal) (hf : ∀ i, ∃ r : ℝ, f i = r) (hg : ∀ i, ∃ r : ℝ, g i = r) :
    ∃ r : ℝ, ∑ i ∈ s, f i * g i = r := by
  refine Finset.sum_induction _ (fun a => ∃ r : ℝ, a = (r : EReal)) ?_ ⟨0, rfl⟩ ?_
  · rintro _ _ ⟨a, rfl⟩ ⟨b, rfl⟩; exact ⟨a + b, rfl⟩
  · intro i _
    obtain ⟨a, ha⟩ := hf i
    obtain ⟨b, hb⟩ := hg i
    exact ⟨a * b, by rw [ha, hb]; rfl⟩

/-- What is below positive infinity in absolute value is finite. -/
theorem finite_of_abs_lt (x : EReal) (h : max x (-x) < ⊤) : ∃ r : ℝ, x = r := by
  induction x with
  | bot => simp at h
  | top => simp at h
  | coe r => exact ⟨r, rfl⟩

/-- A running maximum is at most what each of its terms is at most. -/
theorem run_le {μ g : ℕ → EReal} (h0 : μ 0 = g 0) (h1 : ∀ i, μ (i + 1) = max (μ i) (g (i + 1))) (n : ℕ) (z : EReal) :
    μ n ≤ z ↔ ∀ i ≤ n, g i ≤ z := by
  induction n with
  | zero => rw [h0]; exact ⟨fun h i hi => by obtain rfl := Nat.le_zero.1 hi; exact h, fun h => h 0 le_rfl⟩
  | succ n ih =>
    rw [h1, max_le_iff, ih]
    constructor
    · rintro ⟨h, h'⟩ i hi
      rcases Nat.lt_or_ge i (n + 1) with hl | hl
      · exact h i (Nat.lt_succ_iff.1 hl)
      · obtain rfl := le_antisymm hi hl; exact h'
    · exact fun h => ⟨fun i hi => h i (Nat.le_succ_of_le hi), h _ le_rfl⟩

/-- A running sum is the sum of its terms. -/
theorem run_sum {σ g : ℕ → EReal} (h0 : σ 0 = g 0) (h1 : ∀ i, σ (i + 1) = σ i + g (i + 1)) (n : ℕ) :
    σ n = ∑ i ∈ Finset.range (n + 1), g i := by
  induction n with
  | zero => simpa using h0
  | succ n ih => rw [h1, ih, Finset.sum_range_succ _ (n + 1)]

end Cert.Softmax
end
-- ==== Proof.Logits.lean ====
/- What the kernel's pieces are over the extended reals, element by element: the products, their maxima, the sums of exponentials, the two halves together, the result. -/
module

public import proofs.«01_k».proof.Proof.Contents
public import proofs.«01_k».proof.Proof.Softmax
public import Idealize.ShloMosaic.Lib.Pointwise

@[expose] public section

noncomputable section

namespace Cert.KernelIdeal.Body

open Idealize.ShloMosaic Idealize.ShloMosaic.TcCoe
open Cert.KernelIdeal Cert.Softmax

/-! ## One chunk -/

/-- The word of negative infinity denotes it. -/
theorem negInf : Ideal.ofBits .f32 0xFF800000#32 = ⊥ := by simp [Ideal.ofBits, Ideal.ieee]

/-- A chunk of logits at an index. -/
theorem lgV_apply (xb : FVec Ideal S512x1024 .bf16) (w : FVec Ideal S1x1024x512 .f32) (r t : Fin 512) :
    lgV xb w (ix3 0 r t) = ∑ k : Fin 1024, xb (ix2 r k) * w (ix3 0 k t) := by
  pointwise [lgV, dotV]

/-- The maxima of the rows of a chunk. -/
theorem rmV_apply (xb : FVec Ideal S512x1024 .bf16) (w : FVec Ideal S1x1024x512 .f32) (r : Fin 512) :
    rmV xb w (ix2 r 0) = Finset.univ.fold max ⊥ fun t : Fin 512 => ∑ k : Fin 1024, xb (ix2 r k) * w (ix3 0 k t) := by
  pointwise [rmV, dotV]
  rw [show Ideal.ofBits FTy.f32 4286578688#32 = ⊥ from negInf]

/-- The sums of the exponentials of a chunk's rows. -/
theorem esV_apply (m : FVec Ideal S512x1 .f32) (l : FVec Ideal S1x512x512 .bf16) (r : Fin 512) :
    esV m l (ix2 r 0) = ∑ t : Fin 512, Ideal.exp (l (ix3 0 r t) - m (ix2 r 0)) := by
  pointwise [esV, exV]

/-- A chunk of results. -/
theorem outV_apply (m s : FVec Ideal S512x1 .f32) (l : FVec Ideal S1x512x512 .bf16) (r t : Fin 512) :
    outV m s l (ix3 0 r t) = Ideal.exp (l (ix3 0 r t) - m (ix2 r 0)) * s (ix2 r 0) := by
  pointwise [outV, exV]

/-- The reciprocal of the two halves' sums, each moved to the larger maximum. -/
theorem rcV_apply (m s m' s' : FVec Ideal S512x1 .f32) (r : Fin 512) :
    rcV (sumV m s m' s') (ix2 r 0) = Ideal.div 1 (s (ix2 r 0) * Ideal.exp (m (ix2 r 0) - max (m (ix2 r 0)) (m' (ix2 r 0)))
      + s' (ix2 r 0) * Ideal.exp (m' (ix2 r 0) - max (m (ix2 r 0)) (m' (ix2 r 0)))) := by
  pointwise [sumV, rcV]

/-- A column stays itself. -/
theorem colV_apply (m : FVec Ideal S512x1 .f32) (r : Fin 512) : colV m (ix2 r 0) = m (ix2 r 0) := by
  pointwise [colV]

/-! ## The columns -/

/-- Column `t` of chunk `n` of half `h`. -/
def col (h : Fin 2) (p : Fin 16 × Fin 512) : Fin 16384 := ⟨8192 * h.val + 512 * p.1.val + p.2.val, by omega⟩

/-- Every column is one column of one chunk of one half. -/
def colEquiv : Fin 2 × (Fin 16 × Fin 512) ≃ Fin 16384 where
  toFun q := col q.1 q.2
  invFun j := (⟨j.val / 8192, by omega⟩, ⟨j.val / 512 % 16, by omega⟩, ⟨j.val % 512, by omega⟩)
  left_inv := by
    rintro ⟨h, n, t⟩
    refine Prod.ext (Fin.ext ?_) (Prod.ext (Fin.ext ?_) (Fin.ext ?_)) <;> simp only [col] <;> omega
  right_inv j := Fin.ext (by simp only [col]; omega)

/-- The half of the columns that a device holds. -/
def hf (c : Dev nD) : Fin 2 := ⟨half c, Nat.mod_lt _ (by decide)⟩

/-- A device and its column neighbour hold the two halves. -/
theorem hf_cases (c : Dev nD) : hf c = 0 ∧ hf (yp c) = 1 ∨ hf c = 1 ∧ hf (yp c) = 0 := by revert c; decide

/-- The device that a chunk of the other half comes from holds that half. -/
theorem hf_org (c : Dev nD) (n : Fin 16) : hf (org c n) = hf (yp c) := by revert c n; decide

/-- A sum over all columns, by halves. -/
theorem sum_cols (c : Dev nD) (f : Fin 16384 → EReal) : ∑ j, f j = ∑ p, f (col (hf c) p) + ∑ p, f (col (hf (yp c)) p) := by
  rw [← Equiv.sum_comp colEquiv, Fintype.sum_prod_type, Fin.sum_univ_two]
  rcases hf_cases c with ⟨h, h'⟩ | ⟨h, h'⟩ <;> rw [h, h']
  · rfl
  · exact add_comm _ _

/-- What holds of every column holds of every column of the two halves. -/
theorem forall_cols (c : Dev nD) (q : Fin 16384 → Prop) : (∀ j, q j) ↔ (∀ p, q (col (hf c) p)) ∧ ∀ p, q (col (hf (yp c)) p) := by
  refine ⟨fun h => ⟨fun p => h _, fun p => h _⟩, fun h j => ?_⟩
  rw [← colEquiv.apply_symm_apply j]
  generalize colEquiv.symm j = a
  obtain ⟨a, p⟩ := a
  show q (col a p)
  rcases hf_cases c with ⟨e, e'⟩ | ⟨e, e'⟩ <;> rw [e, e'] at h <;>
    (fin_cases a <;> first | exact h.1 p | exact h.2 p)

/-! ## A device's statistics -/

variable (m : (ℓ : Loc nD τ sig) → Buf (Elt Ideal) ℓ) (L : Fin 512 → Fin 16384 → EReal)

/-- The kernel's chunks of products, and their maxima, are those of one matrix of logits. -/
structure Chunks : Prop where
  /-- The products. -/
  lg : ∀ c n r t, LGv m c n (ix3 0 r t) = L r (col (hf c) (n, t))
  /-- The maxima of their rows. -/
  rm : ∀ c n r, RMv m c n (ix2 r 0) = Finset.univ.fold max ⊥ fun t : Fin 512 => L r (col (hf c) (n, t))

variable {m L} (H : Chunks m L)
include H

/-- A device's maximum is the least bound of its half of the row. -/
theorem mOwn_le (c : Dev nD) (r : Fin 512) (z : EReal) : mOwn m c (ix2 r 0) ≤ z ↔ ∀ p, L r (col (hf c) p) ≤ z := by
  have h := run_le (μ := fun i => mRun m c i (ix2 r 0)) (g := fun i => RMv m c (perm ⟨i % 16, Nat.mod_lt _ (by decide)⟩) (ix2 r 0))
    rfl (fun i => rfl) 15 z
  refine h.trans ?_
  have hk : ∀ n : Fin 16, RMv m c n (ix2 r 0) ≤ z ↔ ∀ t, L r (col (hf c) (n, t)) ≤ z := fun n => by
    rw [H.rm, Finset.fold_max_le]; simp
  constructor
  · rintro h ⟨n, t⟩
    have hn : ∀ n : Fin 16, ∃ i : Fin 16, perm i = n := by decide
    obtain ⟨i, rfl⟩ := hn n
    have := h i.val (by omega)
    simp only [Nat.mod_eq_of_lt i.isLt] at this
    exact (hk _).1 this t
  · exact fun h i _ => (hk _).2 fun t => h _

/-- A device's sum is that of its half of the row. -/
theorem sOwn_eq (c : Dev nD) (r : Fin 512) :
    sOwn m c (ix2 r 0) = ∑ p, Ideal.exp (L r (col (hf c) p) - mOwn m c (ix2 r 0)) := by
  have h := run_sum (σ := fun i => sRun m c i (ix2 r 0))
    (g := fun i => esV (mOwn m c) (LGv m c ⟨i % 16, Nat.mod_lt _ (by decide)⟩) (ix2 r 0)) rfl (fun i => rfl) 15
  refine h.trans ?_
  rw [Finset.sum_range, Fintype.sum_prod_type]
  refine Finset.sum_congr rfl fun n _ => ?_
  simp only [Nat.mod_eq_of_lt n.isLt]
  rw [esV_apply]
  exact Finset.sum_congr rfl fun t _ => by rw [H.lg]

/-- The two halves' maximum is the least bound of the whole row. -/
theorem mTot_le (c : Dev nD) (r : Fin 512) (z : EReal) : mTot m c (ix2 r 0) ≤ z ↔ ∀ j, L r j ≤ z := by
  have h : mTot m c (ix2 r 0) = max (mOwn m c (ix2 r 0)) (mOwn m (yp c) (ix2 r 0)) := by
    show max _ _ = _
    rw [colV_apply]
  rw [h, max_le_iff, mOwn_le H, mOwn_le H, forall_cols c]

/-- The two halves' reciprocal is that of the sum of the whole row's exponentials. -/
theorem rTot_eq (c : Dev nD) (r : Fin 512) :
    rTot m c (ix2 r 0) = Ideal.div 1 (∑ j, Ideal.exp (L r j - mTot m c (ix2 r 0))) := by
  have h : mTot m c (ix2 r 0) = max (mOwn m c (ix2 r 0)) (mOwn m (yp c) (ix2 r 0)) := by
    show max _ _ = _
    rw [colV_apply]
  rw [rTot, rcV_apply, colV_apply, colV_apply, sOwn_eq H, sOwn_eq H, ← h, sum_cols c,
    sum_rescale _ (fun p => (mOwn_le H c r _).1 le_rfl p) (h ▸ le_max_left _ _),
    sum_rescale _ (fun p => (mOwn_le H (yp c) r _).1 le_rfl p) (h ▸ le_max_right _ _)]

/-! ## The result -/

/-- A chunk of the result at an index. -/
theorem outT_apply (c : Dev nD) (k : Fin 32) (r t : Fin 512) (j : Fin 16384) (hj : j.val = 512 * k.val + t.val) :
    outT m c k (ix3 0 r t) = Ideal.exp (L r j - mTot m c (ix2 r 0)) * rTot m c (ix2 r 0) := by
  rw [outT, outV_apply]
  congr 3
  have hh : half c < 2 := (hf c).isLt
  split
  · next e =>
    rw [H.lg]
    congr 1
    refine Fin.ext ?_
    simp only [col, hf]
    omega
  · next e =>
    rw [CMv, H.lg, hf_org]
    congr 1
    refine Fin.ext ?_
    have hy : (hf (yp c)).val = 1 - half c := by
      rcases hf_cases c with ⟨h, h'⟩ | ⟨h, h'⟩ <;> rw [h'] <;> have := congrArg Fin.val h <;> simp only [hf] at this <;> simp [this]
    simp only [col, hy]
    have := k.isLt
    omega

/-- Every device's result is the softmax of the whole row, if no row's sum is zero. -/
theorem out_apply (c : Dev nD) (r : Fin 512) (j : Fin 16384) (M : EReal) (hM : ∀ z, M ≤ z ↔ ∀ j, L r j ≤ z)
    (hS : ∑ j, Ideal.exp (L r j - M) ≠ 0) :
    OUT m c (ix2 r j) = Ideal.div (Ideal.exp (L r j - M)) (∑ j, Ideal.exp (L r j - M)) := by
  have hm : mTot m c (ix2 r 0) = M := eq_of_forall_ge_iff fun z => (mTot_le H c r z).trans (hM z).symm
  have h := outT_apply H c ⟨j.val / 512, by omega⟩ r ⟨j.val % 512, by omega⟩ j (by show j.val = 512 * (j.val / 512) + j.val % 512; omega)
  rw [rTot_eq H, hm, mul_recip _ hS] at h
  exact h

end Cert.KernelIdeal.Body
end
-- ==== Proof.RefValue.lean ====
/- The reference over the extended reals, element by element: the softmax of the rows of the product. -/
module

public import proofs.«01_k».proof.Proof.Gen.ReferenceIdeal.Run
public import Idealize.ShloMosaic.Lib.Pointwise

@[expose] public section

noncomputable section

namespace Cert.Value

open Idealize.ShloMosaic
open Cert.ReferenceIdeal Cert.ReferenceIdeal.Gen

/-- The logits: the product of the two whole arguments. -/
def logits (X : FVec Ideal ⟨2, ![512, 1024]⟩ .f32) (W : FVec Ideal ⟨2, ![1024, 16384]⟩ .f32) (r : Fin 512) (j : Fin 16384) : EReal :=
  ∑ k : Fin 1024, X (ix2 r k) * W (ix2 k j)

/-- The greatest logit of a row. -/
def top (X : FVec Ideal ⟨2, ![512, 1024]⟩ .f32) (W : FVec Ideal ⟨2, ![1024, 16384]⟩ .f32) (r : Fin 512) : EReal :=
  Finset.univ.fold max ⊥ fun j => logits X W r j

/-- It is the least bound of the row. -/
theorem top_le (X : FVec Ideal ⟨2, ![512, 1024]⟩ .f32) (W : FVec Ideal ⟨2, ![1024, 16384]⟩ .f32) (r : Fin 512) (z : EReal) :
    top X W r ≤ z ↔ ∀ j, logits X W r j ≤ z := by
  rw [top, Finset.fold_max_le]; simp

/-- What the reference computes from the two whole arguments. -/
def refOut (X : FVec Ideal ⟨2, ![512, 1024]⟩ .f32) (W : FVec Ideal ⟨2, ![1024, 16384]⟩ .f32) : FVec Ideal ⟨2, ![512, 16384]⟩ .bf16 :=
  truncf .bf16 (Host.divf (Host.exp (subf (Host.dotGeneral dot_S512x1024_S1024x16384_S512x16384_1_0_0_1_n_n none X W) (broadcastInDim S512x16384 ![0, 1] bcast_S512x1_S512x16384_0_1 (broadcastInDim S512x1 ![0] bcast_S512_S512x1_0 (Host.reduce FloatOps.maximumf (Host.dotGeneral dot_S512x1024_S1024x16384_S512x16384_1_0_0_1_n_n none X W) (constant S_ .f32 0xFF800000#32) reducesTo_S512x16384_S512_d1 h_S_))))) (broadcastInDim S512x16384 ![0, 1] bcast_S512x1_S512x16384_0_1 (broadcastInDim S512x1 ![0] bcast_S512_S512x1_0 (Host.reduceAdd (Host.exp (subf (Host.dotGeneral dot_S512x1024_S1024x16384_S512x16384_1_0_0_1_n_n none X W) (broadcastInDim S512x16384 ![0, 1] bcast_S512x1_S512x16384_0_1 (broadcastInDim S512x1 ![0] bcast_S512_S512x1_0 (Host.reduce FloatOps.maximumf (Host.dotGeneral dot_S512x1024_S1024x16384_S512x16384_1_0_0_1_n_n none X W) (constant S_ .f32 0xFF800000#32) reducesTo_S512x16384_S512_d1 h_S_))))) (constant S_ .f32 0x00000000#32) reducesTo_S512x16384_S512_d1 h_S_)))) bitsLt_bf16_f32

/-- The reference at an index: the softmax of the row. -/
theorem refOut_apply (X : FVec Ideal ⟨2, ![512, 1024]⟩ .f32) (W : FVec Ideal ⟨2, ![1024, 16384]⟩ .f32) (r : Fin 512) (j : Fin 16384) :
    refOut X W (ix2 r j) = Ideal.div (Ideal.exp (logits X W r j - top X W r)) (∑ j, Ideal.exp (logits X W r j - top X W r)) := by
  pointwise [refOut, logits, top]
  simp only [show Ideal.ofBits FTy.f32 4286578688#32 = ⊥ by simp [Ideal.ofBits, Ideal.ieee]]

end Cert.Value
end
-- ==== Proof.Value.lean ====
/- The value claim: over the extended reals every device's result is the reference's, for finite arguments. -/
module

public import proofs.«01_k».proof.Defs
public import proofs.«01_k».proof.Proof.Run
public import proofs.«01_k».proof.Proof.Logits
public import proofs.«01_k».proof.Proof.RefValue
public import Idealize.ShloMosaic.Lib.ReduceAll
public import Idealize.ShloMosaic.Lib.Layout

@[expose] public section

noncomputable section

/-- The side conditions of the precondition's operations, at the kernel's arguments. -/
instance Cert.Pre_finite_inputs_KernelIdeal.facts : Cert.Pre_finite_inputs_KernelIdeal.Facts where
  bcast_S_S512x1024 := by decide
  reducesTo_S512x1024_S_d0_1 := by decide
  h_S_ := by decide
  bcast_S_S1024x8192 := by decide
  reducesTo_S1024x8192_S_d0_1 := by decide

/-- The same at the reference's arguments. -/
instance Cert.Pre_finite_inputs_ReferenceIdeal.facts : Cert.Pre_finite_inputs_ReferenceIdeal.Facts where
  bcast_S_S512x1024 := by decide
  reducesTo_S512x1024_S_d0_1 := by decide
  h_S_ := by decide
  bcast_S_S1024x16384 := by decide
  reducesTo_S1024x16384_S_d0_1 := by decide

namespace Cert.Value

open Idealize.ShloMosaic Idealize.ShloMosaic.TcCoe Idealize.SL.Sem
open Cert.KernelIdeal Cert.KernelIdeal.Body Cert.Softmax

/-! ## The arguments -/

/-- The staged block is the whole first argument. -/
theorem xstg_eq (m : (ℓ : Loc nD τ sig) → Buf (Elt Ideal) ℓ) (c : Dev nD) (i : S512x1024.Idx) :
    xstg m c i = m ((c : Thread nD τ).loc main_arg0) i := by
  show m ((c : Thread nD τ).loc main_arg0) _ = _
  congr 1
  funext a
  refine Fin.ext ?_
  fin_cases a <;> exact (Pipeline.Window.rect_emb_val _ _ _ _).trans (by simp; rfl)

/-- A comparison with positive infinity that holds makes its left side's number finite. -/
theorem finite_of_olt (x : EReal) (h : Ideal.cmp .olt (max x (-x)) (Ideal.ofBits .f32 0x7F800000#32) = 1#1) : ∃ r : ℝ, x = r := by
  refine finite_of_abs_lt x ?_
  rw [show Ideal.ofBits .f32 0x7F800000#32 = ⊤ by simp [Ideal.ofBits, Ideal.ieee]] at h
  by_contra hn
  rw [Ideal.cmp] at h
  simp [hn] at h

/-- The precondition says that both arguments are finite. -/
theorem finite_of_pre (x : FVec Ideal S512x1024 .f32) (w : FVec Ideal S1024x8192 .f32)
    (h : Cert.Pre_finite_inputs_KernelIdeal.fn (F := Ideal) x w = fun _ => 1#1) :
    (∀ i, ∃ r : ℝ, x i = r) ∧ ∀ i, ∃ r : ℝ, w i = r := by
  have h0 := congrFun h ix0
  dsimp only [Cert.Pre_finite_inputs_KernelIdeal.fn] at h0
  obtain ⟨h1, h2⟩ := IntOp.andi_eq_one.1 h0
  constructor <;> intro i
  · exact finite_of_olt _ (Host.reduce_andi_all _ _ _ _ _ h1 i)
  · exact finite_of_olt _ (Host.reduce_andi_all _ _ _ _ _ h2 i)

/-! ## The result -/

section
variable (m : (ℓ : Loc nD τ sig) → Buf (Elt Ideal) ℓ)
  (X : FVec Ideal ⟨2, ![512, 1024]⟩ .f32) (W : FVec Ideal ⟨2, ![1024, 16384]⟩ .f32)
  (hX : ∀ c : Dev nD, m ((c : Thread nD τ).loc main_arg0) = X)
  (hW : ∀ c : Dev nD, m ((c : Thread nD τ).loc main_arg1)
    = Layout.blockN ⟨2, ![1024, 8192]⟩ ⟨2, ![1024, 16384]⟩ (Layout.meshBlock [2, 2, 2] ![[], [1]] c) W)

include hX in
/-- The staged rows, as a matrix. -/
theorem xb_apply (c : Dev nD) (r : Fin 512) (k : Fin 1024) : xb m c (ix2 r k) = X (ix2 r k) := by
  have h : xb m c (ix2 r k) = xstg m c (ix2 r k) := by pointwise [xb, xB]
  rw [h, xstg_eq, hX]

include hW in
/-- Chunk `n` of a device's weights: these columns of the whole. -/
theorem wV_apply (c : Dev nD) (n : Fin 16) (k : Fin 1024) (t : Fin 512) :
    wV m c n (ix3 0 k t) = W (ix2 k (col (hf c) (n, t))) := by
  show m ((c : Thread nD τ).loc main_arg1) _ = _
  rw [hW, Layout.blockN_apply]
  congr 1
  funext a
  refine Fin.ext ?_
  rw [Layout.TilesN.idx_val]
  fin_cases a
  · show 0 * _ + k.val = k.val
    omega
  · have hc : Layout.meshLin [2, 2, 2] c.val [1] = half c := by revert c; decide
    show Layout.meshLin [2, 2, 2] c.val [1] * 8192 + (512 * n.val + t.val) = 8192 * half c + 512 * n.val + t.val
    rw [hc]; omega

include hX hW in
/-- The kernel's chunks are those of the whole product. -/
theorem chunks : Chunks m (logits X W) where
  lg c n r t := by
    rw [LGv, lgV_apply]
    exact Finset.sum_congr rfl fun k _ => by rw [xb_apply m X hX, wV_apply m W hW]
  rm c n r := by
    rw [RMv, rmV_apply]
    refine Finset.fold_congr fun t _ => ?_
    exact Finset.sum_congr rfl fun k _ => by rw [xb_apply m X hX, wV_apply m W hW]

include hX hW in
/-- Every device's result is the reference's, for finite arguments. -/
theorem out_eq_refOut (hx : ∀ i, ∃ r : ℝ, X i = r) (hw : ∀ (c : Dev nD) i, ∃ r : ℝ, m ((c : Thread nD τ).loc main_arg1) i = (r : EReal)) (c : Dev nD) :
    OUT m c = refOut X W := by
  have hWf : ∀ k j, ∃ r : ℝ, W (ix2 k j) = r := fun k => by
    refine (forall_cols c (fun j => ∃ r : ℝ, W (ix2 k j) = r)).2 ⟨fun p => ?_, fun p => ?_⟩ <;>
      · rw [← wV_apply m W hW]; exact hw _ _
  have hL : ∀ r j, ∃ y : ℝ, logits X W r j = y := fun r j => sum_prod_finite _ _ _ (fun k => hx _) (fun k => hWf k j)
  funext i
  obtain ⟨r, j, rfl⟩ : ∃ (r : Fin 512) (j : Fin 16384), i = ix2 r j :=
    ⟨i 0, i 1, funext fun a => by fin_cases a <;> rfl⟩
  exact (out_apply (chunks m X W hX hW) c r j (top X W r) (top_le X W r)
    (sum_exp_ne_zero _ _ 0 (hL r) (top_le X W r))).trans (refOut_apply X W r j).symm
end

/-- The value claim. -/
theorem algebraic : Cert.algebraic_KernelIdeal_ReferenceIdeal_pre_finite_inputs_KernelIdeal := fun m g m' g' hpre hin => by
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ?_) (run_main (F := Ideal) m g)
    obtain ⟨h0, h1, h2⟩ := h.1 c
    refine ⟨h2.trans ?_, h0, h1⟩
    refine out_eq_refOut m _ _ (fun c => (hin c).1) (fun c => (hin c).2) ?_ (fun c => (finite_of_pre _ _ (hpre c)).2) c
    have := (finite_of_pre _ _ (hpre c)).1
    rw [(hin c).1] at this
    exact this
  · exact (θ_run Cert.ReferenceIdeal.defs _ _).mono (fun r h => h 0) (Cert.ReferenceIdeal.Value.run (F := Ideal) m' g')

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Pre_finite_inputs_KernelIdeal.facts, Cert.Pre_finite_inputs_ReferenceIdeal.facts, by
  exact ⟨Cert.Frames.frame_kernel, Cert.Frames.frame_kernelIdeal, Cert.Frames.frame_kernelIdeal_pre,
    Cert.Frames.frame_referenceIdeal, Cert.Frames.frame_referenceIdeal_pre, trivial, Cert.Value.algebraic⟩⟩

end Cert.Proof

end
